-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_nonnegative [hPre_nonnegative : Cert.Pre_nonnegative.Facts] (m : (ℓ : Loc Cert.UpIdeal.nD Cert.UpIdeal.τ Cert.UpIdeal.sig) → Buf (Elt Ideal) ℓ) : Prop :=
  ∀ c : Dev Cert.UpIdeal.nD,
    (Cert.Pre_nonnegative.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3))) = (fun _ => 1#1)

def Pre_RefUpIdeal (m : (ℓ : Loc Cert.RefUpIdeal.nD Cert.RefUpIdeal.τ Cert.RefUpIdeal.sig) → Buf (Elt Ideal) ℓ) : Prop :=
  True

def Pre_RefUpIdeal_nonnegative [hPre_nonnegative : Cert.Pre_nonnegative.Facts] (m : (ℓ : Loc Cert.RefUpIdeal.nD Cert.RefUpIdeal.τ Cert.RefUpIdeal.sig) → Buf (Elt Ideal) ℓ) : Prop :=
  ∀ c : Dev Cert.RefUpIdeal.nD,
    (Cert.Pre_nonnegative.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_nonnegative_merge [hPre_nonnegative_merge : Cert.Pre_nonnegative_merge.Facts] (m : (ℓ : Loc Cert.MergeIdeal.nD Cert.MergeIdeal.τ Cert.MergeIdeal.sig) → Buf (Elt Ideal) ℓ) : Prop :=
  ∀ c : Dev Cert.MergeIdeal.nD,
    (Cert.Pre_nonnegative_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6))) = (fun _ => 1#1)

def Pre_RefMergeIdeal (m : (ℓ : Loc Cert.RefMergeIdeal.nD Cert.RefMergeIdeal.τ Cert.RefMergeIdeal.sig) → Buf (Elt Ideal) ℓ) : Prop :=
  True

def Pre_RefMergeIdeal_nonnegative_merge [hPre_nonnegative_merge : Cert.Pre_nonnegative_merge.Facts] (m : (ℓ : Loc Cert.RefMergeIdeal.nD Cert.RefMergeIdeal.τ Cert.RefMergeIdeal.sig) → Buf (Elt Ideal) ℓ) : Prop :=
  ∀ c : Dev Cert.RefMergeIdeal.nD,
    (Cert.Pre_nonnegative_merge.fn (F := Ideal) (m ((c.tc : Thread Cert.RefMergeIdeal.nD Cert.RefMergeIdeal.τ).loc Cert.RefMergeIdeal.main_arg0)) (m ((c.tc : Thread Cert.RefMergeIdeal.nD Cert.RefMergeIdeal.τ).loc Cert.RefMergeIdeal.main_arg1)) (m ((c.tc : Thread Cert.RefMergeIdeal.nD Cert.RefMergeIdeal.τ).loc Cert.RefMergeIdeal.main_arg2)) (m ((c.tc : Thread Cert.RefMergeIdeal.nD Cert.RefMergeIdeal.τ).loc Cert.RefMergeIdeal.main_arg3)) (m ((c.tc : Thread Cert.RefMergeIdeal.nD Cert.RefMergeIdeal.τ).loc Cert.RefMergeIdeal.main_arg4)) (m ((c.tc : Thread Cert.RefMergeIdeal.nD Cert.RefMergeIdeal.τ).loc Cert.RefMergeIdeal.main_arg5)) (m ((c.tc : Thread Cert.RefMergeIdeal.nD Cert.RefMergeIdeal.τ).loc Cert.RefMergeIdeal.main_arg6))) = (fun _ => 1#1)

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_RefCastIdeal (m : (ℓ : Loc Cert.RefCastIdeal.nD Cert.RefCastIdeal.τ Cert.RefCastIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_RefNormSIdeal (m : (ℓ : Loc Cert.RefNormSIdeal.nD Cert.RefNormSIdeal.τ Cert.RefNormSIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpIdeal_pre_nonnegative [hUpIdeal : Cert.UpIdeal.Facts] [hPre_nonnegative : Cert.Pre_nonnegative.Facts] : Prop :=
  ∀ (m : (ℓ : Loc Cert.UpIdeal.nD Cert.UpIdeal.τ Cert.UpIdeal.sig) → Buf (Elt Ideal) ℓ) (g : Dev Cert.UpIdeal.nD → PrngReg), Pre_UpIdeal_nonnegative m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3))
      ∧ r.2.sem = fun _ => 0)

def quiescent_RefUpIdeal_pre_nonnegative [hRefUpIdeal : Cert.RefUpIdeal.Facts] [hPre_nonnegative : Cert.Pre_nonnegative.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal_nonnegative m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeIdeal_pre_nonnegative_merge [hMergeIdeal : Cert.MergeIdeal.Facts] [hPre_nonnegative_merge : Cert.Pre_nonnegative_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_nonnegative_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6))
      ∧ r.2.sem = fun _ => 0)

def quiescent_RefMergeIdeal_pre_nonnegative_merge [hRefMergeIdeal : Cert.RefMergeIdeal.Facts] [hPre_nonnegative_merge : Cert.Pre_nonnegative_merge.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal_nonnegative_merge m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_RefCastIdeal [hRefCastIdeal : Cert.RefCastIdeal.Facts] : Prop :=
  ∀ (m : (ℓ : Loc Cert.RefCastIdeal.nD Cert.RefCastIdeal.τ Cert.RefCastIdeal.sig) → Buf (Elt Ideal) ℓ) (g : Dev Cert.RefCastIdeal.nD → PrngReg), Pre_RefCastIdeal m →
    θ_run (Cert.RefCastIdeal.defs (F := Ideal)) (onTc (τ := Cert.RefCastIdeal.τ) (Cert.RefCastIdeal.main (F := Ideal))) ⟨m, fun _ => 0, g⟩ (fun r => (∀ c : Dev Cert.RefCastIdeal.nD,
      r.2.mem ((c.tc : Thread Cert.RefCastIdeal.nD Cert.RefCastIdeal.τ).loc Cert.RefCastIdeal.main_arg0) = m ((c.tc : Thread Cert.RefCastIdeal.nD Cert.RefCastIdeal.τ).loc Cert.RefCastIdeal.main_arg0))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_RefNormSIdeal [hRefNormSIdeal : Cert.RefNormSIdeal.Facts] : Prop :=
  ∀ (m : (ℓ : Loc Cert.RefNormSIdeal.nD Cert.RefNormSIdeal.τ Cert.RefNormSIdeal.sig) → Buf (Elt Ideal) ℓ) (g : Dev Cert.RefNormSIdeal.nD → PrngReg), Pre_RefNormSIdeal m →
    θ_run (Cert.RefNormSIdeal.defs (F := Ideal)) (onTc (τ := Cert.RefNormSIdeal.τ) (Cert.RefNormSIdeal.main (F := Ideal))) ⟨m, fun _ => 0, g⟩ (fun r => (∀ c : Dev Cert.RefNormSIdeal.nD,
      r.2.mem ((c.tc : Thread Cert.RefNormSIdeal.nD Cert.RefNormSIdeal.τ).loc Cert.RefNormSIdeal.main_arg0) = m ((c.tc : Thread Cert.RefNormSIdeal.nD Cert.RefNormSIdeal.τ).loc Cert.RefNormSIdeal.main_arg0)
      ∧ r.2.mem ((c.tc : Thread Cert.RefNormSIdeal.nD Cert.RefNormSIdeal.τ).loc Cert.RefNormSIdeal.main_arg1) = m ((c.tc : Thread Cert.RefNormSIdeal.nD Cert.RefNormSIdeal.τ).loc Cert.RefNormSIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 ((((Real.sqrt 128) * (Real.log 2))⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_RefUpIdeal_pre_nonnegative [hUpIdeal : Cert.UpIdeal.Facts] [hRefUpIdeal : Cert.RefUpIdeal.Facts] [hPre_nonnegative : Cert.Pre_nonnegative.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal_nonnegative m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)
      ∧ m' ((c.tc : Thread Cert.RefUpIdeal.nD Cert.RefUpIdeal.τ).loc Cert.RefUpIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v16) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)) (v2 : (c : Dev Cert.DownIdeal.nD) → Buf (Elt Ideal) ((c.tc : Thread Cert.DownIdeal.nD Cert.DownIdeal.τ).loc Cert.DownIdeal.main_v2_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_v2_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v6) = v0 c
          ∧ r.2.mem ((c.tc : Thread Cert.RefDownIdeal.nD Cert.RefDownIdeal.τ).loc Cert.RefDownIdeal.main_v10) = v1 c
          ∧ r.2.mem ((c.tc : Thread Cert.RefDownIdeal.nD Cert.RefDownIdeal.τ).loc Cert.RefDownIdeal.main_v13) = v2 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3))

def preserves_Merge_MergeIdeal : Prop :=
  True

def algebraic_MergeIdeal_RefMergeIdeal_pre_nonnegative_merge [hMergeIdeal : Cert.MergeIdeal.Facts] [hRefMergeIdeal : Cert.RefMergeIdeal.Facts] [hPre_nonnegative_merge : Cert.Pre_nonnegative_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal_nonnegative_merge m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v41) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6))

def preserves_Cast_CastIdeal : Prop :=
  True

def algebraic_CastIdeal_RefCastIdeal [hCastIdeal : Cert.CastIdeal.Facts] [hRefCastIdeal : Cert.RefCastIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.RefCastIdeal.nD Cert.RefCastIdeal.τ Cert.RefCastIdeal.sig) → Buf (Elt Ideal) ℓ) (g' : Dev Cert.RefCastIdeal.nD → PrngReg), Pre_CastIdeal m →
    (∀ c : Dev Cert.CastIdeal.nD,
      m' ((c.tc : Thread Cert.RefCastIdeal.nD Cert.RefCastIdeal.τ).loc Cert.RefCastIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v1)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v1) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.RefCastIdeal.defs (F := Ideal)) (onTc (τ := Cert.RefCastIdeal.τ) (Cert.RefCastIdeal.main (F := Ideal))) ⟨m', fun _ => 0, g'⟩ (fun r => ∀ c : Dev Cert.RefCastIdeal.nD,
          r.2.mem ((c.tc : Thread Cert.RefCastIdeal.nD Cert.RefCastIdeal.τ).loc Cert.RefCastIdeal.main_v4) = v0 c
          ∧ r.2.mem ((c.tc : Thread Cert.RefCastIdeal.nD Cert.RefCastIdeal.τ).loc Cert.RefCastIdeal.main_arg0) = m' ((c.tc : Thread Cert.RefCastIdeal.nD Cert.RefCastIdeal.τ).loc Cert.RefCastIdeal.main_arg0))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v13) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1))

def preserves_NormS_NormSIdeal : Prop :=
  True

def algebraic_NormSIdeal_RefNormSIdeal [hNormSIdeal : Cert.NormSIdeal.Facts] [hRefNormSIdeal : Cert.RefNormSIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.RefNormSIdeal.nD Cert.RefNormSIdeal.τ Cert.RefNormSIdeal.sig) → Buf (Elt Ideal) ℓ) (g' : Dev Cert.RefNormSIdeal.nD → PrngReg), Pre_NormSIdeal m →
    (∀ c : Dev Cert.NormSIdeal.nD,
      m' ((c.tc : Thread Cert.RefNormSIdeal.nD Cert.RefNormSIdeal.τ).loc Cert.RefNormSIdeal.main_arg0) = m ((c.tc : Thread Cert.NormSIdeal.nD Cert.NormSIdeal.τ).loc Cert.NormSIdeal.main_arg0)
      ∧ m' ((c.tc : Thread Cert.RefNormSIdeal.nD Cert.RefNormSIdeal.τ).loc Cert.RefNormSIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.RefNormSIdeal.defs (F := Ideal)) (onTc (τ := Cert.RefNormSIdeal.τ) (Cert.RefNormSIdeal.main (F := Ideal))) ⟨m', fun _ => 0, g'⟩ (fun r => ∀ c : Dev Cert.RefNormSIdeal.nD,
          r.2.mem ((c.tc : Thread Cert.RefNormSIdeal.nD Cert.RefNormSIdeal.τ).loc Cert.RefNormSIdeal.main_v13) = v0 c
          ∧ r.2.mem ((c.tc : Thread Cert.RefNormSIdeal.nD Cert.RefNormSIdeal.τ).loc Cert.RefNormSIdeal.main_arg0) = m' ((c.tc : Thread Cert.RefNormSIdeal.nD Cert.RefNormSIdeal.τ).loc Cert.RefNormSIdeal.main_arg0)
          ∧ r.2.mem ((c.tc : Thread Cert.RefNormSIdeal.nD Cert.RefNormSIdeal.τ).loc Cert.RefNormSIdeal.main_arg1) = m' ((c.tc : Thread Cert.RefNormSIdeal.nD Cert.RefNormSIdeal.τ).loc Cert.RefNormSIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hMerge : Cert.Merge.Facts) (hMergeIdeal : Cert.MergeIdeal.Facts) (hRefMergeIdeal : Cert.RefMergeIdeal.Facts) (hCast : Cert.Cast.Facts) (hCastIdeal : Cert.CastIdeal.Facts) (hRefCastIdeal : Cert.RefCastIdeal.Facts) (hNorm : Cert.Norm.Facts) (hNormIdeal : Cert.NormIdeal.Facts) (hRefNormIdeal : Cert.RefNormIdeal.Facts) (hNormS : Cert.NormS.Facts) (hNormSIdeal : Cert.NormSIdeal.Facts) (hRefNormSIdeal : Cert.RefNormSIdeal.Facts) (hPre_finite : Cert.Pre_finite.Facts) (hPre_nonnegative : Cert.Pre_nonnegative.Facts) (hPre_nonnegative_merge : Cert.Pre_nonnegative_merge.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpIdeal_pre_nonnegative (hUpIdeal := hUpIdeal) (hPre_nonnegative := hPre_nonnegative)
    ∧ quiescent_RefUpIdeal (hRefUpIdeal := hRefUpIdeal)
    ∧ quiescent_RefUpIdeal_pre_nonnegative (hRefUpIdeal := hRefUpIdeal) (hPre_nonnegative := hPre_nonnegative)
    ∧ quiescent_Down (hDown := hDown)
    ∧ quiescent_DownIdeal (hDownIdeal := hDownIdeal)
    ∧ quiescent_RefDownIdeal (hRefDownIdeal := hRefDownIdeal)
    ∧ quiescent_Merge (hMerge := hMerge)
    ∧ quiescent_MergeIdeal (hMergeIdeal := hMergeIdeal)
    ∧ quiescent_MergeIdeal_pre_nonnegative_merge (hMergeIdeal := hMergeIdeal) (hPre_nonnegative_merge := hPre_nonnegative_merge)
    ∧ quiescent_RefMergeIdeal (hRefMergeIdeal := hRefMergeIdeal)
    ∧ quiescent_RefMergeIdeal_pre_nonnegative_merge (hRefMergeIdeal := hRefMergeIdeal) (hPre_nonnegative_merge := hPre_nonnegative_merge)
    ∧ quiescent_Cast (hCast := hCast)
    ∧ quiescent_CastIdeal (hCastIdeal := hCastIdeal)
    ∧ quiescent_RefCastIdeal (hRefCastIdeal := hRefCastIdeal)
    ∧ quiescent_Norm (hNorm := hNorm)
    ∧ quiescent_NormIdeal (hNormIdeal := hNormIdeal)
    ∧ quiescent_RefNormIdeal (hRefNormIdeal := hRefNormIdeal)
    ∧ quiescent_NormS (hNormS := hNormS)
    ∧ quiescent_NormSIdeal (hNormSIdeal := hNormSIdeal)
    ∧ quiescent_RefNormSIdeal (hRefNormSIdeal := hRefNormSIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_RefUpIdeal_pre_nonnegative (hUpIdeal := hUpIdeal) (hRefUpIdeal := hRefUpIdeal) (hPre_nonnegative := hPre_nonnegative)
    ∧ preserves_Down_DownIdeal
    ∧ algebraic_DownIdeal_RefDownIdeal (hDownIdeal := hDownIdeal) (hRefDownIdeal := hRefDownIdeal)
    ∧ preserves_Merge_MergeIdeal
    ∧ algebraic_MergeIdeal_RefMergeIdeal_pre_nonnegative_merge (hMergeIdeal := hMergeIdeal) (hRefMergeIdeal := hRefMergeIdeal) (hPre_nonnegative_merge := hPre_nonnegative_merge)
    ∧ preserves_Cast_CastIdeal
    ∧ algebraic_CastIdeal_RefCastIdeal (hCastIdeal := hCastIdeal) (hRefCastIdeal := hRefCastIdeal)
    ∧ preserves_Norm_NormIdeal
    ∧ algebraic_NormIdeal_RefNormIdeal (hNormIdeal := hNormIdeal) (hRefNormIdeal := hRefNormIdeal)
    ∧ preserves_NormS_NormSIdeal
    ∧ algebraic_NormSIdeal_RefNormSIdeal (hNormSIdeal := hNormSIdeal) (hRefNormSIdeal := hRefNormSIdeal)
-- ==== Pre_finite.lean ====
abbrev S8256x2048 : Shape := ⟨2, ![8256, 2048]⟩
abbrev S8192x1024 : Shape := ⟨2, ![8192, 1024]⟩
abbrev S4x8x128x128 : Shape := ⟨4, ![4, 8, 128, 128]⟩
abbrev S8256x512 : Shape := ⟨2, ![8256, 512]⟩
abbrev S8192x2048 : Shape := ⟨2, ![8192, 2048]⟩
abbrev S_ : Shape := ⟨0, ![]⟩
abbrev S8192x512 : Shape := ⟨2, ![8192, 512]⟩
abbrev S4x4x128x128 : Shape := ⟨4, ![4, 4, 128, 128]⟩

class Facts : Prop where
  slices_S8256x2048_S8192x2048_0_0 : S8256x2048.Slices ![0, 0] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  slices_S8192x1024_S8192x512_0_0 : S8192x1024.Slices ![0, 0] S8192x512
  bcast_S_S8192x512 : S_.BroadcastsInDim S8192x512 (![] : Fin 0 → Fin S8192x512.rank)
  reducesTo_S8192x512_S_d0_1 : S8192x512.ReducesTo [0, 1] S_
  slices_S4x8x128x128_S4x4x128x128_0_0_0_0 : S4x8x128x128.Slices ![0, 0, 0, 0] S4x4x128x128
  bcast_S_S4x4x128x128 : S_.BroadcastsInDim S4x4x128x128 (![] : Fin 0 → Fin S4x4x128x128.rank)
  reducesTo_S4x4x128x128_S_d0_1_2_3 : S4x4x128x128.ReducesTo [0, 1, 2, 3] S_

variable [Facts]

def fn_part1 {F : FTy → Type} [FloatOps F] (main_arg3 : FVec F S4x8x128x128 .bf16) (main_v12 : IVec S_ 1) (main_v17 : IVec S8192x512 1) (main_c_3 : IVec S_ 1) : IVec S_ 1 :=
  let main_v18 : IVec S_ 1 := (fun x v => Host.reduce IntOp.andi x v reducesTo_S8192x512_S_d0_1 h_S_) main_v17 main_c_3
  let main_v19 : IVec S_ 1 := andi main_v12 main_v18
  let main_v20 : FVec F S4x4x128x128 .bf16 := (extractStridedSlice S4x4x128x128 ![0, 0, 0, 0] · slices_S4x8x128x128_S4x4x128x128_0_0_0_0) main_arg3
  let main_v21 : FVec F S4x4x128x128 .f32 := (extf .f32 · bitsLt_bf16_f32) main_v20
  let main_v22 : FVec F S4x4x128x128 .f32 := Host.absf main_v21
  let main_cst_4 : FVec F S_ .f32 := constant S_ .f32 0x7F800000#32
  let main_v23 : FVec F S4x4x128x128 .f32 := broadcastInDim S4x4x128x128 ![] bcast_S_S4x4x128x128 main_cst_4
  let main_v24 : IVec S4x4x128x128 1 := cmpf .olt main_v22 main_v23
  let main_c_5 : IVec S_ 1 := constantI S_ 1 1#1
  let main_v25 : IVec S_ 1 := (fun x v => Host.reduce IntOp.andi x v reducesTo_S4x4x128x128_S_d0_1_2_3 h_S_) main_v24 main_c_5
  let main_v26 : IVec S_ 1 := andi main_v19 main_v25
  main_v26

def fn {F : FTy → Type} [FloatOps F] (main_arg0 : FVec F S8256x2048 .bf16) (main_arg1 : FVec F S8192x1024 .bf16) (main_arg2 : FVec F S8192x1024 .bf16) (main_arg3 : FVec F S4x8x128x128 .bf16) (main_arg4 : FVec F S8256x512 .f32) : IVec S_ 1 :=
  let main_v0 : FVec F S8192x2048 .bf16 := (extractStridedSlice S8192x2048 ![0, 0] · slices_S8256x2048_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  let main_v6 : FVec F S8192x512 .bf16 := (extractStridedSlice S8192x512 ![0, 0] · slices_S8192x1024_S8192x512_0_0) main_arg1
  let main_v7 : FVec F S8192x512 .f32 := (extf .f32 · bitsLt_bf16_f32) main_v6
  let main_v8 : FVec F S8192x512 .f32 := Host.absf main_v7
  let main_cst_0 : FVec F S_ .f32 := constant S_ .f32 0x7F800000#32
  let main_v9 : FVec F S8192x512 .f32 := broadcastInDim S8192x512 ![] bcast_S_S8192x512 main_cst_0
  let main_v10 : IVec S8192x512 1 := cmpf .olt main_v8 main_v9
  let main_c_1 : IVec S_ 1 := constantI S_ 1 1#1
  let main_v11 : IVec S_ 1 := (fun x v => Host.reduce IntOp.andi x v reducesTo_S8192x512_S_d0_1 h_S_) main_v10 main_c_1
  let main_v12 : IVec S_ 1 := andi main_v5 main_v11
  let main_v13 : FVec F S8192x512 .bf16 := (extractStridedSlice S8192x512 ![0, 0] · slices_S8192x1024_S8192x512_0_0) main_arg2
  let main_v14 : FVec F S8192x512 .f32 := (extf .f32 · bitsLt_bf16_f32) main_v13
  let main_v15 : FVec F S8192x512 .f32 := Host.absf main_v14
  let main_cst_2 : FVec F S_ .f32 := constant S_ .f32 0x7F800000#32
  let main_v16 : FVec F S8192x512 .f32 := broadcastInDim S8192x512 ![] bcast_S_S8192x512 main_cst_2
  let main_v17 : IVec S8192x512 1 := cmpf .olt main_v15 main_v16
  let main_c_3 : IVec S_ 1 := constantI S_ 1 1#1
  fn_part1 (F := F) main_arg3 main_v12 main_v17 main_c_3
-- ==== Pre_nonnegative.lean ====
abbrev S8256x4096 : Shape := ⟨2, ![8256, 4096]⟩
abbrev S8256x1 : Shape := ⟨2, ![8256, 1]⟩
abbrev S4x4096x11008 : Shape := ⟨3, ![4, 4096, 11008]⟩
abbrev S_ : Shape := ⟨0, ![]⟩

class Facts : Prop where
  bcast_S_S8256x1 : S_.BroadcastsInDim S8256x1 (![] : Fin 0 → Fin S8256x1.rank)
  reducesTo_S8256x1_S_d0_1 : S8256x1.ReducesTo [0, 1] S_
  h_S_ : 0 < S_.numel

variable [Facts]

def fn {F : FTy → Type} [FloatOps F] (main_arg0 : FVec F S8256x4096 .bf16) (main_arg1 : FVec F S8256x1 .f32) (main_arg2 : FVec F S4x4096x11008 .f32) (main_arg3 : FVec F S4x4096x11008 .f32) : IVec S_ 1 :=
  let main_cst : FVec F S_ .f32 := constant S_ .f32 0x00000000#32
  let main_v0 : FVec F S8256x1 .f32 := broadcastInDim S8256x1 ![] bcast_S_S8256x1 main_cst
  let main_v1 : IVec S8256x1 1 := cmpf .oge main_arg1 main_v0
  let main_c : IVec S_ 1 := constantI S_ 1 1#1
  let main_v2 : IVec S_ 1 := (fun x v => Host.reduce IntOp.andi x v reducesTo_S8256x1_S_d0_1 h_S_) main_v1 main_c
  main_v2
-- ==== Pre_nonnegative_merge.lean ====
abbrev S8256x4096 : Shape := ⟨2, ![8256, 4096]⟩
abbrev S8256x1 : Shape := ⟨2, ![8256, 1]⟩
abbrev S8256x2048 : Shape := ⟨2, ![8256, 2048]⟩
abbrev S4x17408x4096 : Shape := ⟨3, ![4, 17408, 4096]⟩
abbrev S4x2048x4096 : Shape := ⟨3, ![4, 2048, 4096]⟩
abbrev S_ : Shape := ⟨0, ![]⟩

class Facts : Prop where
  bcast_S_S8256x1 : S_.BroadcastsInDim S8256x1 (![] : Fin 0 → Fin S8256x1.rank)
  reducesTo_S8256x1_S_d0_1 : S8256x1.ReducesTo [0, 1] S_
  h_S_ : 0 < S_.numel

variable [Facts]

def fn {F : FTy → Type} [FloatOps F] (main_arg0 : FVec F S8256x4096 .bf16) (main_arg1 : FVec F S8256x1 .f32) (main_arg2 : FVec F S8256x2048 .bf16) (main_arg3 : FVec F S8256x2048 .bf16) (main_arg4 : FVec F S4x17408x4096 .bf16) (main_arg5 : FVec F S4x2048x4096 .f32) (main_arg6 : FVec F S4x2048x4096 .f32) : IVec S_ 1 :=
  let main_cst : FVec F S_ .f32 := constant S_ .f32 0x00000000#32
  let main_v0 : FVec F S8256x1 .f32 := broadcastInDim S8256x1 ![] bcast_S_S8256x1 main_cst
  let main_v1 : IVec S8256x1 1 := cmpf .oge main_arg1 main_v0
  let main_c : IVec S_ 1 := constantI S_ 1 1#1
  let main_v2 : IVec S_ 1 := (fun x v => Host.reduce IntOp.andi x v reducesTo_S8256x1_S_d0_1 h_S_) main_v1 main_c
  main_v2
-- ==== Kernel.lean ====
abbrev S8256x2048 : Shape := ⟨2, ![8256, 2048]⟩
abbrev S8192x1024 : Shape := ⟨2, ![8192, 1024]⟩
abbrev S4x8x128x128 : Shape := ⟨4, ![4, 8, 128, 128]⟩
abbrev S8256x512 : Shape := ⟨2, ![8256, 512]⟩
abbrev S512x512 : Shape := ⟨2, ![512, 512]⟩
abbrev S2048x128 : Shape := ⟨2, ![2048, 128]⟩
abbrev S1x1x128x128 : Shape := ⟨4, ![1, 1, 128, 128]⟩
abbrev S512x128 : Shape := ⟨2, ![512, 128]⟩
abbrev S512x1 : Shape := ⟨2, ![512, 1]⟩
abbrev S2048x1 : Shape := ⟨2, ![2048, 1]⟩
abbrev S1x1024 : Shape := ⟨2, ![1, 1024]⟩
abbrev S512x1024 : Shape := ⟨2, ![512, 1024]⟩
abbrev S1024x128 : Shape := ⟨2, ![1024, 128]⟩
abbrev S512 : Shape := ⟨1, ![512]⟩
abbrev S128x128 : Shape := ⟨2, ![128, 128]⟩
abbrev S1x128 : Shape := ⟨2, ![1, 128]⟩
abbrev S2048 : Shape := ⟨1, ![2048]⟩
abbrev S128x512 : Shape := ⟨2, ![128, 512]⟩
abbrev S32x512 : Shape := ⟨2, ![32, 512]⟩
abbrev S32x1 : Shape := ⟨2, ![32, 1]⟩
abbrev S1x512 : Shape := ⟨2, ![1, 512]⟩
abbrev S96x512 : Shape := ⟨2, ![96, 512]⟩
abbrev S128x2048 : Shape := ⟨2, ![128, 2048]⟩
abbrev S512x2048 : Shape := ⟨2, ![512, 2048]⟩
abbrev S1x2048 : Shape := ⟨2, ![1, 2048]⟩
abbrev S128x1536 : Shape := ⟨2, ![128, 1536]⟩
abbrev S512x1536 : Shape := ⟨2, ![512, 1536]⟩
abbrev S1x1536 : Shape := ⟨2, ![1, 1536]⟩
abbrev S1536x128 : Shape := ⟨2, ![1536, 128]⟩
abbrev S128x1024 : Shape := ⟨2, ![128, 1024]⟩
abbrev S8192x2048 : Shape := ⟨2, ![8192, 2048]⟩

abbrev nBuf : Space → Nat
  | .hbm => 7
  | .vmem => 18
  | .smem => 0
  | _ => 0

abbrev bufTy : (tb : Table) → Fin (tcTables nBuf tb) → BufTy
  | .hbm, ⟨0, _⟩ => ⟨S8256x2048, .bf16⟩
  | .hbm, ⟨1, _⟩ => ⟨S8192x1024, .bf16⟩
  | .hbm, ⟨2, _⟩ => ⟨S8192x1024, .bf16⟩
  | .hbm, ⟨3, _⟩ => ⟨S4x8x128x128, .bf16⟩
  | .hbm, ⟨4, _⟩ => ⟨S8256x512, .f32⟩
  | .hbm, ⟨5, _⟩ => ⟨S8256x2048, .bf16⟩
  | .hbm, ⟨6, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S1x1x128x128, .bf16⟩
  | .local _ .vmem, ⟨11, _⟩ => ⟨S1x1x128x128, .bf16⟩
  | .local _ .vmem, ⟨12, _⟩ => ⟨S1x1x128x128, .bf16⟩
  | .local _ .vmem, ⟨13, _⟩ => ⟨S1x1x128x128, .bf16⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c512_i32_1 : BitVec 32 := 512#32
  let v11 : BitVec 32 := Scalar.muli arg2 c512_i32_1
  let c512_i32_2 : BitVec 32 := 512#32
  let v12 : BitVec 32 := Scalar.subi v11 c512_i32_2
  let c0_i32 : BitVec 32 := 0#32
  let v13 : BitVec 32 := Scalar.maxsi v12 c0_i32
  v13
def k0_off1 (i : grid0.Coords) : Fin 2 → Nat :=
  let arg2 : BitVec 32 := BitVec.ofNat 32 (i 2).val
  let c512_i32_1 : BitVec 32 := 512#32
  let v11 : BitVec 32 := Scalar.muli arg2 c512_i32_1
  let c512_i32_2 : BitVec 32 := 512#32
  let v12 : BitVec 32 := Scalar.subi v11 c512_i32_2
  let c0_i32 : BitVec 32 := 0#32
  let v13 : BitVec 32 := Scalar.maxsi v12 c0_i32
  let v14 : BitVec 32 := v13
  let v30 : Index := Scalar.indexCast v14
  let c0_5 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | "scale" => some (((Real.sqrt 128)⁻¹ : ℝ) : EReal)
  | "scale_log2e" => some ((((Real.sqrt 128) * (Real.log 2))⁻¹ : ℝ) : EReal)
  | _ => none
-- ==== ReferenceIdeal.lean ====
abbrev S8256x2048 : Shape := ⟨2, ![8256, 2048]⟩
abbrev S8192x1024 : Shape := ⟨2, ![8192, 1024]⟩
abbrev S4x8x128x128 : Shape := ⟨4, ![4, 8, 128, 128]⟩
abbrev S8256x512 : Shape := ⟨2, ![8256, 512]⟩
abbrev S8192x2048 : Shape := ⟨2, ![8192, 2048]⟩
abbrev S4x2048x4x4x128 : Shape := ⟨5, ![4, 2048, 4, 4, 128]⟩
abbrev S4x4x4x2048x128 : Shape := ⟨5, ![4, 4, 4, 2048, 128]⟩
abbrev S4x2048x2x4x128 : Shape := ⟨5, ![4, 2048, 2, 4, 128]⟩
abbrev S2x4x4x2048x128 : Shape := ⟨5, ![2, 4, 4, 2048, 128]⟩
abbrev S1x4x4x2048x128 : Shape := ⟨5, ![1, 4, 4, 2048, 128]⟩
abbrev S4x4x2048x128 : Shape := ⟨4, ![4, 4, 2048, 128]⟩
abbrev S4x4x127x128 : Shape := ⟨4, ![4, 4, 127, 128]⟩
abbrev S8192x512 : Shape := ⟨2, ![8192, 512]⟩
abbrev S4x2048x4x128 : Shape := ⟨4, ![4, 2048, 4, 128]⟩
abbrev S4x4x128x2048 : Shape := ⟨4, ![4, 4, 128, 2048]⟩
abbrev S2048 : Shape := ⟨1, ![2048]⟩
abbrev S2048x1 : Shape := ⟨2, ![2048, 1]⟩
abbrev S1x2048 : Shape := ⟨2, ![1, 2048]⟩
abbrev S127 : Shape := ⟨1, ![127]⟩
abbrev S_ : Shape := ⟨0, ![]⟩
abbrev S1x127 : Shape := ⟨2, ![1, 127]⟩
abbrev S2048x127 : Shape := ⟨2, ![2048, 127]⟩
abbrev S4x4x4x2048x127 : Shape := ⟨5, ![4, 4, 4, 2048, 127]⟩
abbrev S4x4x4x2048 : Shape := ⟨4, ![4, 4, 4, 2048]⟩
abbrev S4x4x4x2048x1 : Shape := ⟨5, ![4, 4, 4, 2048, 1]⟩
abbrev S4x4x2048x127 : Shape := ⟨4, ![4, 4, 2048, 127]⟩
abbrev S4x4x2048x32x4 : Shape := ⟨5, ![4, 4, 2048, 32, 4]⟩
abbrev S4x4x2048x32 : Shape := ⟨4, ![4, 4, 2048, 32]⟩
abbrev S32 : Shape := ⟨1, ![32]⟩
abbrev S1x32 : Shape := ⟨2, ![1, 32]⟩
abbrev S2048x32 : Shape := ⟨2, ![2048, 32]⟩
abbrev S4x4x2048x16 : Shape := ⟨4, ![4, 4, 2048, 16]⟩
abbrev S4x4x2048x16x1 : Shape := ⟨5, ![4, 4, 2048, 16, 1]⟩
abbrev S1x1x1x1x32 : Shape := ⟨5, ![1, 1, 1, 1, 32]⟩
abbrev S4x4x2048x16x32 : Shape := ⟨5, ![4, 4, 2048, 16, 32]⟩
abbrev S4x4x2048x32x64 : Shape := ⟨5, ![4, 4, 2048, 32, 64]⟩
abbrev S4x4x2048x2048 : Shape := ⟨4, ![4, 4, 2048, 2048]⟩
abbrev S2048x2048 : Shape := ⟨2, ![2048, 2048]⟩
abbrev S1x1x2048x2048 : Shape := ⟨4, ![1, 1, 2048, 2048]⟩
abbrev S4x4x1x2048x2048 : Shape := ⟨5, ![4, 4, 1, 2048, 2048]⟩
abbrev S4x4x4x2048x2048 : Shape := ⟨5, ![4, 4, 4, 2048, 2048]⟩

abbrev nBuf : Space → Nat
  | .hbm => 216
  | .vmem => 0
  | .smem => 0
  | _ => 0

abbrev hbmTy0_0 (i : Nat) : BufTy := match i % 128 with
  | 0 => ⟨S8256x2048, .bf16⟩
  | 1 => ⟨S8192x1024, .bf16⟩
  | 2 => ⟨S8192x1024, .bf16⟩
  | 3 => ⟨S4x8x128x128, .bf16⟩
  | 4 => ⟨S8256x512, .f32⟩
  | 5 => ⟨S8192x2048, .bf16⟩
  | 6 => ⟨S8192x2048, .f32⟩
  | 7 => ⟨S4x2048x4x4x128, .f32⟩
  | 8 => ⟨S4x4x4x2048x128, .f32⟩
  | 9 => ⟨S8192x1024, .f32⟩
  | 10 => ⟨S4x2048x2x4x128, .f32⟩
  | 11 => ⟨S2x4x4x2048x128, .f32⟩
  | 12 => ⟨S1x4x4x2048x128, .f32⟩
  | 13 => ⟨S4x4x2048x128, .f32⟩
  | 14 => ⟨S1x4x4x2048x128, .f32⟩
  | 15 => ⟨S4x4x2048x128, .f32⟩
  | 16 => ⟨S8192x1024, .f32⟩
  | 17 => ⟨S4x2048x2x4x128, .f32⟩
  | 18 => ⟨S2x4x4x2048x128, .f32⟩
  | 19 => ⟨S1x4x4x2048x128, .f32⟩
  | 20 => ⟨S4x4x2048x128, .f32⟩
  | 21 => ⟨S1x4x4x2048x128, .f32⟩
  | 22 => ⟨S4x4x2048x128, .f32⟩
  | 23 => ⟨S4x4x127x128, .bf16⟩
  | 24 => ⟨S4x4x127x128, .f32⟩
  | 25 => ⟨S4x4x127x128, .bf16⟩
  | 26 => ⟨S4x4x127x128, .f32⟩
  | 27 => ⟨S8192x512, .f32⟩
  | 28 => ⟨S4x2048x4x128, .f32⟩
  | 29 => ⟨S4x4x128x2048, .f32⟩
  | 30 => ⟨S2048, .i32⟩
  | 31 => ⟨S2048x1, .i32⟩
  | 32 => ⟨S2048, .i32⟩
  | 33 => ⟨S1x2048, .i32⟩
  | 34 => ⟨S127, .i32⟩
  | 35 => ⟨S_, .i32⟩
  | 36 => ⟨S127, .i32⟩
  | 37 => ⟨S127, .i32⟩
  | 38 => ⟨S_, .i32⟩
  | 39 => ⟨S127, .i32⟩
  | 40 => ⟨S127, .i32⟩
  | 41 => ⟨S_, .i32⟩
  | 42 => ⟨S127, .i32⟩
  | 43 => ⟨S127, .i32⟩
  | 44 => ⟨S1x127, .i32⟩
  | 45 => ⟨S2048x127, .i32⟩
  | 46 => ⟨S2048x127, .i32⟩
  | 47 => ⟨S2048x127, .i1⟩
  | 48 => ⟨S4x4x4x2048x127, .f32⟩
  | 49 => ⟨S_, .f32⟩
  | 50 => ⟨S_, .f32⟩
  | 51 => ⟨S4x4x4x2048x127, .f32⟩
  | 52 => ⟨S4x4x4x2048x127, .f32⟩
  | 53 => ⟨S4x4x4x2048x127, .i1⟩
  | 54 => ⟨S_, .f32⟩
  | 55 => ⟨S4x4x4x2048x127, .f32⟩
  | 56 => ⟨S4x4x4x2048x127, .f32⟩
  | 57 => ⟨S_, .f32⟩
  | 58 => ⟨S4x4x4x2048, .f32⟩
  | 59 => ⟨S4x4x4x2048x1, .f32⟩
  | 60 => ⟨S4x4x4x2048x127, .f32⟩
  | 61 => ⟨S4x4x4x2048x127, .f32⟩
  | 62 => ⟨S4x4x4x2048x127, .f32⟩
  | 63 => ⟨S_, .f32⟩
  | 64 => ⟨S4x4x4x2048, .f32⟩
  | 65 => ⟨S4x4x4x2048x1, .f32⟩
  | 66 => ⟨S4x4x4x2048x127, .f32⟩
  | 67 => ⟨S4x4x4x2048x127, .f32⟩
  | 68 => ⟨S4x4x4x2048x127, .i1⟩
  | 69 => ⟨S_, .f32⟩
  | 70 => ⟨S4x4x4x2048x127, .f32⟩
  | 71 => ⟨S4x4x4x2048x127, .f32⟩
  | 72 => ⟨S4x4x4x2048x128, .f32⟩
  | 73 => ⟨S_, .f32⟩
  | 74 => ⟨S4x4x2048x127, .f32⟩
  | 75 => ⟨S_, .i32⟩
  | 76 => ⟨S_, .f32⟩
  | 77 => ⟨S4x4x2048x128, .f32⟩
  | 78 => ⟨S4x4x2048x32x4, .f32⟩
  | 79 => ⟨S_, .f32⟩
  | 80 => ⟨S4x4x2048x32, .f32⟩
  | 81 => ⟨S32, .i32⟩
  | 82 => ⟨S_, .i32⟩
  | 83 => ⟨S2048x1, .i32⟩
  | 84 => ⟨S2048x1, .i32⟩
  | 85 => ⟨S_, .i32⟩
  | 86 => ⟨S32, .i32⟩
  | 87 => ⟨S32, .i1⟩
  | 88 => ⟨S1x32, .i32⟩
  | 89 => ⟨S2048x32, .i32⟩
  | 90 => ⟨S2048x32, .i32⟩
  | 91 => ⟨S2048x32, .i1⟩
  | 92 => ⟨S1x32, .i1⟩
  | 93 => ⟨S2048x32, .i1⟩
  | 94 => ⟨S2048x32, .i1⟩
  | 95 => ⟨S_, .i32⟩
  | 96 => ⟨S2048x1, .i32⟩
  | 97 => ⟨S2048x1, .i32⟩
  | 98 => ⟨S1x32, .i32⟩
  | 99 => ⟨S2048x32, .i32⟩
  | 100 => ⟨S2048x32, .i32⟩
  | 101 => ⟨S2048x32, .i1⟩
  | 102 => ⟨S2048x32, .i1⟩
  | 103 => ⟨S4x4x2048x32, .i1⟩
  | 104 => ⟨S_, .f32⟩
  | 105 => ⟨S4x4x2048x32, .f32⟩
  | 106 => ⟨S4x4x2048x32, .f32⟩
  | 107 => ⟨S1x32, .i32⟩
  | 108 => ⟨S2048x32, .i32⟩
  | 109 => ⟨S2048x32, .i32⟩
  | 110 => ⟨S2048x32, .i1⟩
  | 111 => ⟨S4x4x2048x32, .i1⟩
  | 112 => ⟨S_, .f32⟩
  | 113 => ⟨S4x4x2048x32, .f32⟩
  | 114 => ⟨S4x4x2048x32, .f32⟩
  | 115 => ⟨S4x4x2048x16, .f32⟩
  | 116 => ⟨S4x4x2048x16, .i32⟩
  | 117 => ⟨S4x4x2048x16x1, .i32⟩
  | 118 => ⟨S1x1x1x1x32, .i32⟩
  | 119 => ⟨S4x4x2048x16x32, .i32⟩
  | 120 => ⟨S4x4x2048x16x32, .i32⟩
  | 121 => ⟨S4x4x2048x16x32, .i1⟩
  | 122 => ⟨S4x4x2048x16x1, .f32⟩
  | 123 => ⟨S_, .f32⟩
  | 124 => ⟨S4x4x2048x16x1, .f32⟩
  | 125 => ⟨S4x4x2048x16x1, .i1⟩
  | 126 => ⟨S4x4x2048x16x32, .i1⟩
  | 127 => ⟨S4x4x2048x16x32, .i1⟩
  | _ => ⟨S8256x2048, .bf16⟩

abbrev hbmTy0_1 (i : Nat) : BufTy := match i % 128 with
  | 0 => ⟨S_, .i1⟩
  | 1 => ⟨S4x4x2048x32, .i1⟩
  | 2 => ⟨S4x4x2048x32x64, .i1⟩
  | 3 => ⟨S4x4x2048x2048, .i1⟩
  | 4 => ⟨S2048x2048, .i32⟩
  | 5 => ⟨S2048x2048, .i32⟩
  | 6 => ⟨S2048x2048, .i1⟩
  | 7 => ⟨S1x1x2048x2048, .i1⟩
  | 8 => ⟨S4x4x2048x2048, .i1⟩
  | 9 => ⟨S4x4x2048x2048, .i1⟩
  | 10 => ⟨S4x4x1x2048x2048, .i1⟩
  | 11 => ⟨S4x4x4x2048x2048, .f32⟩
  | 12 => ⟨S_, .f32⟩
  | 13 => ⟨S_, .f32⟩
  | 14 => ⟨S4x4x4x2048x2048, .f32⟩
  | 15 => ⟨S4x4x4x2048x2048, .f32⟩
  | 16 => ⟨S4x4x4x2048x2048, .i1⟩
  | 17 => ⟨S_, .f32⟩
  | 18 => ⟨S4x4x4x2048x2048, .f32⟩
  | 19 => ⟨S4x4x4x2048x2048, .f32⟩
  | 20 => ⟨S_, .f32⟩
  | 21 => ⟨S4x4x4x2048, .f32⟩
  | 22 => ⟨S4x4x4x2048x1, .f32⟩
  | 23 => ⟨S4x4x4x2048x2048, .f32⟩
  | 24 => ⟨S4x4x4x2048x2048, .f32⟩
  | 25 => ⟨S4x4x4x2048x2048, .f32⟩
  | 26 => ⟨S_, .f32⟩
  | 27 => ⟨S4x4x4x2048, .f32⟩
  | 28 => ⟨S4x4x4x2048x1, .f32⟩
  | 29 => ⟨S4x4x4x2048x2048, .f32⟩
  | 30 => ⟨S4x4x4x2048x2048, .f32⟩
  | 31 => ⟨S4x4x4x2048x2048, .i1⟩
  | 32 => ⟨S_, .f32⟩
  | 33 => ⟨S4x4x4x2048x2048, .f32⟩
  | 34 => ⟨S4x4x4x2048x2048, .f32⟩
  | 35 => ⟨S4x4x4x2048x128, .f32⟩
  | 36 => ⟨S2048x2048, .i32⟩
  | 37 => ⟨S2048x2048, .i32⟩
  | 38 => ⟨S2048x2048, .i1⟩
  | 39 => ⟨S_, .i32⟩
  | 40 => ⟨S2048x1, .i32⟩
  | 41 => ⟨S2048x1, .i32⟩
  | 42 => ⟨S2048x2048, .i32⟩
  | 43 => ⟨S2048x2048, .i32⟩
  | 44 => ⟨S2048x2048, .i1⟩
  | 45 => ⟨S2048x2048, .i1⟩
  | 46 => ⟨S4x4x4x2048x2048, .f32⟩
  | 47 => ⟨S_, .f32⟩
  | 48 => ⟨S_, .f32⟩
  | 49 => ⟨S4x4x4x2048x2048, .f32⟩
  | 50 => ⟨S4x4x4x2048x2048, .f32⟩
  | 51 => ⟨S4x4x4x2048x2048, .i1⟩
  | 52 => ⟨S_, .f32⟩
  | 53 => ⟨S4x4x4x2048x2048, .f32⟩
  | 54 => ⟨S4x4x4x2048x2048, .f32⟩
  | 55 => ⟨S_, .f32⟩
  | 56 => ⟨S4x4x4x2048, .f32⟩
  | 57 => ⟨S4x4x4x2048x1, .f32⟩
  | 58 => ⟨S4x4x4x2048x2048, .f32⟩
  | 59 => ⟨S4x4x4x2048x2048, .f32⟩
  | 60 => ⟨S4x4x4x2048x2048, .f32⟩
  | 61 => ⟨S_, .f32⟩
  | 62 => ⟨S4x4x4x2048, .f32⟩
  | 63 => ⟨S4x4x4x2048x1, .f32⟩
  | 64 => ⟨S4x4x4x2048x2048, .f32⟩
  | 65 => ⟨S4x4x4x2048x2048, .f32⟩
  | 66 => ⟨S4x4x4x2048x2048, .i1⟩
  | 67 => ⟨S_, .f32⟩
  | 68 => ⟨S4x4x4x2048x2048, .f32⟩
  | 69 => ⟨S4x4x4x2048x2048, .f32⟩
  | 70 => ⟨S4x4x4x2048x128, .f32⟩
  | 71 => ⟨S4x4x4x2048, .f32⟩
  | 72 => ⟨S4x4x4x2048x1, .f32⟩
  | 73 => ⟨S4x4x4x2048x128, .f32⟩
  | 74 => ⟨S4x4x4x2048x128, .f32⟩
  | 75 => ⟨S4x4x4x2048, .f32⟩
  | 76 => ⟨S4x4x4x2048x1, .f32⟩
  | 77 => ⟨S4x4x4x2048x128, .f32⟩
  | 78 => ⟨S4x4x4x2048x128, .f32⟩
  | 79 => ⟨S4x4x4x2048, .f32⟩
  | 80 => ⟨S4x4x4x2048x1, .f32⟩
  | 81 => ⟨S4x4x4x2048x128, .f32⟩
  | 82 => ⟨S4x4x4x2048x128, .f32⟩
  | 83 => ⟨S4x4x4x2048x128, .f32⟩
  | 84 => ⟨S4x4x4x2048x128, .f32⟩
  | 85 => ⟨S4x2048x4x4x128, .f32⟩
  | 86 => ⟨S8192x2048, .f32⟩
  | 87 => ⟨S8192x2048, .bf16⟩
  | _ => ⟨S8256x2048, .bf16⟩

abbrev hbmTy (i : Nat) : BufTy := match i / 128 with
  | 0 => hbmTy0_0 i
  | 1 => hbmTy0_1 i
  | _ => ⟨S8256x2048, .bf16⟩

abbrev bufTy : (tb : Table) → Fin (tcTables nBuf tb) → BufTy
  | .hbm, ⟨i, _⟩ => hbmTy i
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c : Ref sig .tc := ⟨.hbm, 35, rfl⟩
abbrev main_v30 : Ref sig .tc := ⟨.hbm, 36, rfl⟩
abbrev main_v31 : Ref sig .tc := ⟨.hbm, 37, rfl⟩
abbrev main_c_0 : Ref sig .tc := ⟨.hbm, 38, rfl⟩
abbrev main_v32 : Ref sig .tc := ⟨.hbm, 39, rfl⟩
abbrev main_v33 : Ref sig .tc := ⟨.hbm, 40, rfl⟩
abbrev main_c_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_5 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_c_7 : Ref sig .tc := ⟨.hbm, 75, rfl⟩
abbrev main_call0_v0 : Ref sig .tc := ⟨.hbm, 76, rfl⟩
abbrev main_v61 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_v64 : Ref sig .tc := ⟨.hbm, 81, rfl⟩
abbrev main_c_9 : Ref sig .tc := ⟨.hbm, 82, rfl⟩
abbrev main_v65 : Ref sig .tc := ⟨.hbm, 83, rfl⟩
abbrev main_v66 : Ref sig .tc := ⟨.hbm, 84, rfl⟩
abbrev main_c_10 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_12 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_13 : Ref sig .tc := ⟨.hbm, 112, rfl⟩
abbrev main_v91 : Ref sig .tc := ⟨.hbm, 113, rfl⟩
abbrev main_v92 : Ref sig .tc := ⟨.hbm, 114, rfl⟩
abbrev main_values : Ref sig .tc := ⟨.hbm, 115, rfl⟩
abbrev main_indices : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_14 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_c_15 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_16 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_17 : Ref sig .tc := ⟨.hbm, 145, rfl⟩
abbrev main_v118 : Ref sig .tc := ⟨.hbm, 146, rfl⟩
abbrev main_v119 : Ref sig .tc := ⟨.hbm, 147, rfl⟩
abbrev main_cst_18 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_19 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_20 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_c_21 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_22 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_23 : Ref sig .tc := ⟨.hbm, 180, rfl⟩
abbrev main_v147 : Ref sig .tc := ⟨.hbm, 181, rfl⟩
abbrev main_v148 : Ref sig .tc := ⟨.hbm, 182, rfl⟩
abbrev main_cst_24 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_25 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_26 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩

abbrev nD : Nat := 1
abbrev τ : Topo := Topo.v7x

variable {F : FTy → Type} [FloatOps F]

def κ : String → Option EReal := fun
  | "mask" => some ⊥
  | "scale" => some (((Real.sqrt 128)⁻¹ : ℝ) : EReal)
  | "scale_log2e" => some ((((Real.sqrt 128) * (Real.log 2))⁻¹ : ℝ) : EReal)
  | _ => none
-- ==== Up.lean ====
abbrev S8256x4096 : Shape := ⟨2, ![8256, 4096]⟩
abbrev S8256x1 : Shape := ⟨2, ![8256, 1]⟩
abbrev S4x4096x11008 : Shape := ⟨3, ![4, 4096, 11008]⟩
abbrev S8256x11008 : Shape := ⟨2, ![8256, 11008]⟩
abbrev S1376x4096 : Shape := ⟨2, ![1376, 4096]⟩
abbrev S1376x1 : Shape := ⟨2, ![1376, 1]⟩
abbrev S1x4096x256 : Shape := ⟨3, ![1, 4096, 256]⟩
abbrev S1376x256 : Shape := ⟨2, ![1376, 256]⟩
abbrev S4096x256 : Shape := ⟨2, ![4096, 256]⟩
abbrev S688x1 : Shape := ⟨2, ![688, 1]⟩
abbrev S688x4096 : Shape := ⟨2, ![688, 4096]⟩
abbrev S688x256 : Shape := ⟨2, ![688, 256]⟩

abbrev nBuf : Space → Nat
  | .hbm => 5
  | .vmem => 10
  | .smem => 0
  | _ => 0

abbrev bufTy : (tb : Table) → Fin (tcTables nBuf tb) → BufTy
  | .hbm, ⟨0, _⟩ => ⟨S8256x4096, .bf16⟩
  | .hbm, ⟨1, _⟩ => ⟨S8256x1, .f32⟩
  | .hbm, ⟨2, _⟩ => ⟨S4x4096x11008, .f32⟩
  | .hbm, ⟨3, _⟩ => ⟨S4x4096x11008, .f32⟩
  | .hbm, ⟨4, _⟩ => ⟨S8256x11008, .bf16⟩
  | .local _ .vmem, ⟨0, _⟩ => ⟨S1376x4096, .bf16⟩
  | .local _ .vmem, ⟨1, _⟩ => ⟨S1376x4096, .bf16⟩
  | .local _ .vmem, ⟨2, _⟩ => ⟨S1376x1, .f32⟩
  | .local _ .vmem, ⟨3, _⟩ => ⟨S1376x1, .f32⟩
  | .local _ .vmem, ⟨4, _⟩ => ⟨S1x4096x256, .f32⟩
  | .local _ .vmem, ⟨5, _⟩ => ⟨S1x4096x256, .f32⟩
  | .local _ .vmem, ⟨6, _⟩ => ⟨S1x4096x256, .f32⟩
  | .local _ .vmem, ⟨7, _⟩ => ⟨S1x4096x256, .f32⟩
  | .local _ .vmem, ⟨8, _⟩ => ⟨S1376x256, .bf16⟩
  | .local _ .vmem, ⟨9, _⟩ => ⟨S1376x256, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1376x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1376x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefUpIdeal.lean ====
abbrev S8256x4096 : Shape := ⟨2, ![8256, 4096]⟩
abbrev S8256x1 : Shape := ⟨2, ![8256, 1]⟩
abbrev S4x4096x11008 : Shape := ⟨3, ![4, 4096, 11008]⟩
abbrev S_ : Shape := ⟨0, ![]⟩
abbrev S1x4096x11008 : Shape := ⟨3, ![1, 4096, 11008]⟩
abbrev S4096x11008 : Shape := ⟨2, ![4096, 11008]⟩
abbrev S8256x11008 : Shape := ⟨2, ![8256, 11008]⟩

abbrev nBuf : Space → Nat
  | .hbm => 31
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S8256x1, .f32⟩
  | .hbm, ⟨2, _⟩ => ⟨S4x4096x11008, .f32⟩
  | .hbm, ⟨3, _⟩ => ⟨S4x4096x11008, .f32⟩
  | .hbm, ⟨4, _⟩ => ⟨S8256x4096, .f32⟩
  | .hbm, ⟨5, _⟩ => ⟨S_, .f32⟩
  | .hbm, ⟨6, _⟩ => ⟨S8256x1, .f32⟩
  | .hbm, ⟨7, _⟩ => ⟨S8256x1, .f32⟩
  | .hbm, ⟨8, _⟩ => ⟨S_, .f32⟩
  | .hbm, ⟨9, _⟩ => ⟨S8256x1, .f32⟩
  | .hbm, ⟨10, _⟩ => ⟨S8256x1, .f32⟩
  | .hbm, ⟨11, _⟩ => ⟨S8256x1, .f32⟩
  | .hbm, ⟨12, _⟩ => ⟨S8256x4096, .f32⟩
  | .hbm, ⟨13, _⟩ => ⟨S8256x4096, .f32⟩
  | .hbm, ⟨14, _⟩ => ⟨S1x4096x11008, .f32⟩
  | .hbm, ⟨15, _⟩ => ⟨S4096x11008, .f32⟩
  | .hbm, ⟨16, _⟩ => ⟨S8256x11008, .f32⟩
  | .hbm, ⟨17, _⟩ => ⟨S8256x11008, .f32⟩
  | .hbm, ⟨18, _⟩ => ⟨S8256x11008, .f32⟩
  | .hbm, ⟨19, _⟩ => ⟨S_, .f32⟩
  | .hbm, ⟨20, _⟩ => ⟨S8256x11008, .f32⟩
  | .hbm, ⟨21, _⟩ => ⟨S8256x11008, .f32⟩
  | .hbm, ⟨22, _⟩ => ⟨S_, .f32⟩
  | .hbm, ⟨23, _⟩ => ⟨S8256x11008, .f32⟩
  | .hbm, ⟨24, _⟩ => ⟨S8256x11008, .f32⟩
  | .hbm, ⟨25, _⟩ => ⟨S8256x11008, .f32⟩
  | .hbm, ⟨26, _⟩ => ⟨S1x4096x11008, .f32⟩
  | .hbm, ⟨27, _⟩ => ⟨S4096x11008, .f32⟩
  | .hbm, ⟨28, _⟩ => ⟨S8256x11008, .f32⟩
  | .hbm, ⟨29, _⟩ => ⟨S8256x11008, .f32⟩
  | .hbm, ⟨30, _⟩ => ⟨S8256x11008, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Down.lean ====
abbrev S8256x11008 : Shape := ⟨2, ![8256, 11008]⟩
abbrev S4x11008x4096 : Shape := ⟨3, ![4, 11008, 4096]⟩
abbrev S8256x4096 : Shape := ⟨2, ![8256, 4096]⟩
abbrev S4096 : Shape := ⟨1, ![4096]⟩
abbrev S1x4096 : Shape := ⟨2, ![1, 4096]⟩
abbrev S8256x1 : Shape := ⟨2, ![8256, 1]⟩
abbrev S688x11008 : Shape := ⟨2, ![688, 11008]⟩
abbrev S1x11008x256 : Shape := ⟨3, ![1, 11008, 256]⟩
abbrev S688x256 : Shape := ⟨2, ![688, 256]⟩
abbrev S1x256 : Shape := ⟨2, ![1, 256]⟩
abbrev S688x1 : Shape := ⟨2, ![688, 1]⟩
abbrev S11008x256 : Shape := ⟨2, ![11008, 256]⟩
abbrev S336x256 : Shape := ⟨2, ![336, 256]⟩
abbrev S336x11008 : Shape := ⟨2, ![336, 11008]⟩
abbrev S336 : Shape := ⟨1, ![336]⟩
abbrev S336x1 : Shape := ⟨2, ![336, 1]⟩
abbrev S352x256 : Shape := ⟨2, ![352, 256]⟩
abbrev S352x11008 : Shape := ⟨2, ![352, 11008]⟩
abbrev S352 : Shape := ⟨1, ![352]⟩
abbrev S352x1 : Shape := ⟨2, ![352, 1]⟩

abbrev nBuf : Space → Nat
  | .hbm => 9
  | .vmem => 14
  | .smem => 0
  | _ => 0

abbrev bufTy : (tb : Table) → Fin (tcTables nBuf tb) → BufTy
  | .hbm, ⟨0, _⟩ => ⟨S8256x11008, .bf16⟩
  | .hbm, ⟨1, _⟩ => ⟨S4x11008x4096, .f32⟩
  | .hbm, ⟨2, _⟩ => ⟨S8256x4096, .f32⟩
  | .hbm, ⟨3, _⟩ => ⟨S4096, .f32⟩
  | .hbm, ⟨4, _⟩ => ⟨S4x11008x4096, .bf16⟩
  | .hbm, ⟨5, _⟩ => ⟨S1x4096, .f32⟩
  | .hbm, ⟨6, _⟩ => ⟨S8256x4096, .f32⟩
  | .hbm, ⟨7, _⟩ => ⟨S8256x4096, .bf16⟩
  | .hbm, ⟨8, _⟩ => ⟨S8256x1, .f32⟩
  | .local _ .vmem, ⟨0, _⟩ => ⟨S688x11008, .bf16⟩
  | .local _ .vmem, ⟨1, _⟩ => ⟨S688x11008, .bf16⟩
  | .local _ .vmem, ⟨2, _⟩ => ⟨S1x11008x256, .bf16⟩
  | .local _ .vmem, ⟨3, _⟩ => ⟨S1x11008x256, .bf16⟩
  | .local _ .vmem, ⟨4, _⟩ => ⟨S688x256, .f32⟩
  | .local _ .vmem, ⟨5, _⟩ => ⟨S688x256, .f32⟩
  | .local _ .vmem, ⟨6, _⟩ => ⟨S1x256, .f32⟩
  | .local _ .vmem, ⟨7, _⟩ => ⟨S1x256, .f32⟩
  | .local _ .vmem, ⟨8, _⟩ => ⟨S688x256, .f32⟩
  | .local _ .vmem, ⟨9, _⟩ => ⟨S688x256, .f32⟩
  | .local _ .vmem, ⟨10, _⟩ => ⟨S688x256, .bf16⟩
  | .local _ .vmem, ⟨11, _⟩ => ⟨S688x256, .bf16⟩
  | .local _ .vmem, ⟨12, _⟩ => ⟨S688x1, .f32⟩
  | .local _ .vmem, ⟨13, _⟩ => ⟨S688x1, .f32⟩
  | _, _ => ⟨S8256x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 16], ![false, false]⟩

def k0_cond1 (i : grid0.Coords) : BitVec 1 :=
  let arg1 : BitVec 32 := BitVec.ofNat 32 (i 1).val
  let c0_i32 : BitVec 32 := 0#32
  let v35 : BitVec 1 := Scalar.cmpi .eq arg1 c0_i32
  let v36 : BitVec 32 := Scalar.extui v35
  let c0_i32_26 : BitVec 32 := 0#32
  let v37 : BitVec 1 := Scalar.cmpi .ne v36 c0_i32_26
  v37

def k0_cond2 (i : grid0.Coords) : BitVec 1 :=
  let arg1 : BitVec 32 := BitVec.ofNat 32 (i 1).val
  let c0_i32_27 : BitVec 32 := 0#32
  let v38 : BitVec 1 := Scalar.cmpi .sgt arg1 c0_i32_27
  let v39 : BitVec 32 := Scalar.extui v38
  let c0_i32_28 : BitVec 32 := 0#32
  let v40 : BitVec 1 := Scalar.cmpi .ne v39 c0_i32_28
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S688x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S688x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefDownIdeal.lean ====
abbrev S8256x11008 : Shape := ⟨2, ![8256, 11008]⟩
abbrev S4x11008x4096 : Shape := ⟨3, ![4, 11008, 4096]⟩
abbrev S8256x4096 : Shape := ⟨2, ![8256, 4096]⟩
abbrev S4096 : Shape := ⟨1, ![4096]⟩
abbrev S1x11008x4096 : Shape := ⟨3, ![1, 11008, 4096]⟩
abbrev S11008x4096 : Shape := ⟨2, ![11008, 4096]⟩
abbrev S_ : Shape := ⟨0, ![]⟩
abbrev S1x4096 : Shape := ⟨2, ![1, 4096]⟩
abbrev S8256 : Shape := ⟨1, ![8256]⟩
abbrev S8256x1 : Shape := ⟨2, ![8256, 1]⟩

abbrev nBuf : Space → Nat
  | .hbm => 20
  | .vmem => 0
  | .smem => 0
  | _ => 0

abbrev bufTy : (tb : Table) → Fin (tcTables nBuf tb) → BufTy
  | .hbm, ⟨0, _⟩ => ⟨S8256x11008, .bf16⟩
  | .hbm, ⟨1, _⟩ => ⟨S4x11008x4096, .f32⟩
  | .hbm, ⟨2, _⟩ => ⟨S8256x4096, .f32⟩
  | .hbm, ⟨3, _⟩ => ⟨S4096, .f32⟩
  | .hbm, ⟨4, _⟩ => ⟨S8256x11008, .f32⟩
  | .hbm, ⟨5, _⟩ => ⟨S1x11008x4096, .f32⟩
  | .hbm, ⟨6, _⟩ => ⟨S11008x4096, .f32⟩
  | .hbm, ⟨7, _⟩ => ⟨S8256x4096, .f32⟩
  | .hbm, ⟨8, _⟩ => ⟨S_, .f32⟩
  | .hbm, ⟨9, _⟩ => ⟨S8256x4096, .f32⟩
  | .hbm, ⟨10, _⟩ => ⟨S8256x4096, .f32⟩
  | .hbm, ⟨11, _⟩ => ⟨S8256x4096, .f32⟩
  | .hbm, ⟨12, _⟩ => ⟨S1x4096, .f32⟩
  | .hbm, ⟨13, _⟩ => ⟨S8256x4096, .f32⟩
  | .hbm, ⟨14, _⟩ => ⟨S8256x4096, .f32⟩
  | .hbm, ⟨15, _⟩ => ⟨S8256x4096, .bf16⟩
  | .hbm, ⟨16, _⟩ => ⟨S8256x4096, .f32⟩
  | .hbm, ⟨17, _⟩ => ⟨S_, .f32⟩
  | .hbm, ⟨18, _⟩ => ⟨S8256, .f32⟩
  | .hbm, ⟨19, _⟩ => ⟨S8256x1, .f32⟩
  | _, _ => ⟨S8256x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Merge.lean ====
abbrev S8256x4096 : Shape := ⟨2, ![8256, 4096]⟩
abbrev S8256x1 : Shape := ⟨2, ![8256, 1]⟩
abbrev S8256x2048 : Shape := ⟨2, ![8256, 2048]⟩
abbrev S4x17408x4096 : Shape := ⟨3, ![4, 17408, 4096]⟩
abbrev S4x2048x4096 : Shape := ⟨3, ![4, 2048, 4096]⟩
abbrev S688x4096 : Shape := ⟨2, ![688, 4096]⟩
abbrev S688x1 : Shape := ⟨2, ![688, 1]⟩
abbrev S688x2048 : Shape := ⟨2, ![688, 2048]⟩
abbrev S1x256x4096 : Shape := ⟨3, ![1, 256, 4096]⟩
abbrev S1x2048x256 : Shape := ⟨3, ![1, 2048, 256]⟩
abbrev S688x256 : Shape := ⟨2, ![688, 256]⟩
abbrev S256x4096 : Shape := ⟨2, ![256, 4096]⟩
abbrev S2048x256 : Shape := ⟨2, ![2048, 256]⟩
abbrev S336x4096 : Shape := ⟨2, ![336, 4096]⟩
abbrev S336x1 : Shape := ⟨2, ![336, 1]⟩
abbrev S336x256 : Shape := ⟨2, ![336, 256]⟩
abbrev S336x2048 : Shape := ⟨2, ![336, 2048]⟩
abbrev S352x4096 : Shape := ⟨2, ![352, 4096]⟩
abbrev S352x1 : Shape := ⟨2, ![352, 1]⟩
abbrev S352x256 : Shape := ⟨2, ![352, 256]⟩
abbrev S352x2048 : Shape := ⟨2, ![352, 2048]⟩

abbrev nBuf : Space → Nat
  | .hbm => 8
  | .vmem => 18
  | .smem => 0
  | _ => 0

abbrev bufTy : (tb : Table) → Fin (tcTables nBuf tb) → BufTy
  | .hbm, ⟨0, _⟩ => ⟨S8256x4096, .bf16⟩
  | .hbm, ⟨1, _⟩ => ⟨S8256x1, .f32⟩
  | .hbm, ⟨2, _⟩ => ⟨S8256x2048, .bf16⟩
  | .hbm, ⟨3, _⟩ => ⟨S8256x2048, .bf16⟩
  | .hbm, ⟨4, _⟩ => ⟨S4x17408x4096, .bf16⟩
  | .hbm, ⟨5, _⟩ => ⟨S4x2048x4096, .f32⟩
  | .hbm, ⟨6, _⟩ => ⟨S4x2048x4096, .f32⟩
  | .hbm, ⟨7, _⟩ => ⟨S8256x4096, .bf16⟩
  | .local _ .vmem, ⟨0, _⟩ => ⟨S688x4096, .bf16⟩
  | .local _ .vmem, ⟨1, _⟩ => ⟨S688x4096, .bf16⟩
  | .local _ .vmem, ⟨2, _⟩ => ⟨S688x1, .f32⟩
  | .local _ .vmem, ⟨3, _⟩ => ⟨S688x1, .f32⟩
  | .local _ .vmem, ⟨4, _⟩ => ⟨S688x2048, .bf16⟩
  | .local _ .vmem, ⟨5, _⟩ => ⟨S688x2048, .bf16⟩
  | .local _ .vmem, ⟨6, _⟩ => ⟨S688x2048, .bf16⟩
  | .local _ .vmem, ⟨7, _⟩ => ⟨S688x2048, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x256x4096, .bf16⟩
  | .local _ .vmem, ⟨11, _⟩ => ⟨S1x256x4096, .bf16⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S688x256, .bf16⟩
  | .local _ .vmem, ⟨17, _⟩ => ⟨S688x256, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c16_i32 : BitVec 32 := 16#32
  let v1 : BitVec 32 := Scalar.addi v0 c16_i32
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S688x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S688x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S688x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S688x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefMergeIdeal.lean ====
abbrev S8256x4096 : Shape := ⟨2, ![8256, 4096]⟩
abbrev S8256x1 : Shape := ⟨2, ![8256, 1]⟩
abbrev S8256x2048 : Shape := ⟨2, ![8256, 2048]⟩
abbrev S4x17408x4096 : Shape := ⟨3, ![4, 17408, 4096]⟩
abbrev S4x2048x4096 : Shape := ⟨3, ![4, 2048, 4096]⟩
abbrev S_ : Shape := ⟨0, ![]⟩
abbrev S1x4096x4096 : Shape := ⟨3, ![1, 4096, 4096]⟩
abbrev S4096x4096 : Shape := ⟨2, ![4096, 4096]⟩
abbrev S1x2048x4096 : Shape := ⟨3, ![1, 2048, 4096]⟩
abbrev S2048x4096 : Shape := ⟨2, ![2048, 4096]⟩

abbrev nBuf : Space → Nat
  | .hbm => 55
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S8256x1, .f32⟩
  | .hbm, ⟨2, _⟩ => ⟨S8256x2048, .bf16⟩
  | .hbm, ⟨3, _⟩ => ⟨S8256x2048, .bf16⟩
  | .hbm, ⟨4, _⟩ => ⟨S4x17408x4096, .bf16⟩
  | .hbm, ⟨5, _⟩ => ⟨S4x2048x4096, .f32⟩
  | .hbm, ⟨6, _⟩ => ⟨S4x2048x4096, .f32⟩
  | .hbm, ⟨7, _⟩ => ⟨S8256x4096, .f32⟩
  | .hbm, ⟨8, _⟩ => ⟨S_, .f32⟩
  | .hbm, ⟨9, _⟩ => ⟨S8256x1, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S8256x1, .f32⟩
  | .hbm, ⟨15, _⟩ => ⟨S8256x4096, .f32⟩
  | .hbm, ⟨16, _⟩ => ⟨S8256x4096, .f32⟩
  | .hbm, ⟨17, _⟩ => ⟨S1x4096x4096, .bf16⟩
  | .hbm, ⟨18, _⟩ => ⟨S4096x4096, .bf16⟩
  | .hbm, ⟨19, _⟩ => ⟨S4096x4096, .f32⟩
  | .hbm, ⟨20, _⟩ => ⟨S4096x4096, .f32⟩
  | .hbm, ⟨21, _⟩ => ⟨S8256x4096, .f32⟩
  | .hbm, ⟨22, _⟩ => ⟨S8256x4096, .f32⟩
  | .hbm, ⟨23, _⟩ => ⟨S8256x4096, .f32⟩
  | .hbm, ⟨24, _⟩ => ⟨S_, .f32⟩
  | .hbm, ⟨25, _⟩ => ⟨S8256x4096, .f32⟩
  | .hbm, ⟨26, _⟩ => ⟨S8256x4096, .f32⟩
  | .hbm, ⟨27, _⟩ => ⟨S_, .f32⟩
  | .hbm, ⟨28, _⟩ => ⟨S8256x4096, .f32⟩
  | .hbm, ⟨29, _⟩ => ⟨S8256x4096, .f32⟩
  | .hbm, ⟨30, _⟩ => ⟨S1x4096x4096, .bf16⟩
  | .hbm, ⟨31, _⟩ => ⟨S4096x4096, .bf16⟩
  | .hbm, ⟨32, _⟩ => ⟨S4096x4096, .f32⟩
  | .hbm, ⟨33, _⟩ => ⟨S4096x4096, .f32⟩
  | .hbm, ⟨34, _⟩ => ⟨S8256x4096, .f32⟩
  | .hbm, ⟨35, _⟩ => ⟨S8256x4096, .f32⟩
  | .hbm, ⟨36, _⟩ => ⟨S8256x4096, .f32⟩
  | .hbm, ⟨37, _⟩ => ⟨S_, .f32⟩
  | .hbm, ⟨38, _⟩ => ⟨S8256x4096, .f32⟩
  | .hbm, ⟨39, _⟩ => ⟨S8256x4096, .f32⟩
  | .hbm, ⟨40, _⟩ => ⟨S_, .f32⟩
  | .hbm, ⟨41, _⟩ => ⟨S8256x4096, .f32⟩
  | .hbm, ⟨42, _⟩ => ⟨S8256x4096, .f32⟩
  | .hbm, ⟨43, _⟩ => ⟨S8256x2048, .f32⟩
  | .hbm, ⟨44, _⟩ => ⟨S1x2048x4096, .f32⟩
  | .hbm, ⟨45, _⟩ => ⟨S2048x4096, .f32⟩
  | .hbm, ⟨46, _⟩ => ⟨S8256x4096, .f32⟩
  | .hbm, ⟨47, _⟩ => ⟨S8256x4096, .f32⟩
  | .hbm, ⟨48, _⟩ => ⟨S8256x2048, .f32⟩
  | .hbm, ⟨49, _⟩ => ⟨S1x2048x4096, .f32⟩
  | .hbm, ⟨50, _⟩ => ⟨S2048x4096, .f32⟩
  | .hbm, ⟨51, _⟩ => ⟨S8256x4096, .f32⟩
  | .hbm, ⟨52, _⟩ => ⟨S8256x4096, .f32⟩
  | .hbm, ⟨53, _⟩ => ⟨S8256x4096, .f32⟩
  | .hbm, ⟨54, _⟩ => ⟨S8256x4096, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Cast.lean ====
abbrev S4x4096x17456 : Shape := ⟨3, ![4, 4096, 17456]⟩
abbrev S4x17456x4096 : Shape := ⟨3, ![4, 17456, 4096]⟩
abbrev S4x17408x4096 : Shape := ⟨3, ![4, 17408, 4096]⟩
abbrev S1x512x4096 : Shape := ⟨3, ![1, 512, 4096]⟩
abbrev S512x4096 : Shape := ⟨2, ![512, 4096]⟩

abbrev nBuf : Space → Nat
  | .hbm => 3
  | .vmem => 4
  | .smem => 0
  | _ => 0

abbrev bufTy : (tb : Table) → Fin (tcTables nBuf tb) → BufTy
  | .hbm, ⟨0, _⟩ => ⟨S4x4096x17456, .f32⟩
  | .hbm, ⟨1, _⟩ => ⟨S4x17456x4096, .f32⟩
  | .hbm, ⟨2, _⟩ => ⟨S4x17408x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x512x4096, .bf16⟩
  | .local _ .vmem, ⟨3, _⟩ => ⟨S1x512x4096, .bf16⟩
  | _, _ => ⟨S4x4096x17456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 34], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.muli arg1 c512_i32_0
  let c5120_i32 : BitVec 32 := 5120#32
  let v2 : BitVec 1 := Scalar.cmpi .sge v1 c5120_i32
  let c48_i32 : BitVec 32 := 48#32
  let c0_i32 : BitVec 32 := 0#32
  let v3 : BitVec 32 := Scalar.select v2 c48_i32 c0_i32
  let v4 : BitVec 32 := Scalar.addi v0 v3
  v4
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.muli arg1 c512_i32_0
  let c5120_i32 : BitVec 32 := 5120#32
  let v2 : BitVec 1 := Scalar.cmpi .sge v1 c5120_i32
  let c48_i32 : BitVec 32 := 48#32
  let c0_i32 : BitVec 32 := 0#32
  let v3 : BitVec 32 := Scalar.select v2 c48_i32 c0_i32
  let v4 : BitVec 32 := Scalar.addi v0 v3
  let v5 : BitVec 32 := v4
  let c0_i32_1 : BitVec 32 := 0#32
  let c0_i32_2 : BitVec 32 := 0#32
  ![arg0.toNat, v5.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== RefCastIdeal.lean ====
abbrev S4x4096x17456 : Shape := ⟨3, ![4, 4096, 17456]⟩
abbrev S4x4096x5120 : Shape := ⟨3, ![4, 4096, 5120]⟩
abbrev S4x4096x12288 : Shape := ⟨3, ![4, 4096, 12288]⟩
abbrev S4x4096x17408 : Shape := ⟨3, ![4, 4096, 17408]⟩
abbrev S4x17408x4096 : Shape := ⟨3, ![4, 17408, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x17456, .f32⟩
  | .hbm, ⟨1, _⟩ => ⟨S4x4096x5120, .f32⟩
  | .hbm, ⟨2, _⟩ => ⟨S4x4096x12288, .f32⟩
  | .hbm, ⟨3, _⟩ => ⟨S4x4096x17408, .f32⟩
  | .hbm, ⟨4, _⟩ => ⟨S4x17408x4096, .f32⟩
  | .hbm, ⟨5, _⟩ => ⟨S4x17408x4096, .bf16⟩
  | _, _ => ⟨S4x4096x17456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Norm.lean ====
abbrev S8256x4096 : Shape := ⟨2, ![8256, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormIdeal.lean ====
abbrev S8256x4096 : Shape := ⟨2, ![8256, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormS.lean ====
abbrev S8256x4096 : Shape := ⟨2, ![8256, 4096]⟩
abbrev S4096 : Shape := ⟨1, ![4096]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩

abbrev nBuf : Space → Nat
  | .hbm => 4
  | .vmem => 3
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S1x4096, .f32⟩
  | .hbm, ⟨3, _⟩ => ⟨S64x4096, .f32⟩
  | .local _ .vmem, ⟨0, _⟩ => ⟨S64x4096, .f32⟩
  | .local _ .vmem, ⟨1, _⟩ => ⟨S1x4096, .f32⟩
  | .local _ .vmem, ⟨2, _⟩ => ⟨S64x4096, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RefNormSIdeal.lean ====
abbrev S8256x4096 : Shape := ⟨2, ![8256, 4096]⟩
abbrev S4096 : Shape := ⟨1, ![4096]⟩
abbrev S64x4096 : Shape := ⟨2, ![64, 4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S64x4096, .f32⟩
  | .hbm, ⟨3, _⟩ => ⟨S64x4096, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x4096, .f32⟩
  | .hbm, ⟨15, _⟩ => ⟨S64x4096, .f32⟩
  | .hbm, ⟨16, _⟩ => ⟨S1x4096, .f32⟩
  | .hbm, ⟨17, _⟩ => ⟨S64x4096, .f32⟩
  | .hbm, ⟨18, _⟩ => ⟨S64x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Ideal.Run.lean ====
/- `KernelIdeal`'s attention body run once per value of its third grid coordinate: the coordinate decides the three nested
   conditionals of the printed switch, so each case runs straight through one branch. -/
module

public import proofs.«01_k».proof.Proof.Gen.KernelIdeal.Frame
public import proofs.«01_k».proof.Proof.Gen.KernelIdeal.Skeleton

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a point whose third coordinate is 0, the query block whose selected keys are the first 512:
    the pieces it stores into the result's staging buffer (found by the run), and its triple. -/
def run0 (c : Dev nD) (i : grid0.Coords) (hi : (i 2).val = 0) (a0 : Memref sig .tc .vmem S512x512 .bf16) (h0 : a0.IsWhole) (a1 : Memref sig .tc .vmem S2048x128 .bf16) (h1 : a1.IsWhole) (a2 : Memref sig .tc .vmem S2048x128 .bf16) (h2 : a2.IsWhole) (a3 : Memref sig .tc .vmem S2048x128 .bf16) (h3 : a3.IsWhole) (a4 : Memref sig .tc .vmem S2048x128 .bf16) (h4 : a4.IsWhole) (a5 : Memref sig .tc .vmem S1x1x128x128 .bf16) (h5 : a5.IsWhole) (a6 : Memref sig .tc .vmem S1x1x128x128 .bf16) (h6 : a6.IsWhole) (a7 : Memref sig .tc .vmem S512x128 .f32) (h7 : a7.IsWhole) (a8 : Memref sig .tc .vmem S512x512 .bf16) (h8 : a8.IsWhole)
    (x0 : Vec F S512x512 .bf16) (x1 : Vec F S2048x128 .bf16) (x2 : Vec F S2048x128 .bf16) (x3 : Vec F S2048x128 .bf16) (x4 : Vec F S2048x128 .bf16) (x5 : Vec F S1x1x128x128 .bf16) (x6 : Vec F S1x1x128x128 .bf16) (x7 : Vec F S512x128 .f32) :
    { L : List (View.Piece (Elt F) S512x512 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L)) -∗ K ⟨⟩))
          ⊢ wp frame (wpE (defs₀ (F := F)) Variants.none c none) E (cc0_nsa_prompt_attention i a0 h0 a1 h1 a2 h2 a3 h3 a4 h4 a5 h5 a6 h6 a7 h7 a8 h8) K } := by
  refine ⟨?_, fun E K => ?run⟩
  case run =>
    simp only [cc0_nsa_prompt_attention_eq_skeleton]; unfold cc0_nsa_prompt_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
    sl_exec (disch := (first | sl_exact (by decide +kernel : ∀ i : grid0.Coords, (i 2).val = 0 → ¬ run0.sl.v660 i = 1#1) i hi | sl_exact (by decide +kernel : ∀ i : grid0.Coords, (i 2).val = 0 → run0.sl.v728 i = 1#1) i hi | sl_exact (by decide +kernel : ∀ i : grid0.Coords, (i 2).val = 0 → run0.sl.v731 i = 1#1) i hi))
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

set_option maxHeartbeats 2000000 in
/-- The body at a point whose third coordinate is 1, the query block whose selected keys are the first 1024:
    the pieces it stores into the result's staging buffer (found by the run), and its triple. -/
def run1 (c : Dev nD) (i : grid0.Coords) (hi : (i 2).val = 1) (a0 : Memref sig .tc .vmem S512x512 .bf16) (h0 : a0.IsWhole) (a1 : Memref sig .tc .vmem S2048x128 .bf16) (h1 : a1.IsWhole) (a2 : Memref sig .tc .vmem S2048x128 .bf16) (h2 : a2.IsWhole) (a3 : Memref sig .tc .vmem S2048x128 .bf16) (h3 : a3.IsWhole) (a4 : Memref sig .tc .vmem S2048x128 .bf16) (h4 : a4.IsWhole) (a5 : Memref sig .tc .vmem S1x1x128x128 .bf16) (h5 : a5.IsWhole) (a6 : Memref sig .tc .vmem S1x1x128x128 .bf16) (h6 : a6.IsWhole) (a7 : Memref sig .tc .vmem S512x128 .f32) (h7 : a7.IsWhole) (a8 : Memref sig .tc .vmem S512x512 .bf16) (h8 : a8.IsWhole)
    (x0 : Vec F S512x512 .bf16) (x1 : Vec F S2048x128 .bf16) (x2 : Vec F S2048x128 .bf16) (x3 : Vec F S2048x128 .bf16) (x4 : Vec F S2048x128 .bf16) (x5 : Vec F S1x1x128x128 .bf16) (x6 : Vec F S1x1x128x128 .bf16) (x7 : Vec F S512x128 .f32) :
    { L : List (View.Piece (Elt F) S512x512 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L)) -∗ K ⟨⟩))
          ⊢ wp frame (wpE (defs₀ (F := F)) Variants.none c none) E (cc0_nsa_prompt_attention i a0 h0 a1 h1 a2 h2 a3 h3 a4 h4 a5 h5 a6 h6 a7 h7 a8 h8) K } := by
  refine ⟨?_, fun E K => ?run⟩
  case run =>
    simp only [cc0_nsa_prompt_attention_eq_skeleton]; unfold cc0_nsa_prompt_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
    sl_exec (disch := (first | sl_exact (by decide +kernel : ∀ i : grid0.Coords, (i 2).val = 1 → run1.sl.v660 i = 1#1) i hi | sl_exact (by decide +kernel : ∀ i : grid0.Coords, (i 2).val = 1 → ¬ run1.sl.v728 i = 1#1) i hi | sl_exact (by decide +kernel : ∀ i : grid0.Coords, (i 2).val = 1 → run1.sl.v731 i = 1#1) i hi))
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

set_option maxHeartbeats 2000000 in
/-- The body at a point whose third coordinate is 2, the query block whose selected keys are the first 1536:
    the pieces it stores into the result's staging buffer (found by the run), and its triple. -/
def run2 (c : Dev nD) (i : grid0.Coords) (hi : (i 2).val = 2) (a0 : Memref sig .tc .vmem S512x512 .bf16) (h0 : a0.IsWhole) (a1 : Memref sig .tc .vmem S2048x128 .bf16) (h1 : a1.IsWhole) (a2 : Memref sig .tc .vmem S2048x128 .bf16) (h2 : a2.IsWhole) (a3 : Memref sig .tc .vmem S2048x128 .bf16) (h3 : a3.IsWhole) (a4 : Memref sig .tc .vmem S2048x128 .bf16) (h4 : a4.IsWhole) (a5 : Memref sig .tc .vmem S1x1x128x128 .bf16) (h5 : a5.IsWhole) (a6 : Memref sig .tc .vmem S1x1x128x128 .bf16) (h6 : a6.IsWhole) (a7 : Memref sig .tc .vmem S512x128 .f32) (h7 : a7.IsWhole) (a8 : Memref sig .tc .vmem S512x512 .bf16) (h8 : a8.IsWhole)
    (x0 : Vec F S512x512 .bf16) (x1 : Vec F S2048x128 .bf16) (x2 : Vec F S2048x128 .bf16) (x3 : Vec F S2048x128 .bf16) (x4 : Vec F S2048x128 .bf16) (x5 : Vec F S1x1x128x128 .bf16) (x6 : Vec F S1x1x128x128 .bf16) (x7 : Vec F S512x128 .f32) :
    { L : List (View.Piece (Elt F) S512x512 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L)) -∗ K ⟨⟩))
          ⊢ wp frame (wpE (defs₀ (F := F)) Variants.none c none) E (cc0_nsa_prompt_attention i a0 h0 a1 h1 a2 h2 a3 h3 a4 h4 a5 h5 a6 h6 a7 h7 a8 h8) K } := by
  refine ⟨?_, fun E K => ?run⟩
  case run =>
    simp only [cc0_nsa_prompt_attention_eq_skeleton]; unfold cc0_nsa_prompt_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
    sl_exec (disch := (first | sl_exact (by decide +kernel : ∀ i : grid0.Coords, (i 2).val = 2 → run2.sl.v660 i = 1#1) i hi | sl_exact (by decide +kernel : ∀ i : grid0.Coords, (i 2).val = 2 → run2.sl.v728 i = 1#1) i hi | sl_exact (by decide +kernel : ∀ i : grid0.Coords, (i 2).val = 2 → ¬ run2.sl.v731 i = 1#1) i hi))
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

set_option maxHeartbeats 2000000 in
/-- The body at a point whose third coordinate is 3, the query block whose selected keys are the first 2048:
    the pieces it stores into the result's staging buffer (found by the run), and its triple. -/
def run3 (c : Dev nD) (i : grid0.Coords) (hi : (i 2).val = 3) (a0 : Memref sig .tc .vmem S512x512 .bf16) (h0 : a0.IsWhole) (a1 : Memref sig .tc .vmem S2048x128 .bf16) (h1 : a1.IsWhole) (a2 : Memref sig .tc .vmem S2048x128 .bf16) (h2 : a2.IsWhole) (a3 : Memref sig .tc .vmem S2048x128 .bf16) (h3 : a3.IsWhole) (a4 : Memref sig .tc .vmem S2048x128 .bf16) (h4 : a4.IsWhole) (a5 : Memref sig .tc .vmem S1x1x128x128 .bf16) (h5 : a5.IsWhole) (a6 : Memref sig .tc .vmem S1x1x128x128 .bf16) (h6 : a6.IsWhole) (a7 : Memref sig .tc .vmem S512x128 .f32) (h7 : a7.IsWhole) (a8 : Memref sig .tc .vmem S512x512 .bf16) (h8 : a8.IsWhole)
    (x0 : Vec F S512x512 .bf16) (x1 : Vec F S2048x128 .bf16) (x2 : Vec F S2048x128 .bf16) (x3 : Vec F S2048x128 .bf16) (x4 : Vec F S2048x128 .bf16) (x5 : Vec F S1x1x128x128 .bf16) (x6 : Vec F S1x1x128x128 .bf16) (x7 : Vec F S512x128 .f32) :
    { L : List (View.Piece (Elt F) S512x512 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L)) -∗ K ⟨⟩))
          ⊢ wp frame (wpE (defs₀ (F := F)) Variants.none c none) E (cc0_nsa_prompt_attention i a0 h0 a1 h1 a2 h2 a3 h3 a4 h4 a5 h5 a6 h6 a7 h7 a8 h8) K } := by
  refine ⟨?_, fun E K => ?run⟩
  case run =>
    simp only [cc0_nsa_prompt_attention_eq_skeleton]; unfold cc0_nsa_prompt_attention_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
    obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7
    sl_exec (disch := (first | sl_exact (by decide +kernel : ∀ i : grid0.Coords, (i 2).val = 3 → run3.sl.v660 i = 1#1) i hi | sl_exact (by decide +kernel : ∀ i : grid0.Coords, (i 2).val = 3 → run3.sl.v728 i = 1#1) i hi | sl_exact (by decide +kernel : ∀ i : grid0.Coords, (i 2).val = 3 → run3.sl.v731 i = 1#1) i hi))
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; iexact H8

end Cert.KernelIdeal.Attn

end
-- ==== Proof.Ideal.Frame.lean ====
/- The frame of `KernelIdeal`: what the attention body leaves in its result's staging buffer at every grid point, the
   pipeline's proof data over it, the body obligation by cases on the third coordinate, and the launch. -/
module

public import proofs.«01_k».proof.Proof.Ideal.Run
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A staging buffer of the result, through which its contents are stated. -/
abbrev VO : View sig .tc .vmem S512x512 .bf16 := (Memref.whole cc0_stg8_0 : Memref sig .tc .vmem S512x512 .bf16).view

/-- What a list of stores leaves in the result's block, read back over arbitrary contents. -/
def outOf (L : List (View.Piece (Elt F) S512x512 .bf16)) : Vec F S512x512 .bf16 :=
  VO.read (Elt F) (VO.writes (Elt F) VO.junk L)

/-- The stores of case 0 at point `t`, on the point's staging memrefs and input blocks. -/
abbrev stores0 (c : Dev nD) (t : Fin cfg0.N) (h : (grid0.coords t 2).val = 0) : List (View.Piece (Elt F) S512x512 .bf16) :=
  (run0 c (grid0.coords t) h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (X0_0 m c t) (iblk m c 1 t) (iblk m c 2 t) (iblk m c 3 t) (iblk m c 4 t) (iblk m c 5 t) (iblk m c 6 t) (X0_7 m c t)).1
/-- The stores of case 1 at point `t`, on the point's staging memrefs and input blocks. -/
abbrev stores1 (c : Dev nD) (t : Fin cfg0.N) (h : (grid0.coords t 2).val = 1) : List (View.Piece (Elt F) S512x512 .bf16) :=
  (run1 c (grid0.coords t) h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (X0_0 m c t) (iblk m c 1 t) (iblk m c 2 t) (iblk m c 3 t) (iblk m c 4 t) (iblk m c 5 t) (iblk m c 6 t) (X0_7 m c t)).1
/-- The stores of case 2 at point `t`, on the point's staging memrefs and input blocks. -/
abbrev stores2 (c : Dev nD) (t : Fin cfg0.N) (h : (grid0.coords t 2).val = 2) : List (View.Piece (Elt F) S512x512 .bf16) :=
  (run2 c (grid0.coords t) h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (X0_0 m c t) (iblk m c 1 t) (iblk m c 2 t) (iblk m c 3 t) (iblk m c 4 t) (iblk m c 5 t) (iblk m c 6 t) (X0_7 m c t)).1
/-- The stores of case 3 at point `t`, on the point's staging memrefs and input blocks. -/
abbrev stores3 (c : Dev nD) (t : Fin cfg0.N) (h : (grid0.coords t 2).val = 3) : List (View.Piece (Elt F) S512x512 .bf16) :=
  (run3 c (grid0.coords t) h (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (X0_0 m c t) (iblk m c 1 t) (iblk m c 2 t) (iblk m c 3 t) (iblk m c 4 t) (iblk m c 5 t) (iblk m c 6 t) (X0_7 m c t)).1

/-- The third coordinate is below four. -/
theorem coord_lt (t : Fin cfg0.N) : (grid0.coords t 2).val < 4 := (grid0.coords t 2).isLt

/-- The result's block after the body at point `t`. -/
def outAt (c : Dev nD) (t : Fin cfg0.N) : Vec F S512x512 .bf16 :=
  if h0 : (grid0.coords t 2).val = 0 then outOf (stores0 m c t h0)
  else if h1 : (grid0.coords t 2).val = 1 then outOf (stores1 m c t h1)
  else if h2 : (grid0.coords t 2).val = 2 then outOf (stores2 m c t h2)
  else outOf (stores3 m c t (by have := coord_lt t; omega))

theorem outAt_0 (c : Dev nD) (t : Fin cfg0.N) (h : (grid0.coords t 2).val = 0) : outAt m c t = outOf (stores0 m c t h) := by
  unfold outAt; rw [dif_pos h]
theorem outAt_1 (c : Dev nD) (t : Fin cfg0.N) (h : (grid0.coords t 2).val = 1) : outAt m c t = outOf (stores1 m c t h) := by
  unfold outAt; rw [dif_neg (by omega : ¬ (grid0.coords t 2).val = 0)]; rw [dif_pos h]
theorem outAt_2 (c : Dev nD) (t : Fin cfg0.N) (h : (grid0.coords t 2).val = 2) : outAt m c t = outOf (stores2 m c t h) := by
  unfold outAt; rw [dif_neg (by omega : ¬ (grid0.coords t 2).val = 0)]; rw [dif_neg (by omega : ¬ (grid0.coords t 2).val = 1)]; rw [dif_pos h]
theorem outAt_3 (c : Dev nD) (t : Fin cfg0.N) (h : (grid0.coords t 2).val = 3) : outAt m c t = outOf (stores3 m c t h) := by
  unfold outAt; rw [dif_neg (by omega : ¬ (grid0.coords t 2).val = 0)]; rw [dif_neg (by omega : ¬ (grid0.coords t 2).val = 1)]; rw [dif_neg (by omega : ¬ (grid0.coords t 2).val = 2)];

/-- The pipeline's proof data: the arrays as the region finds them, every input's buffer left at its block, the
    result's at `outAt`, nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => X0_7 m c t
    | ⟨8, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = X0_7 m c t := by dsimp only [dats]
theorem after_8 (c : Dev nD) (t : Fin cfg0.N) : (dats m 0 c).after 8 t = outAt m c t := by dsimp only [dats]
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = X0_7 m c t :=
  before0_7_of m (dats m 0 c) (A_eq m c 7) (after_7 m c) t d

/-- What the body is handed at point `t`, window by window. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it hands back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The stores of case 0 cover the block. -/
theorem cover0 (c : Dev nD) (t : Fin cfg0.N) (h : (grid0.coords t 2).val = 0) (y : S512x512.Idx) :
    ∃ pc ∈ stores0 m c t h, y ∈ pc.1.set :=
  View.cover_of_tiledL (stores0 m c t h) S512x128.size (by sl_kernel_rfl) y

set_option maxHeartbeats 1600000 in
/-- The body's triple at a point of case 0. -/
theorem body0 (c : Dev nD) (t : Fin cfg0.N) (h : (grid0.coords t 2).val = 0) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, outAt_0 m c t h]
  unfold outOf
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run0 c (grid0.coords t) h _ _ _ _ _ _ _ _ _ _ _ _ _ _ _ _ _ _ (X0_0 m c t) (iblk m c 1 t) (iblk m c 2 t) (iblk m c 3 t) (iblk m c 4 t) (iblk m c 5 t) (iblk m c 6 t) (X0_7 m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0 m c t h)

/-- The stores of case 1 cover the block. -/
theorem cover1 (c : Dev nD) (t : Fin cfg0.N) (h : (grid0.coords t 2).val = 1) (y : S512x512.Idx) :
    ∃ pc ∈ stores1 m c t h, y ∈ pc.1.set :=
  View.cover_of_tiledL (stores1 m c t h) S512x128.size (by sl_kernel_rfl) y

set_option maxHeartbeats 1600000 in
/-- The body's triple at a point of case 1. -/
theorem body1 (c : Dev nD) (t : Fin cfg0.N) (h : (grid0.coords t 2).val = 1) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, outAt_1 m c t h]
  unfold outOf
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run1 c (grid0.coords t) h _ _ _ _ _ _ _ _ _ _ _ _ _ _ _ _ _ _ (X0_0 m c t) (iblk m c 1 t) (iblk m c 2 t) (iblk m c 3 t) (iblk m c 4 t) (iblk m c 5 t) (iblk m c 6 t) (X0_7 m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover1 m c t h)

/-- The stores of case 2 cover the block. -/
theorem cover2 (c : Dev nD) (t : Fin cfg0.N) (h : (grid0.coords t 2).val = 2) (y : S512x512.Idx) :
    ∃ pc ∈ stores2 m c t h, y ∈ pc.1.set :=
  View.cover_of_tiledL (stores2 m c t h) S512x128.size (by sl_kernel_rfl) y

set_option maxHeartbeats 1600000 in
/-- The body's triple at a point of case 2. -/
theorem body2 (c : Dev nD) (t : Fin cfg0.N) (h : (grid0.coords t 2).val = 2) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, outAt_2 m c t h]
  unfold outOf
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run2 c (grid0.coords t) h _ _ _ _ _ _ _ _ _ _ _ _ _ _ _ _ _ _ (X0_0 m c t) (iblk m c 1 t) (iblk m c 2 t) (iblk m c 3 t) (iblk m c 4 t) (iblk m c 5 t) (iblk m c 6 t) (X0_7 m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover2 m c t h)

/-- The stores of case 3 cover the block. -/
theorem cover3 (c : Dev nD) (t : Fin cfg0.N) (h : (grid0.coords t 2).val = 3) (y : S512x512.Idx) :
    ∃ pc ∈ stores3 m c t h, y ∈ pc.1.set :=
  View.cover_of_tiledL (stores3 m c t h) S512x128.size (by sl_kernel_rfl) y

set_option maxHeartbeats 1600000 in
/-- The body's triple at a point of case 3. -/
theorem body3 (c : Dev nD) (t : Fin cfg0.N) (h : (grid0.coords t 2).val = 3) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, outAt_3 m c t h]
  unfold outOf
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run3 c (grid0.coords t) h _ _ _ _ _ _ _ _ _ _ _ _ _ _ _ _ _ _ (X0_0 m c t) (iblk m c 1 t) (iblk m c 2 t) (iblk m c 3 t) (iblk m c 4 t) (iblk m c 5 t) (iblk m c 6 t) (X0_7 m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover3 m c t h)

/-- The body's triple at every point: its case by the third coordinate. -/
theorem body (c : Dev nD) (t : Fin cfg0.N) :
    pre m c t ⊢ wp frame (wpE (defs₀ (F := F)) Variants.none c none) Set.univ (bodyAt0 t) (fun _ => post m c t) := by
  by_cases h0 : (grid0.coords t 2).val = 0
  · exact body0 m c t h0
  by_cases h1 : (grid0.coords t 2).val = 1
  · exact body1 m c t h1
  by_cases h2 : (grid0.coords t 2).val = 2
  · exact body2 m c t h2
  · exact body3 m c t (by have := coord_lt t; omega)

/-- The body table's row at point `t`. -/
theorem row (t : Fin cfg0.N) : defs₀ (F := F) .tc cfg0.body (cfg0.bodyArgs t (cfg0.slots t)) = bodyAt0 t := by
  unfold defs₀; rw [Defs.onTc_tc]

/-- The library's body obligation. -/
theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
set_option maxHeartbeats 800000 in
/-- The launch: the pipeline's arrays end as the proof data says, and every counter at zero. -/
theorem launch : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the arguments end as they were, and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.KernelIdeal.Attn

end
-- ==== Proof.Basics.lean ====
/- The claims other than the value: the three programs' frames, and the named constants' statements. -/
module

public import proofs.«01_k».proof.Defs
public import proofs.«01_k».proof.Proof.Gen.ReferenceIdeal.Run
public import proofs.«01_k».proof.Proof.Ideal.Frame
public import proofs.«01_k».proof.Proof.Bits.Frame
public import Idealize.ShloMosaic.Adequacy
public import Idealize.ShloMosaic.Init

@[expose] public section

noncomputable section

namespace Cert.Basics

open Idealize.ShloMosaic Idealize.SL.Sem

theorem kernel : Cert.quiescent_Kernel := fun m ρ _ => Cert.Kernel.Attn.framed (F := Bits) m ρ

theorem kernelIdeal : Cert.quiescent_KernelIdeal := fun m ρ _ => Cert.KernelIdeal.Attn.framed (F := Ideal) m ρ

theorem referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The named constants have the values the table gives them. -/
theorem preserves : Cert.preserves_Kernel_KernelIdeal :=
  ⟨IdealRules.named_const.statement _ _ _ _ _ rfl, IdealRules.named_const.statement _ _ _ _ _ rfl,
    IdealRules.named_const.statement _ _ _ _ _ rfl⟩

end Cert.Basics

end
-- ==== Proof.Math.Softmax.lean ====
module

public import Idealize.ShloMosaic.PureOps.Ideal.Laws
public import Idealize.ShloMosaic.Lib.Pointwise

@[expose] public section

noncomputable section

/-! # The masked softmax over the extended reals

`wt a s M` are the weights of the softmax of `a * s` over the keys where the mask `M` is true, zero where it is false
(and everywhere when it is nowhere true); `att a s M v` is their product with the values.
Both programs' branches are read as these two: whatever is subtracted from the scores before the exponential cancels. -/

namespace Cert.Nsa

open Idealize.ShloMosaic

variable {ι κ : Type} [Fintype ι] [Fintype κ]

/-- The exponential of the scaled score where the mask is true, zero elsewhere. -/
def ex (a : ℝ) (s : ι → ℝ) (M : ι → Bool) (k : ι) : ℝ := if M k then Real.exp (a * s k) else 0

/-- The weight of key `k` in the softmax over the unmasked keys. -/
def wt (a : ℝ) (s : ι → ℝ) (M : ι → Bool) (k : ι) : ℝ := ex a s M k / ∑ j, ex a s M j

/-- The values weighted by the masked softmax. -/
def att (a : ℝ) (s : ι → ℝ) (M : ι → Bool) (v : ι → EReal) : EReal := ∑ k, ((wt a s M k : ℝ) : EReal) * v k

theorem ex_nonneg (a : ℝ) (s : ι → ℝ) (M : ι → Bool) (k : ι) : 0 ≤ ex a s M k := by
  unfold ex; split
  · exact (Real.exp_pos _).le
  · exact le_rfl

theorem ex_of_false {a : ℝ} {s : ι → ℝ} {M : ι → Bool} {k : ι} (h : M k = false) : ex a s M k = 0 := by
  simp [ex, h]

theorem wt_of_false {a : ℝ} {s : ι → ℝ} {M : ι → Bool} {k : ι} (h : M k = false) : wt a s M k = 0 := by
  simp [wt, ex_of_false h]

theorem wt_nonneg (a : ℝ) (s : ι → ℝ) (M : ι → Bool) (k : ι) : 0 ≤ wt a s M k :=
  div_nonneg (ex_nonneg ..) (Finset.sum_nonneg fun _ _ => ex_nonneg ..)

theorem sum_ex_pos {a : ℝ} {s : ι → ℝ} {M : ι → Bool} {k : ι} (h : M k = true) : 0 < ∑ j, ex a s M j :=
  lt_of_lt_of_le (by simp only [ex, h, if_true]; exact Real.exp_pos _)
    (Finset.single_le_sum (f := fun j => ex a s M j) (fun j _ => ex_nonneg a s M j) (Finset.mem_univ k))

/-- Keys outside the image of `f` are masked: the sum is over `f`'s keys. -/
theorem sum_ex_comp (f : ι → κ) (hf : Function.Injective f) {a : ℝ} {s : κ → ℝ} {M : κ → Bool}
    (h : ∀ k, M k = true → k ∈ Set.range f) : ∑ j, ex a s M j = ∑ j, ex a (s ∘ f) (M ∘ f) j :=
  (Fintype.sum_of_injective f hf _ _
    (fun k hk => ex_of_false (by by_contra h'; exact hk (h k (by simpa using h')))) (fun _ => rfl)).symm

theorem wt_comp (f : ι → κ) (hf : Function.Injective f) {a : ℝ} {s : κ → ℝ} {M : κ → Bool}
    (h : ∀ k, M k = true → k ∈ Set.range f) (i : ι) : wt a s M (f i) = wt a (s ∘ f) (M ∘ f) i := by
  unfold wt; rw [sum_ex_comp f hf h]; rfl

theorem att_comp (f : ι → κ) (hf : Function.Injective f) {a : ℝ} {s : κ → ℝ} {M : κ → Bool} (v : κ → EReal)
    (h : ∀ k, M k = true → k ∈ Set.range f) : att a s M v = att a (s ∘ f) (M ∘ f) (v ∘ f) := by
  refine (Fintype.sum_of_injective f hf _ _ (fun k hk => ?_) (fun i => ?_)).symm
  · rw [wt_of_false (by by_contra h'; exact hk (h k (by simpa using h'))), EReal.coe_zero, zero_mul]
  · rw [wt_comp f hf h]; rfl

/-- A shift of every unmasked score cancels in the weights. -/
theorem wt_shift (a μ : ℝ) (s : ι → ℝ) (M : ι → Bool) (k : ι) :
    (if M k then Real.exp (a * s k - μ) else 0) / (∑ j, if M j then Real.exp (a * s j - μ) else 0) = wt a s M k := by
  have e : ∀ j, (if M j then Real.exp (a * s j - μ) else 0) = ex a s M j * Real.exp (-μ) := fun j => by
    unfold ex; split
    · rw [sub_eq_add_neg, Real.exp_add]
    · simp
  simp only [e, ← Finset.sum_mul]
  exact mul_div_mul_right _ _ (Real.exp_pos _).ne'

theorem coe_sum (f : ι → ℝ) : ((∑ k, f k : ℝ) : EReal) = ∑ k, ((f k : ℝ) : EReal) := by
  induction (Finset.univ : Finset ι) using Finset.cons_induction with
  | empty => simp
  | cons a s h ih => rw [Finset.sum_cons, Finset.sum_cons, EReal.coe_add, ih]

theorem coe_ite (c : Bool) (x y : ℝ) : (((if c then x else y : ℝ)) : EReal) = if c then (x : EReal) else (y : EReal) := by
  cases c <;> rfl

/-- A real factor that is not negative goes into a sum of extended reals. -/
theorem sum_mul_coe (f : ι → EReal) {r : ℝ} (hr : 0 ≤ r) : (∑ k, f k) * (r : EReal) = ∑ k, f k * (r : EReal) := by
  induction (Finset.univ : Finset ι) using Finset.cons_induction with
  | empty => simp
  | cons a s h ih =>
    rw [Finset.sum_cons, Finset.sum_cons, ← ih]
    exact EReal.right_distrib_of_nonneg_of_ne_top (by exact_mod_cast hr) (EReal.coe_ne_top r) _ _

/-- The maximum of scores that are reals where the mask is true and `⊥` elsewhere is a real where the mask is true at
    a key. -/
theorem fold_max_real {M : ι → Bool} {f : ι → ℝ} {k : ι} (h : M k = true) :
    ∃ μ : ℝ, (Finset.univ.fold max ⊥ fun j => if M j then (f j : EReal) else ⊥) = μ := by
  change ∃ μ : ℝ, (Finset.univ.sup fun j => if M j then (f j : EReal) else ⊥) = μ
  obtain ⟨i, -, hi⟩ := Finset.exists_mem_eq_sup (Finset.univ : Finset ι) ⟨k, Finset.mem_univ k⟩
    (fun j => if M j then (f j : EReal) else ⊥)
  rw [hi]
  cases hM : M i
  · exfalso
    have : (fun j => if M j then (f j : EReal) else ⊥) k ≤ _ :=
      Finset.le_sup (f := fun j => if M j then (f j : EReal) else ⊥) (Finset.mem_univ k)
    rw [hi] at this
    simp only [h, hM, if_true] at this
    exact absurd this (by simp)
  · exact ⟨f i, by simp⟩

theorem fold_max_bot {f : ι → EReal} (h : ∀ k, f k = ⊥) : Finset.univ.fold max ⊥ f = ⊥ := by
  change Finset.univ.sup f = ⊥
  exact Finset.sup_eq_bot_iff _ _ |>.mpr fun k _ => h k

/-- The reference's weight: the scores masked with `⊥`, their exponentials from the maximum, the quotient by their
    sum, masked again. -/
theorem wt_quotient (a : ℝ) (s : ι → ℝ) (M : ι → Bool) (z : ι → EReal) (hz : ∀ k, z k = if M k then ((a * s k : ℝ) : EReal) else ⊥)
    (k : ι) : (if M k then Ideal.div (Ideal.exp (z k - Finset.univ.fold max ⊥ z))
        (∑ j, Ideal.exp (z j - Finset.univ.fold max ⊥ z)) else 0) = ((wt a s M k : ℝ) : EReal) := by
  obtain rfl : z = _ := funext hz
  cases h : M k
  · simp [wt_of_false h]
  · obtain ⟨μ, hμ⟩ := fold_max_real (f := fun k => a * s k) h
    have e : ∀ j, Ideal.exp ((if M j then ((a * s j : ℝ) : EReal) else ⊥) - (μ : EReal))
        = ((if M j then Real.exp (a * s j - μ) else 0 : ℝ) : EReal) := fun j => by
      cases M j
      · simp
      · simp only [if_true]; rw [← EReal.coe_sub, Ideal.exp_coe]
    simp only [hμ, e, ← coe_sum]
    rw [if_pos trivial, Ideal.div_coe, ← wt_shift a μ s M k, ← EReal.coe_mul, mul_one_div]
    have : ∀ j, (if M j then Real.exp (a * s j - μ) else 0) = ex a s M j * Real.exp (-μ) := fun j => by
      unfold ex; split
      · rw [sub_eq_add_neg, Real.exp_add]
      · simp
    simp only [this, ← Finset.sum_mul]
    exact (mul_pos (sum_ex_pos h) (Real.exp_pos _)).ne'

/-- The kernel's compressed weight: the product with the reciprocal of the sum, of one where the sum is zero. -/
theorem wt_reciprocal (a : ℝ) (s : ι → ℝ) (M : ι → Bool) (z : ι → EReal) (hz : ∀ k, z k = if M k then ((a * s k : ℝ) : EReal) else ⊥)
    (k : ι) : (if M k then Ideal.exp (z k - Finset.univ.fold max ⊥ z) else 0) *
        Ideal.div 1 (if 0 < ∑ j, (if M j then Ideal.exp (z j - Finset.univ.fold max ⊥ z) else 0) then
          ∑ j, (if M j then Ideal.exp (z j - Finset.univ.fold max ⊥ z) else 0) else 1) = ((wt a s M k : ℝ) : EReal) := by
  obtain rfl : z = _ := funext hz
  cases h : M k
  · simp [wt_of_false h]
  · obtain ⟨μ, hμ⟩ := fold_max_real (f := fun k => a * s k) h
    have e : ∀ j, (if M j then Ideal.exp ((if M j then ((a * s j : ℝ) : EReal) else ⊥) - (μ : EReal)) else 0)
        = ((if M j then Real.exp (a * s j - μ) else 0 : ℝ) : EReal) := fun j => by
      cases M j
      · simp
      · simp only [if_true]; rw [← EReal.coe_sub, Ideal.exp_coe]
    have hpos : 0 < ∑ j, if M j then Real.exp (a * s j - μ) else 0 := by
      have : ∀ j, (if M j then Real.exp (a * s j - μ) else 0) = ex a s M j * Real.exp (-μ) := fun j => by
        unfold ex; split
        · rw [sub_eq_add_neg, Real.exp_add]
        · simp
      simp only [this, ← Finset.sum_mul]
      exact mul_pos (sum_ex_pos h) (Real.exp_pos _)
    have ek := e k
    rw [h] at ek
    simp only [hμ, e, ← coe_sum]
    simp only [h, if_true] at ek
    have hpos' : (0 : EReal) < ((∑ j, if M j then Real.exp (a * s j - μ) else 0 : ℝ) : EReal) := by exact_mod_cast hpos
    rw [if_pos hpos', Ideal.div_coe hpos.ne', one_mul]
    simp only [if_true, h]
    rw [ek, ← EReal.coe_mul, mul_one_div, ← wt_shift a μ s M k]
    simp [h]

/-- The kernel's bias form: the unscaled scores plus a bias that is zero or `⊥`, powers of two from their maximum, the
    product with the values, times the reciprocal of the sum. -/
theorem att_bias (a c : ℝ) (hc : 0 < c) (hac : ∀ x : ℝ, (2 : ℝ) ^ (x * c) = Real.exp (a * x)) (s : ι → ℝ) (M : ι → Bool)
    (v z : ι → EReal) (hz : ∀ k, z k = if M k then ((s k : ℝ) : EReal) else ⊥) :
    (∑ k, Ideal.exp2 ((z k - Finset.univ.fold max ⊥ z) * (c : EReal)) * v k) *
        Ideal.div 1 (∑ k, Ideal.exp2 ((z k - Finset.univ.fold max ⊥ z) * (c : EReal))) = att a s M v := by
  by_cases hM : ∃ k, M k = true
  · obtain ⟨k, h⟩ := hM
    obtain rfl : z = _ := funext hz
    obtain ⟨μ, hμ⟩ := fold_max_real (f := fun k => s k) h
    have e : ∀ j, Ideal.exp2 (((if M j then ((s j : ℝ) : EReal) else ⊥) - (μ : EReal)) * (c : EReal))
        = ((if M j then Real.exp (a * s j - a * μ) else 0 : ℝ) : EReal) := fun j => by
      cases M j
      · simp [EReal.bot_mul_coe_of_pos hc]
      · simp only [if_true]
        rw [← EReal.coe_sub, ← EReal.coe_mul, Ideal.exp2_coe]
        congr 1
        exact (hac _).trans (by rw [mul_sub])
    have hpos : 0 < ∑ j, if M j then Real.exp (a * s j - a * μ) else 0 := by
      have : ∀ j, (if M j then Real.exp (a * s j - a * μ) else 0) = ex a s M j * Real.exp (-(a * μ)) := fun j => by
        unfold ex; split
        · rw [sub_eq_add_neg, Real.exp_add]
        · simp
      simp only [this, ← Finset.sum_mul]
      exact mul_pos (sum_ex_pos h) (Real.exp_pos _)
    simp only [hμ, e, ← coe_sum]
    rw [Ideal.div_coe hpos.ne', one_mul, sum_mul_coe _ (by positivity)]
    unfold att
    refine Finset.sum_congr rfl fun k _ => ?_
    rw [mul_right_comm, ← EReal.coe_mul, mul_one_div, wt_shift]
  · have hM' : ∀ k, M k = false := fun k => by by_contra h; exact hM ⟨k, by simpa using h⟩
    have hz' : ∀ k, z k = ⊥ := fun k => by rw [hz, hM']; rfl
    simp [fold_max_bot hz', hz', EReal.bot_mul_coe_of_pos hc, att, wt_of_false (hM' _)]

end Cert.Nsa
-- ==== Proof.Math.Rank.lean ====
module

public import Idealize.ShloMosaic.Lib.SortFacts
public import Idealize.ShloMosaic.Lib.Pointwise

@[expose] public section

noncomputable section

/-! # The stable sort's slot is the rank

The kernel marks the blocks whose rank is below sixteen, the reference compares every block with the sixteen slots of
a stable descending sort. The slot a block lands in is its rank: the number of blocks that score more, or as much at a
smaller index. -/

namespace Cert.Nsa

open Idealize.ShloMosaic

variable {n : Nat}

/-- Block `a` comes before block `b`: it scores more, or as much and has the smaller index. -/
def Before (x : Fin n → EReal) (a b : Fin n) : Prop := x b < x a ∨ (x a = x b ∧ a < b)

open Classical in
/-- How many blocks come before block `j`. -/
def rank (x : Fin n → EReal) (j : Fin n) : ℕ := (Finset.univ.filter fun a => Before x a j).card

theorem before_trans {x : Fin n → EReal} {a b c : Fin n} (h : Before x a b) (h' : Before x b c) : Before x a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

theorem before_asymm {x : Fin n → EReal} {a b : Fin n} (h : Before x a b) : ¬ Before x b a := by
  rintro (h' | ⟨h', hi'⟩) <;> rcases h with h | ⟨h, hi⟩
  · exact lt_asymm h h'
  · exact absurd h' (by rw [h]; exact lt_irrefl _)
  · exact absurd h (by rw [h']; exact lt_irrefl _)
  · exact absurd hi (by omega)

theorem before_total {x : Fin n → EReal} {a b : Fin n} (h : a ≠ b) : Before x a b ∨ Before x b a := by
  rcases lt_trichotomy (x a) (x b) with hx | hx | hx
  · exact .inr (.inl hx)
  · rcases lt_or_gt_of_ne h with hi | hi
    · exact .inl (.inr ⟨hx, hi⟩)
    · exact .inr (.inr ⟨hx.symm, hi⟩)
  · exact .inl (.inl hx)

theorem before_insert (x : Fin n → EReal) (a : Fin n) (l : List (Fin n)) (ha : ∀ b ∈ l, a < b)
    (hl : l.Pairwise (Before x)) : (insertBefore (fun a b => decide (x b < x a)) a l).Pairwise (Before x) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore _ a l).mem_iff.mp hc) with rfl | hc'
      · exact .inl (of_decide_eq_true h)
      · exact hl.1 c hc'
    · rename_i h
      have hab : Before x a b := by
        have h' : ¬ x a < x b := by simpa using h
        rcases lt_or_eq_of_le (not_lt.mp h') with h1 | h1
        · exact .inl h1
        · exact .inr ⟨h1.symm, ha b List.mem_cons_self⟩
      refine List.pairwise_cons.mpr ⟨fun c hc => ?_, List.pairwise_cons.mpr hl⟩
      rcases List.mem_cons.mp hc with rfl | hc'
      · exact hab
      · exact before_trans hab (hl.1 c hc')

theorem before_stableSort (x : Fin n → EReal) (l : List (Fin n)) (hl : l.Pairwise (· < ·)) :
    (stableSort (fun a b => decide (x b < x a)) l).Pairwise (Before x) := by
  induction l with
  | nil => exact List.Pairwise.nil
  | cons a l ih =>
    rw [List.pairwise_cons] at hl
    unfold stableSort
    exact before_insert x a _ (fun b hb => hl.1 b ((perm_stableSort _ l).mem_iff.mp hb)) (ih hl.2)

/-- The block in slot `s` of the stable descending sort. -/
abbrev slot (x : Fin n → EReal) (s : Fin n) : Fin n := sortedFrom (fun a b => decide (x b < x a)) s

theorem before_slot (x : Fin n → EReal) {s t : Fin n} (h : s < t) : Before x (slot x s) (slot x t) := by
  have hp := List.pairwise_iff_get.mp (before_stableSort x (List.finRange n) (List.pairwise_lt_finRange n))
  exact hp (s.cast (length_sortPositions n _).symm) (t.cast (length_sortPositions n _).symm) (by simp only [Fin.lt_def, Fin.val_cast]; exact h)

theorem rank_slot (x : Fin n → EReal) (s : Fin n) : rank x (slot x s) = s := by
  classical
  have hs := sortedFrom_surjective (fun a b => decide (x b < x a))
  have hi := sortedFrom_injective (fun a b => decide (x b < x a))
  have : (Finset.univ.filter fun a => Before x a (slot x s)) = (Finset.univ.filter fun t => t < s).image (slot x) := by
    ext a
    simp only [Finset.mem_filter, Finset.mem_univ, true_and, Finset.mem_image]
    constructor
    · intro h
      obtain ⟨t, rfl⟩ := hs a
      refine ⟨t, ?_, rfl⟩
      by_contra hts
      rcases lt_or_eq_of_le (not_lt.mp hts) with h1 | h1
      · exact before_asymm h (before_slot x h1)
      · subst h1; exact before_asymm h h
    · rintro ⟨t, ht, rfl⟩
      exact before_slot x ht
  unfold rank
  have e : (Finset.univ.filter fun t : Fin n => t < s).card = s := by
    rw [← Finset.card_map Fin.valEmbedding]
    have : (Finset.univ.filter fun t : Fin n => t < s).map Fin.valEmbedding = Finset.range s := by
      ext m
      simp only [Finset.mem_map, Finset.mem_filter, Finset.mem_univ, true_and, Finset.mem_range, Fin.valEmbedding_apply]
      constructor
      · rintro ⟨t, ht, rfl⟩; exact ht
      · intro hm; exact ⟨⟨m, hm.trans s.isLt⟩, hm, rfl⟩
    rw [this, Finset.card_range]
  calc _ = ((Finset.univ.filter fun t => t < s).image (slot x)).card := by
        rw [← this]
    _ = _ := by rw [Finset.card_image_of_injective _ hi, e]

/-- A block is in one of the first `m` slots exactly if its rank is below `m`. -/
theorem slot_iff_rank (x : Fin n → EReal) (m : ℕ) (j : Fin n) (P : Fin n → Prop) :
    (∃ s : Fin n, s.val < m ∧ slot x s = j ∧ P (slot x s)) ↔ rank x j < m ∧ P j := by
  constructor
  · rintro ⟨s, hs, rfl, hP⟩
    exact ⟨by rw [rank_slot]; exact hs, hP⟩
  · rintro ⟨hr, hP⟩
    obtain ⟨s, rfl⟩ := sortedFrom_surjective (fun a b => decide (x b < x a)) j
    exact ⟨s, by rw [← rank_slot x s]; exact hr, rfl, hP⟩

end Cert.Nsa
-- ==== Proof.Math.Spec.lean ====
/- What one query of one key head computes: the three attentions, the blocks selected, the gated sum. -/
module

public import proofs.«01_k».proof.Proof.Math.Softmax
public import proofs.«01_k».proof.Proof.Math.Rank

@[expose] public section

noncomputable section

namespace Cert.Nsa

open Idealize.ShloMosaic

/-- The scale of the scores, `1 / √128`. -/
def scale : ℝ := (Real.sqrt 128)⁻¹

/-- An extended real that is a real number. -/
def IsReal (x : EReal) : Prop := x = ((x.toReal : ℝ) : EReal)

/-- The product of a query and a key, of their real parts. -/
def dotR (a b : Fin 128 → EReal) : ℝ := ∑ e, (a e).toReal * (b e).toReal

theorem dot_real {a b : Fin 128 → EReal} (ha : ∀ e, IsReal (a e)) (hb : ∀ e, IsReal (b e)) :
    ∑ e, a e * b e = ((dotR a b : ℝ) : EReal) := by
  unfold dotR
  rw [coe_sum]
  refine Finset.sum_congr rfl fun e _ => ?_
  rw [EReal.coe_mul, ← ha e, ← hb e]

/-- The compressed blocks that end at or before position `t`. -/
def cmpMask (t : ℕ) (k : Fin 128) : Bool := decide (16 * k.val + 31 ≤ t)

/-- The weight of compressed block `k` for a query at `t` whose scores are `s`. -/
def cmpW (s : Fin 128 → ℝ) (t : ℕ) (k : Fin 128) : ℝ := wt scale s (cmpMask t) k

/-- The importance of selection block `j`: the weights of its four compressed blocks, over the four heads. -/
def imp (s : Fin 4 → Fin 128 → ℝ) (t : ℕ) (j : Fin 32) : ℝ :=
  ∑ l : Fin 4, ∑ r, cmpW (s r) t ⟨4 * j.val + l.val, by omega⟩

/-- The score of selection block `j`: the first, the query's and the one before are forced, later ones are out. -/
def score (s : Fin 4 → Fin 128 → ℝ) (t : ℕ) (j : Fin 32) : EReal :=
  if j.val ≤ t / 64 then
    if j.val = 0 ∨ j.val = t / 64 ∨ j.val + 1 = t / 64 then Ideal.ofBits FTy.f32 1315859240#32 else ((imp s t j : ℝ) : EReal)
  else Ideal.ofBits FTy.f32 3212836864#32

/-- The selected blocks: the sixteen of the greatest scores, ties to the earlier, that aren't out. -/
def sel (s : Fin 4 → Fin 128 → ℝ) (t : ℕ) (j : Fin 32) : Prop := rank (score s t) j < 16 ∧ 0 ≤ score s t j

open scoped Classical in
/-- The keys of the selected blocks up to the query. -/
def selMask (s : Fin 4 → Fin 128 → ℝ) (t : ℕ) (k : Fin 2048) : Bool := decide (sel s t ⟨k.val / 64, by omega⟩ ∧ k.val ≤ t)

/-- The last 512 keys up to the query. -/
def winMask (t : ℕ) (k : Fin 2048) : Bool := decide (k.val ≤ t ∧ t < k.val + 512)

/-- One query's result: the gated sum of the compressed, the selected and the window attention of head `r`. -/
def out (q : Fin 4 → Fin 128 → EReal) (kc vc : Fin 128 → Fin 128 → EReal) (ks vs kw vw : Fin 2048 → Fin 128 → EReal)
    (g : Fin 128 → EReal) (t : ℕ) (r : Fin 4) (d : Fin 128) : EReal :=
  g ⟨r.val, by omega⟩ * att scale (fun k => dotR (q r) (kc k)) (cmpMask t) (fun k => vc k d)
    + g ⟨4 + r.val, by omega⟩ * att scale (fun k => dotR (q r) (ks k)) (selMask (fun r k => dotR (q r) (kc k)) t) (fun k => vs k d)
    + g ⟨8 + r.val, by omega⟩ * att scale (fun k => dotR (q r) (kw k)) (winMask t) (fun k => vw k d)

end Cert.Nsa
end
-- ==== Proof.Math.Result.lean ====
/- The result of the whole call, entry by entry, from its five arguments. -/
module

public import proofs.«01_k».proof.Proof.Math.Spec
public import Idealize.ShloMosaic.Lib.Pointwise

@[expose] public section

noncomputable section

namespace Cert.Nsa

open Idealize.ShloMosaic

abbrev Queries := Vec Ideal (⟨2, ![8256, 2048]⟩ : Shape) .bf16
abbrev Keys := Vec Ideal (⟨2, ![8192, 1024]⟩ : Shape) .bf16
abbrev Blocks := Vec Ideal (⟨4, ![4, 8, 128, 128]⟩ : Shape) .bf16
abbrev Gates := Vec Ideal (⟨2, ![8256, 512]⟩ : Shape) .f32

section
variable (Q : Queries) (S W : Keys) (C : Blocks) (G : Gates) (b g : Fin 4)

/-- The queries of sequence `b`, position `t`, key head `g`, by head. -/
abbrev qOf (t : Fin 2048) (r : Fin 4) (e : Fin 128) : EReal := Q (ix2 ⟨2048 * b.val + t.val, by omega⟩ ⟨512 * g.val + (128 * r.val + e.val), by omega⟩)
/-- The keys of sequence `b`, key head `g`. -/
abbrev kOf (y : Fin 2048) (e : Fin 128) : EReal := S (ix2 ⟨2048 * b.val + y.val, by omega⟩ ⟨128 * g.val + e.val, by omega⟩)
/-- Its values. -/
abbrev vOf (y : Fin 2048) (e : Fin 128) : EReal := S (ix2 ⟨2048 * b.val + y.val, by omega⟩ ⟨128 * (g.val + 4) + e.val, by omega⟩)
/-- Its compressed keys. -/
abbrev kcOf (k e : Fin 128) : EReal := C (ix4 b ⟨g.val, by omega⟩ k e)
/-- Its compressed values. -/
abbrev vcOf (k e : Fin 128) : EReal := C (ix4 b ⟨g.val + 4, by omega⟩ k e)
/-- The gates. -/
abbrev gOf (t : Fin 2048) (k : Fin 128) : EReal := G (ix2 ⟨2048 * b.val + t.val, by omega⟩ ⟨128 * g.val + k.val, by omega⟩)

/-- The attention of sequence `b`, key head `g`, position `t`, head `r`, at `d`. -/
def result (t : Fin 2048) (r : Fin 4) (d : Fin 128) : EReal :=
  out (qOf Q b g t) (kcOf C b g) (vcOf C b g) (kOf S b g) (vOf S b g) (kOf W b g) (vOf W b g) (gOf G b g t) t.val r d

end

/-- The finiteness that the comparison of the two computations needs: of the queries, the keys and the compressed keys. -/
structure Finite (Q : Queries) (S W : Keys) (C : Blocks) : Prop where
  q : ∀ b g t r e, IsReal (qOf Q b g t r e)
  ks : ∀ b g y e, IsReal (kOf S b g y e)
  kw : ∀ b g y e, IsReal (kOf W b g y e)
  kc : ∀ b g k e, IsReal (kcOf C b g k e)

/-- The result as an array. -/
def resultArr (Q : Queries) (S W : Keys) (C : Blocks) (G : Gates) (i : (⟨2, ![8192, 2048]⟩ : Shape).Idx) : EReal :=
  have h0 : (i 0).val < 8192 := (i 0).isLt
  have h1 : (i 1).val < 2048 := (i 1).isLt
  result Q S W C G ⟨(i 0).val / 2048, by omega⟩ ⟨(i 1).val / 512, by omega⟩ ⟨(i 0).val % 2048, by omega⟩ ⟨(i 1).val % 512 / 128, by omega⟩ ⟨(i 1).val % 128, by omega⟩

theorem resultArr_of (Q : Queries) (S W : Keys) (C : Blocks) (G : Gates) (i : (⟨2, ![8192, 2048]⟩ : Shape).Idx) (b g : Fin 4) (t : Fin 2048) (r : Fin 4) (d : Fin 128)
    (h0 : (i 0).val = 2048 * b.val + t.val) (h1 : (i 1).val = 512 * g.val + (128 * r.val + d.val)) :
    resultArr Q S W C G i = result Q S W C G b g t r d := by
  have hb : (i 0).val / 2048 = b.val := by omega
  have ht : (i 0).val % 2048 = t.val := by omega
  have hg : (i 1).val / 512 = g.val := by omega
  have hr : (i 1).val % 512 / 128 = r.val := by omega
  have hd : (i 1).val % 128 = d.val := by omega
  unfold resultArr
  simp only [hb, ht, hg, hr, hd]

end Cert.Nsa

end
-- ==== Proof.Pre.lean ====
/- The precondition: its side conditions, and what it says of the entries. -/
module

public import proofs.«01_k».proof.Pre_finite
public import proofs.«01_k».proof.Proof.Math.Result
public import Idealize.ShloMosaic.Lib.ReduceAll
public import Idealize.ShloMosaic.Lib.Pointwise

@[expose] public section

noncomputable section

namespace Cert.Pre_finite

open Idealize.ShloMosaic Cert.Nsa

instance facts : Facts where
  slices_S8256x2048_S8192x2048_0_0 := by decide
  bitsLt_bf16_f32 := by decide
  bcast_S_S8192x2048 := by decide
  reducesTo_S8192x2048_S_d0_1 := by decide
  h_S_ := by decide
  slices_S8192x1024_S8192x512_0_0 := by decide
  bcast_S_S8192x512 := by decide
  reducesTo_S8192x512_S_d0_1 := by decide
  slices_S4x8x128x128_S4x4x128x128_0_0_0_0 := by decide
  bcast_S_S4x4x128x128 := by decide
  reducesTo_S4x4x128x128_S_d0_1_2_3 := by decide

instance : Subsingleton S_.Idx := ⟨fun _ _ => funext fun a => a.elim0⟩

theorem isReal_of_abs {x : EReal} (h : max x (-x) < ⊤) : IsReal x := by
  unfold IsReal
  induction x with
  | bot => simp at h
  | top => simp at h
  | coe x => rfl

/-- An array whose entries' absolute values are all below the infinity is real. -/
theorem all_real {s : Shape} {axes : List (Fin s.rank)} (x : FVec Ideal s .bf16) (hb : FTy.bits .bf16 < FTy.bits .f32) (hB : S_.BroadcastsInDim s (![] : Fin 0 → Fin s.rank))
    (hr : s.ReducesTo axes S_) (hS : 0 < S_.numel) (j : S_.Idx)
    (h : Host.reduce IntOp.andi (cmpf .olt (Host.absf (extf .f32 x hb)) (broadcastInDim s ![] hB (constant (F := Ideal) S_ .f32 0x7F800000#32))) (constantI S_ 1 1#1) hr hS j = 1#1)
    (i : s.Idx) : IsReal (x i) := by
  have e := Host.reduce_andi_all _ _ hr hS j h i
  have e' : BitVec.ofBool (decide (max (x i : EReal) (-(x i : EReal)) < Ideal.ofBits .f32 0x7F800000#32)) = 1#1 := e
  refine isReal_of_abs ?_
  by_contra hn
  rw [show Ideal.ofBits .f32 0x7F800000#32 = (⊤ : EReal) by simp [Ideal.ofBits, Ideal.ieee], decide_eq_false hn] at e'
  exact absurd e' (by decide)

/-- The entries of a slice from the start of an array. -/
theorem slice2 {m n m' n' : ℕ} (x : FVec Ideal ⟨2, ![m, n]⟩ .bf16) (hm : m' ≤ m) (hn : n' ≤ n) (h : (⟨2, ![m, n]⟩ : Shape).Slices ![0, 0] ⟨2, ![m', n']⟩) (i : Fin m') (j : Fin n') :
    extractStridedSlice ⟨2, ![m', n']⟩ ![0, 0] x h (ix2 i j) = x (ix2 ⟨i.val, by omega⟩ ⟨j.val, by omega⟩) := by
  unfold extractStridedSlice
  congr 1
  funext a
  fin_cases a <;> exact Fin.ext (Nat.zero_add _)

theorem slice4 {m n m' n' k l : ℕ} (x : FVec Ideal ⟨4, ![m, n, k, l]⟩ .bf16) (hm : m' ≤ m) (hn : n' ≤ n)
    (h : (⟨4, ![m, n, k, l]⟩ : Shape).Slices ![0, 0, 0, 0] ⟨4, ![m', n', k, l]⟩) (a : Fin m') (b : Fin n') (c : Fin k) (d : Fin l) :
    extractStridedSlice ⟨4, ![m', n', k, l]⟩ ![0, 0, 0, 0] x h (ix4 a b c d) = x (ix4 ⟨a.val, by omega⟩ ⟨b.val, by omega⟩ c d) := by
  unfold extractStridedSlice
  congr 1
  funext a
  fin_cases a <;> exact Fin.ext (Nat.zero_add _)

variable (Q : Queries) (S W : Keys) (C : Blocks) (G : Gates)

theorem finite_of (h : fn (F := Ideal) Q S W C G = fun _ => 1#1) : Finite Q S W C := by
  have h := congrFun h (fun a : Fin 0 => a.elim0)
  unfold fn fn_part1 at h
  dsimp only at h
  obtain ⟨h, h3⟩ := IntOp.andi_eq_one.1 h
  obtain ⟨h, h2⟩ := IntOp.andi_eq_one.1 h
  obtain ⟨h0, h1⟩ := IntOp.andi_eq_one.1 h
  have h0 := all_real _ _ _ _ _ _ h0
  have h1 := all_real _ _ _ _ _ _ h1
  have h2 := all_real _ _ _ _ _ _ h2
  have h3 := all_real _ _ _ _ _ _ h3
  refine ⟨fun b g t r e => ?_, fun b g y e => ?_, fun b g y e => ?_, fun b g k e => ?_⟩
  · have := h0 (ix2 ⟨2048 * b.val + t.val, by omega⟩ ⟨512 * g.val + (128 * r.val + e.val), by omega⟩)
    rwa [slice2 _ (by omega) (by omega)] at this
  · have := h1 (ix2 ⟨2048 * b.val + y.val, by omega⟩ ⟨128 * g.val + e.val, by omega⟩)
    rwa [slice2 _ (by omega) (by omega)] at this
  · have := h2 (ix2 ⟨2048 * b.val + y.val, by omega⟩ ⟨128 * g.val + e.val, by omega⟩)
    rwa [slice2 _ (by omega) (by omega)] at this
  · have := h3 (ix4 b g k e)
    rwa [slice4 _ (by omega) (by omega)] at this

end Cert.Pre_finite

end
-- ==== Proof.Val.Head.lean ====
/- The kernel's masked attention of one query head over `n` keys (`head`), and the words of its body that compute it:
   the window's four heads and the four heads of each branch of the switch. -/
module

public import proofs.«01_k».proof.Proof.Gen.KernelIdeal.Skeleton
public import proofs.«01_k».proof.Proof.Math.Softmax

@[expose] public section

set_option maxRecDepth 16384

noncomputable section

namespace Cert.KernelIdeal.Words

open Cert.KernelIdeal Cert.KernelIdeal.Gen Idealize.ShloMosaic

/-- The kernel's attention of one query: powers of two of the biased scores, from their maximum. -/
def head {n : ℕ} (s b v : Fin n → EReal) : EReal :=
  (∑ k, FloatOps.exp2 (F := Ideal) (φ := .f32) ((s k + b k - Finset.fold max (Ideal.ofBits FTy.f32 4286578688#32) (fun k => s k + b k) Finset.univ) *
      Named.named (F := Ideal) (φ := .f32) κ "scale_log2e" 0x3E0293EE#32) * v k) *
    Ideal.div 1 (∑ k, FloatOps.exp2 (F := Ideal) (φ := .f32) ((s k + b k - Finset.fold max (Ideal.ofBits FTy.f32 4286578688#32) (fun k => s k + b k) Finset.univ) *
      Named.named (F := Ideal) (φ := .f32) κ "scale_log2e" 0x3E0293EE#32))

/-- The row of the stacked heads that holds query `x` of head `r`. -/
def row (r : Fin 4) (x : Fin 512) : Fin 2048 := ⟨512 * r.val + x.val, by omega⟩

theorem row_val (r : Fin 4) (x : Fin 512) : (row r x).val = 512 * r.val + x.val := rfl

theorem row_zero (x : Fin 512) : row 0 x = ⟨x.val, by omega⟩ := Fin.ext (by simp [row_val])

/-- Four stacked blocks, read at a row of one of them. -/
theorem stack_at {α : Type} (a b c d : Shape.Idx S512x128 → α) (h : Shape.Concatenates [S512x128, S512x128, S512x128, S512x128] S2048x128 0) (r : Fin 4) (x : Fin 512) (e : Fin 128) :
    concatenate S2048x128 0 [⟨S512x128, a⟩, ⟨S512x128, b⟩, ⟨S512x128, c⟩, ⟨S512x128, d⟩] h (ix2 (row r x) e)
      = (match r with | 0 => a | 1 => b | 2 => c | 3 => d) (ix2 x e) := by
  have key : ∀ y : Fin 2048, concatenate S2048x128 0 [⟨S512x128, a⟩, ⟨S512x128, b⟩, ⟨S512x128, c⟩, ⟨S512x128, d⟩] h (ix2 y e) =
     if h : y.val < 512 then a (ix2 ⟨y.val, h⟩ e) else if h : y.val - 512 < 512 then b (ix2 ⟨y.val - 512, h⟩ e) else
      if h : y.val - 512 - 512 < 512 then c (ix2 ⟨y.val - 512 - 512, h⟩ e) else d (ix2 ⟨y.val - 512 - 512 - 512, by omega⟩ e) := by
    intro y
    pointwise []
  rw [key]
  match r with
  | 0 => rw [dif_pos (by rw [row_val]; simp)]; congr 2; exact Fin.ext (by simp [row_val])
  | 1 => rw [dif_neg (by rw [row_val]; simp), dif_pos (by rw [row_val]; simp)]; congr 2; exact Fin.ext (by simp [row_val])
  | 2 =>
    rw [dif_neg (by rw [row_val]; simp; omega), dif_neg (by rw [row_val]; simp; omega), dif_pos (by rw [row_val]; simp; omega)]
    congr 2; exact Fin.ext (by simp [row_val]; omega)
  | 3 =>
    rw [dif_neg (by rw [row_val]; simp; omega), dif_neg (by rw [row_val]; simp; omega), dif_neg (by rw [row_val]; simp; omega)]
    congr 2; exact Fin.ext (by simp [row_val]; omega)

/-- The stacked heads are the query block's four column groups. -/
theorem stacked (q : Vec Ideal S512x512 .bf16) (r : Fin 4) (x : Fin 512) (e : Fin 128) :
    k0_pay23 q (ix2 (row r x) e) = q (ix2 x ⟨128 * r.val + e.val, by omega⟩) := by
  refine (stack_at _ _ _ _ concatenates_S512x128_S512x128_S512x128_S512x128_S2048x128_d0 r x e).trans ?_
  match r with
  | 0 => pointwise []
  | 1 => pointwise []
  | 2 => pointwise []
  | 3 => pointwise []

/-- The window's result of the stacked heads, from the loaded keys and values. -/
def winOut (i : grid0.Coords) (q : Vec Ideal S512x512 .bf16) (k v : Vec Ideal S1024x128 .bf16) : FVec Ideal S2048x128 .f32 :=
  k0_pay31 (k0_pay23 q) (k0_pay26 i) k v (k0_pay28 v (k0_pay27 i q k)) (k0_pay29 (k0_pay23 q) (k0_pay26 i) k v)
    (k0_pay30 (k0_pay23 q) (k0_pay26 i) k v)

theorem winOut_at (i : grid0.Coords) (q : Vec Ideal S512x512 .bf16) (k v : Vec Ideal S1024x128 .bf16) (r : Fin 4) (x : Fin 512) (d : Fin 128) :
    winOut i q k v (ix2 (row r x) d) = head (fun y => ∑ e, k0_pay23 q (ix2 (row r x) e) * k (ix2 y e))
      (fun y => k0_pay26 (F := Ideal) i (ix2 x y)) (fun y => v (ix2 y d)) := by
  refine (stack_at _ _ _ _ concatenates_S512x128_S512x128_S512x128_S512x128_S2048x128_d0 r x d).trans ?_
  unfold k0_pay29 k0_pay28 k0_pay27 k0_pay30
  generalize k0_pay26 (F := Ideal) i = b
  generalize k0_pay23 q = q'
  match r with
  | 0 => rw [row_zero]; pointwise []; rfl
  | 1 => pointwise []; rfl
  | 2 => pointwise []; rfl
  | 3 => pointwise []; rfl

/-- The selected keys' result in the four branches of the switch: over the first 512, 1024, 1536, 2048 keys. -/
def selOut0 (q : FVec Ideal S2048x128 .bf16) (b : FVec Ideal S512x512 .f32) (k v : Vec Ideal S512x128 .bf16) : FVec Ideal S2048x128 .f32 :=
  k0_pay73 q b k v (k0_pay20 b k v (k0_pay19 q) (constant _ .f32 0x00000000#32)) (k0_pay21 q b k v) (k0_pay22 q b k)

@[inherit_doc selOut0]
def selOut1 (q : FVec Ideal S2048x128 .bf16) (b : FVec Ideal S512x1024 .f32) (k v : Vec Ideal S1024x128 .bf16) : FVec Ideal S2048x128 .f32 :=
  k0_pay72 q b k v (k0_pay15 b k v (k0_pay14 q) (constant _ .f32 0x00000000#32)) (k0_pay16 q b k v) (k0_pay17 q b k)

@[inherit_doc selOut0]
def selOut2 (q : FVec Ideal S2048x128 .bf16) (b : FVec Ideal S512x1536 .f32) (k v : Vec Ideal S1536x128 .bf16) : FVec Ideal S2048x128 .f32 :=
  k0_pay71 q b k v (k0_pay10 b k v (k0_pay9 q) (constant _ .f32 0x00000000#32)) (k0_pay11 q b k v) (k0_pay12 q b k)

@[inherit_doc selOut0]
def selOut3 (q : FVec Ideal S2048x128 .bf16) (b : FVec Ideal S512x2048 .f32) (k v : Vec Ideal S2048x128 .bf16) : FVec Ideal S2048x128 .f32 :=
  k0_pay70 q b k v (k0_pay5 b k v (k0_pay4 q) (constant _ .f32 0x00000000#32)) (k0_pay6 q b k v) (k0_pay7 q b k)

theorem selOut0_at (q : FVec Ideal S2048x128 .bf16) (b : FVec Ideal S512x512 .f32) (k v : Vec Ideal S512x128 .bf16) (r : Fin 4) (x : Fin 512) (d : Fin 128) :
    selOut0 q b k v (ix2 (row r x) d) = head (fun y => ∑ e, q (ix2 (row r x) e) * k (ix2 y e))
      (fun y => b (ix2 x y)) (fun y => v (ix2 y d)) := by
  refine (stack_at _ _ _ _ concatenates_S512x128_S512x128_S512x128_S512x128_S2048x128_d0 r x d).trans ?_
  match r with
  | 0 => rw [row_zero]; pointwise [k0_pay20, k0_pay19]; rfl
  | 1 => pointwise [k0_pay21]; rfl
  | 2 => pointwise [k0_pay22]; rfl
  | 3 => pointwise []; rfl

theorem selOut1_at (q : FVec Ideal S2048x128 .bf16) (b : FVec Ideal S512x1024 .f32) (k v : Vec Ideal S1024x128 .bf16) (r : Fin 4) (x : Fin 512) (d : Fin 128) :
    selOut1 q b k v (ix2 (row r x) d) = head (fun y => ∑ e, q (ix2 (row r x) e) * k (ix2 y e))
      (fun y => b (ix2 x y)) (fun y => v (ix2 y d)) := by
  refine (stack_at _ _ _ _ concatenates_S512x128_S512x128_S512x128_S512x128_S2048x128_d0 r x d).trans ?_
  match r with
  | 0 => rw [row_zero]; pointwise [k0_pay15, k0_pay14]; rfl
  | 1 => pointwise [k0_pay16]; rfl
  | 2 => pointwise [k0_pay17]; rfl
  | 3 => pointwise []; rfl

theorem selOut2_at (q : FVec Ideal S2048x128 .bf16) (b : FVec Ideal S512x1536 .f32) (k v : Vec Ideal S1536x128 .bf16) (r : Fin 4) (x : Fin 512) (d : Fin 128) :
    selOut2 q b k v (ix2 (row r x) d) = head (fun y => ∑ e, q (ix2 (row r x) e) * k (ix2 y e))
      (fun y => b (ix2 x y)) (fun y => v (ix2 y d)) := by
  refine (stack_at _ _ _ _ concatenates_S512x128_S512x128_S512x128_S512x128_S2048x128_d0 r x d).trans ?_
  match r with
  | 0 => rw [row_zero]; pointwise [k0_pay10, k0_pay9]; rfl
  | 1 => pointwise [k0_pay11]; rfl
  | 2 => pointwise [k0_pay12]; rfl
  | 3 => pointwise []; rfl

theorem selOut3_at (q : FVec Ideal S2048x128 .bf16) (b : FVec Ideal S512x2048 .f32) (k v : Vec Ideal S2048x128 .bf16) (r : Fin 4) (x : Fin 512) (d : Fin 128) :
    selOut3 q b k v (ix2 (row r x) d) = head (fun y => ∑ e, q (ix2 (row r x) e) * k (ix2 y e))
      (fun y => b (ix2 x y)) (fun y => v (ix2 y d)) := by
  refine (stack_at _ _ _ _ concatenates_S512x128_S512x128_S512x128_S512x128_S2048x128_d0 r x d).trans ?_
  match r with
  | 0 => rw [row_zero]; pointwise [k0_pay5, k0_pay4]; rfl
  | 1 => pointwise [k0_pay6]; rfl
  | 2 => pointwise [k0_pay7]; rfl
  | 3 => pointwise []; rfl

end Cert.KernelIdeal.Words
end
-- ==== Proof.Val.Words.lean ====
/- The index words of both programs as natural numbers: floor quotients, the window's and the forced blocks' comparisons,
   and one-bit words as truth values. -/
module

public import Idealize.ShloMosaic.Lib.Pointwise
public import Idealize.ShloMosaic.PureOps.Ideal.Laws
public import Idealize.ShloMosaic.Lib.WordCmp

@[expose] public section

set_option maxRecDepth 16384

noncomputable section

namespace Cert.Nsa

open Idealize.ShloMosaic Idealize.ShloMosaic.WordCmp

theorem select_ofBool {α : Type} (b : Bool) (x y : α) : Scalar.select (BitVec.ofBool b) x y = if b then x else y := by
  cases b <;> rfl

/-- The floor quotient by `c` as the kernel spells it: the truncated quotient, less one where the signs differ and the
    remainder is not zero. -/
def floorDiv (w c : BitVec 32) : BitVec 32 :=
  Scalar.select
    (IntOp.andi
      (IntOp.cmpi .ne (IntOp.subi (BitVec.setWidth 32 (IntOp.cmpi .sgt w 0#32)) (BitVec.setWidth 32 (IntOp.cmpi .slt w 0#32)))
        (Scalar.subi (Scalar.extui (Scalar.cmpi .sgt c 0#32)) (Scalar.extui (Scalar.cmpi .slt c 0#32))))
      (IntOp.cmpi .ne (IntOp.remsi ArithUnit.vector w c) 0#32))
    (IntOp.subi (IntOp.divsi ArithUnit.vector w c) 1#32) (IntOp.divsi ArithUnit.vector w c)

theorem floorDiv_64_all : ∀ n : Fin 2048, floorDiv (BitVec.ofNat 32 n.val) 64#32 = BitVec.ofNat 32 (n.val / 64) := by decide +kernel

theorem floorDiv_64 {n : ℕ} (h : n < 2048) : floorDiv (BitVec.ofNat 32 n) 64#32 = BitVec.ofNat 32 (n / 64) := floorDiv_64_all ⟨n, h⟩

theorem floorDiv_4_all : ∀ n : Fin 128, floorDiv (BitVec.ofNat 32 n.val) 4#32 = BitVec.ofNat 32 (n.val / 4) := by decide +kernel

theorem floorDiv_4 {n : ℕ} (h : n < 128) : floorDiv (BitVec.ofNat 32 n) 4#32 = BitVec.ofNat 32 (n / 4) := floorDiv_4_all ⟨n, h⟩

theorem divs_64_all : ∀ n : Fin 2048, IntOp.divsi ArithUnit.host (BitVec.ofNat 32 n.val) 64#32 = BitVec.ofNat 32 (n.val / 64) := by
  decide +kernel

theorem divs_64 {n : ℕ} (h : n < 2048) : IntOp.divsi ArithUnit.host (BitVec.ofNat 32 n) 64#32 = BitVec.ofNat 32 (n / 64) :=
  divs_64_all ⟨n, h⟩

theorem sle_ofNat {a b : ℕ} (ha : a < 4096) (hb : b < 4096) :
    IntOp.cmpi .sle (BitVec.ofNat 32 a) (BitVec.ofNat 32 b) = BitVec.ofBool (decide (a ≤ b)) :=
  cmpi_sle_ofNat (by omega) (by omega)

theorem eq_ofNat {a b : ℕ} (ha : a < 4096) (hb : b < 4096) :
    IntOp.cmpi .eq (BitVec.ofNat 32 a) (BitVec.ofNat 32 b) = BitVec.ofBool (decide (a = b)) :=
  cmpi_eq_ofNat (by omega) (by omega)

theorem after_window {y t : ℕ} (hy : y < 4096) (ht : t < 4096) :
    IntOp.cmpi .sgt (BitVec.ofNat 32 y) (IntOp.subi (BitVec.ofNat 32 t) 512#32) = BitVec.ofBool (decide (t < y + 512)) := by
  rw [cmpi_sgt_eq]
  congr 2
  have h0 : ∀ {n : ℕ}, n < 4096 → (BitVec.ofNat 32 n).toInt = n := fun {n} h => by
    have e : (BitVec.ofNat 32 n).toNat = n := by simp; omega
    rw [toInt_eq_toNat_of_lt_half (by rw [e]; omega), e]
  have h1 := h0 hy
  have h2 : (IntOp.subi (BitVec.ofNat 32 t) 512#32).toInt = (t : ℤ) - 512 := by
    have h3 := h0 ht
    simp only [IntOp.subi, BitVec.toInt_sub, h3]
    simp [Int.bmod]; omega
  rw [h1, h2]
  simp only [eq_iff_iff]
  omega

theorem eq_pred_all : ∀ j c : Fin 32, IntOp.cmpi .eq (BitVec.ofNat 32 j.val) (IntOp.subi (BitVec.ofNat 32 c.val) 1#32)
    = BitVec.ofBool (decide (j.val + 1 = c.val)) := by decide +kernel

theorem eq_pred {j c : ℕ} (hj : j < 32) (hc : c < 32) : IntOp.cmpi .eq (BitVec.ofNat 32 j) (IntOp.subi (BitVec.ofNat 32 c) 1#32)
    = BitVec.ofBool (decide (j + 1 = c)) := eq_pred_all ⟨j, hj⟩ ⟨c, hc⟩

/-- The word of a compressed block's last position, and of the positions' end. -/
theorem blockEnd_all : ∀ k : Fin 128, IntOp.addi (IntOp.muli (BitVec.ofNat 32 k.val) 16#32) 31#32 = BitVec.ofNat 32 (16 * k.val + 31) := by
  decide +kernel

theorem blockEnd (k : Fin 128) : IntOp.addi (IntOp.muli (BitVec.ofNat 32 k.val) 16#32) 31#32 = BitVec.ofNat 32 (16 * k.val + 31) :=
  blockEnd_all k

theorem slt_ofNat {a b : ℕ} (ha : a < 4096) (hb : b < 4096) :
    IntOp.cmpi .slt (BitVec.ofNat 32 a) (BitVec.ofNat 32 b) = BitVec.ofBool (decide (a < b)) :=
  cmpi_slt_ofNat (by omega) (by omega)

/-- The value of a truth word cast to a float: one where it is true. -/
theorem sitofp_ofBool (b : Bool) : FloatOps.sitofp (F := Ideal) .f32 (BitVec.setWidth 32 (BitVec.ofBool b)) = if b then 1 else 0 := by
  cases b
  · change (((BitVec.setWidth 32 (BitVec.ofBool false)).toInt : ℝ) : EReal) = _
    simp
  · change (((BitVec.setWidth 32 (BitVec.ofBool true)).toInt : ℝ) : EReal) = _
    simp

theorem ofBits_negInf : Ideal.ofBits FTy.f32 4286578688#32 = ⊥ := by simp [Ideal.ofBits, Ideal.ieee]

theorem ofBits_half : Ideal.ofBits FTy.f32 1056964608#32 = ((1 / 2 : ℝ) : EReal) := by
  simp [Ideal.ofBits, Ideal.ieee]; rw [← EReal.coe_mul]; congr 1; norm_num

theorem ofBits_128 : Ideal.ofBits FTy.f32 1124073472#32 = ((128 : ℝ) : EReal) := by
  simp [Ideal.ofBits, Ideal.ieee]; rw [← EReal.coe_mul]; congr 1; norm_num

end Cert.Nsa
end
-- ==== Proof.Val.Cmp.lean ====
/- The kernel's compressed attention: the weights of the compressed blocks and their product with the values. -/
module

public import proofs.«01_k».proof.Proof.Val.Head
public import proofs.«01_k».proof.Proof.Val.Words
public import proofs.«01_k».proof.Proof.Math.Spec

@[expose] public section

set_option maxRecDepth 16384

noncomputable section

namespace Cert.KernelIdeal.Words

open Cert.KernelIdeal Cert.KernelIdeal.Gen Idealize.ShloMosaic Cert.Nsa

/-- The position of query `x` of the query block at a grid point. -/
def pos (i : grid0.Coords) (x : Fin 512) : ℕ := 512 * (i 2).val + x.val

theorem point_lt (i : grid0.Coords) : (i 2).val < 4 := (i 2).isLt

theorem pos_lt (i : grid0.Coords) (x : Fin 512) : pos i x < 2048 := by
  have := point_lt i
  unfold pos; omega

theorem pos_word (i : grid0.Coords) (x : Fin 512) : k0_pay24 i (ix2 x 0) = BitVec.ofNat 32 (pos i x) := by
  have := point_lt i
  pointwise [k0_pay24]
  unfold pos
  generalize (i 2).val = n at *
  apply BitVec.eq_of_toNat_eq
  simp [Scalar.muli, IntOp.muli, IntOp.addi]
  omega

theorem pos_stacked (i : grid0.Coords) (r : Fin 4) (x : Fin 512) : k0_pay25 i (ix2 (row r x) 0) = BitVec.ofNat 32 (pos i x) := by
  rw [← pos_word i x]
  generalize hp : k0_pay24 i = p
  pointwise [k0_pay25, hp]
  match r with
  | 0 => rw [dif_pos (by rw [row_val]; simp)]; congr 2; exact Fin.ext (by simp [row_val])
  | 1 => rw [dif_neg (by rw [row_val]; simp), dif_pos (by rw [row_val]; simp)]; congr 2; exact Fin.ext (by simp [row_val])
  | 2 =>
    rw [dif_neg (by rw [row_val]; simp; omega), dif_neg (by rw [row_val]; simp; omega), dif_pos (by rw [row_val]; simp; omega)]
    congr 2; exact Fin.ext (by simp [row_val]; omega)
  | 3 =>
    rw [dif_neg (by rw [row_val]; simp; omega), dif_neg (by rw [row_val]; simp; omega), dif_neg (by rw [row_val]; simp; omega)]
    congr 2; exact Fin.ext (by simp [row_val]; omega)

/-- The mask of the compressed blocks. -/
theorem cmp_word {t : ℕ} (ht : t < 2048) (k : Fin 128) :
    IntOp.andi (IntOp.cmpi .sle (IntOp.addi (IntOp.muli (BitVec.ofNat 32 k.val) 16#32) 31#32) (BitVec.ofNat 32 t))
      (IntOp.cmpi .slt (IntOp.addi (IntOp.muli (BitVec.ofNat 32 k.val) 16#32) 31#32) 2048#32) = BitVec.ofBool (cmpMask t k) := by
  rw [blockEnd, sle_ofNat (by omega) (by omega), show (2048#32) = BitVec.ofNat 32 2048 from rfl, slt_ofNat (by omega) (by omega),
    WordCmp.andi_ofBool]
  congr 1
  unfold cmpMask
  by_cases h : 16 * k.val + 31 ≤ t
  · simp [h]; omega
  · simp [h]

theorem mask_named : Named.named (F := Ideal) (φ := .f32) κ "mask" 0xF149F2CA#32 = ⊥ :=
  IdealRules.named_const.ideal_named_scalar _ _ _ _ rfl

theorem scale_named : Named.named (F := Ideal) (φ := .f32) κ "scale" 0x3DB504F3#32 = ((scale : ℝ) : EReal) :=
  (IdealRules.named_const.ideal_named_scalar _ _ _ _ rfl).trans (by simp [scale])

/-- The weights of the compressed blocks, as the kernel computes them. -/
theorem cmpW_at (i : grid0.Coords) (q : FVec Ideal S2048x128 .bf16) (kc : Vec Ideal S1x1x128x128 .bf16) (r : Fin 4) (x : Fin 512)
    (hq : ∀ e, IsReal (q (ix2 (row r x) e))) (hk : ∀ k e, IsReal (kc (ix4 0 0 k e))) (k : Fin 128) :
    k0_pay34 (k0_pay32 (k0_pay25 i)) (k0_pay33 q (k0_pay25 i) kc) (ix2 (row r x) k)
      = ((cmpW (fun k => dotR (fun e => q (ix2 (row r x) e)) (fun e => kc (ix4 0 0 k e))) (pos i x) k : ℝ) : EReal) := by
  have hp := pos_stacked i r x
  generalize k0_pay25 i = p at *
  pointwise [k0_pay34, k0_pay33, k0_pay32]
  simp only [hp, cmp_word (pos_lt i x), select_ofBool, mask_named, scale_named, ofBits_negInf]
  have h := wt_reciprocal scale (fun k => dotR (fun e => q (ix2 (row r x) e)) (fun e => kc (ix4 0 0 k e))) (cmpMask (pos i x))
    (fun k => if cmpMask (pos i x) k = true then (∑ e, q (ix2 (row r x) e) * kc (ix4 0 0 k e)) * ((scale : ℝ) : EReal) else ⊥)
    (fun k => by rw [dot_real hq (hk k), ← EReal.coe_mul, mul_comm]) k
  rw [ite_mul, zero_mul] at h
  exact h

/-- The compressed attention of the stacked heads. -/
def cmpOut (i : grid0.Coords) (q : FVec Ideal S2048x128 .bf16) (kc vc : Vec Ideal S1x1x128x128 .bf16) : FVec Ideal S2048x128 .f32 :=
  k0_pay35 (k0_pay32 (k0_pay25 i)) (k0_pay33 q (k0_pay25 i) kc) vc

theorem cmpOut_at (i : grid0.Coords) (q : FVec Ideal S2048x128 .bf16) (kc vc : Vec Ideal S1x1x128x128 .bf16) (r : Fin 4) (x : Fin 512)
    (hq : ∀ e, IsReal (q (ix2 (row r x) e))) (hk : ∀ k e, IsReal (kc (ix4 0 0 k e))) (d : Fin 128) :
    cmpOut i q kc vc (ix2 (row r x) d)
      = att scale (fun k => dotR (fun e => q (ix2 (row r x) e)) (fun e => kc (ix4 0 0 k e))) (cmpMask (pos i x)) (fun k => vc (ix4 0 0 k d)) := by
  have h := cmpW_at i q kc r x hq hk
  unfold cmpOut
  generalize hw : k0_pay34 (k0_pay32 (k0_pay25 i)) (k0_pay33 q (k0_pay25 i) kc) = w at h
  pointwise [k0_pay35, hw]
  simp only [h]
  rfl

/-- The weights summed over the four heads. -/
def headSum (i : grid0.Coords) (q : FVec Ideal S2048x128 .bf16) (kc : Vec Ideal S1x1x128x128 .bf16) : FVec Ideal S512x128 .f32 :=
  k0_pay36 (k0_pay32 (k0_pay25 i)) (k0_pay33 q (k0_pay25 i) kc)

theorem headSum_at (i : grid0.Coords) (q : FVec Ideal S2048x128 .bf16) (kc : Vec Ideal S1x1x128x128 .bf16) (x : Fin 512)
    (hq : ∀ r e, IsReal (q (ix2 (row r x) e))) (hk : ∀ k e, IsReal (kc (ix4 0 0 k e))) (k : Fin 128) :
    headSum i q kc (ix2 x k)
      = ((∑ r, cmpW (fun k => dotR (fun e => q (ix2 (row r x) e)) (fun e => kc (ix4 0 0 k e))) (pos i x) k : ℝ) : EReal) := by
  have h := fun r => cmpW_at i q kc r x (hq r) hk k
  unfold headSum
  generalize hw : k0_pay34 (k0_pay32 (k0_pay25 i)) (k0_pay33 q (k0_pay25 i) kc) = w at h
  pointwise [k0_pay36, hw]
  rw [coe_sum, Fin.sum_univ_four]
  rw [← h 0, ← h 1, ← h 2, ← h 3, row_zero]
  rfl

/-- The group sum's one-hot products: block `j` takes the weights of the compressed blocks `4 j … 4 j + 3`. -/
theorem groupSum_at (p : FVec Ideal S512x128 .f32) (x : Fin 512) (w : Fin 128 → ℝ) (hp : ∀ k, p (ix2 x k) = ((w k : ℝ) : EReal)) (j : Fin 32) :
    k0_pay40 p k0_pay37 k0_pay38 k0_pay39 (ix2 x ⟨j.val, by omega⟩) = ((∑ l : Fin 4, w ⟨4 * j.val + l.val, by omega⟩ : ℝ) : EReal) := by
  have hz : ∀ k, ((w k : ℝ) : EReal) - ((w k : ℝ) : EReal) = 0 := fun k => by rw [← EReal.coe_sub, sub_self]; rfl
  have hw : ∀ k : Fin 128, IntOp.cmpi .eq (floorDiv (BitVec.ofNat 32 k.val) 4#32) (BitVec.ofNat 32 j.val) = BitVec.ofBool (decide (k.val / 4 = j.val)) :=
    fun k => by rw [floorDiv_4 k.isLt, eq_ofNat (by omega) (by omega)]
  unfold floorDiv at hw
  pointwise [k0_pay40, k0_pay37, k0_pay38, k0_pay39]
  simp only [hp, hz, zero_mul, sub_zero, Finset.sum_const_zero, add_zero, hw, sitofp_ofBool]
  rw [coe_sum]
  symm
  refine Fintype.sum_of_injective (M := EReal) (fun l : Fin 4 => (⟨4 * j.val + l.val, by omega⟩ : Fin 128))
    (fun a b h => by simpa [Fin.ext_iff] using h) _ _ (fun k hk => ?_) (fun l => ?_)
  · rw [if_neg, mul_zero]
    intro h
    have h' : k.val / 4 = j.val := by simpa using h
    exact hk ⟨⟨k.val - 4 * j.val, by omega⟩, Fin.ext (by simp; omega)⟩
  · rw [if_pos (by simp; omega), mul_one]

end Cert.KernelIdeal.Words
end
-- ==== Proof.Val.Rank.lean ====
/- The kernel's selection words: the rank of a block is added up one block at a time, the mark is the rank's test. -/
module

public import proofs.«01_k».proof.Proof.Val.Words
public import proofs.«01_k».proof.Proof.Math.Spec
public import proofs.«01_k».proof.Proof.Gen.KernelIdeal.Skeleton
public import Idealize.ShloMosaic.Lib.Pointwise

@[expose] public section

noncomputable section

namespace Cert.KernelIdeal.Words

open Cert.KernelIdeal Cert.KernelIdeal.Gen Idealize.ShloMosaic Cert.Nsa

set_option maxHeartbeats 2000000

/-- The word block `a` adds to the rank of block `j`. -/
def bit (S : FVec Ideal S32x512 .f32) (x : Fin 512) (j a : Fin 32) : BitVec 32 :=
  BitVec.setWidth 32 (IntOp.ori (BitVec.ofBool (decide (S (ix2 j x) < S (ix2 a x))))
    (IntOp.andi (BitVec.ofBool (decide (S (ix2 a x) = S (ix2 j x)))) (IntOp.cmpi .sgt (BitVec.ofNat 32 j.val) (BitVec.ofNat 32 a.val))))

/-- The block numbers, one per row. -/
abbrev rows : IVec S32x1 32 := iota .tc S32x1 32 [0] iota_S32x1_d0_w32

theorem rank44 (v195 v196 v220 v222) (x : Fin 512) (j : Fin 32) :
    k0_pay44 (F := Ideal) v195 v196 v220 v222 (ix2 j x) = IntOp.addi (IntOp.addi (0#32) (bit (k0_pay43 v195 v196 v220 v222) x j 0)) (bit (k0_pay43 v195 v196 v220 v222) x j 1) := by
  generalize h : k0_pay43 v195 v196 v220 v222 = S
  pointwise [k0_pay44, h]
  rfl
theorem rank49 (v195 v196 v220 v222) (p) (x : Fin 512) (j : Fin 32) :
    k0_pay49 (F := Ideal) (k0_pay43 v195 v196 v220 v222) rows p (k0_pay46 v195 v196 v220 v222) (k0_pay47 v195 v196 v220 v222) k0_pay48 (ix2 j x)
     = IntOp.addi (IntOp.addi (IntOp.addi (IntOp.addi (IntOp.addi (p (ix2 j x)) (bit (k0_pay43 v195 v196 v220 v222) x j 2)) (bit (k0_pay43 v195 v196 v220 v222) x j 3)) (bit (k0_pay43 v195 v196 v220 v222) x j 4)) (bit (k0_pay43 v195 v196 v220 v222) x j 5)) (bit (k0_pay43 v195 v196 v220 v222) x j 6) := by
  generalize h : k0_pay43 v195 v196 v220 v222 = S
  pointwise [k0_pay49, k0_pay46, k0_pay47, k0_pay48, k0_pay45, h]
  rfl
theorem rank52 (S : FVec Ideal S32x512 .f32) (p) (x : Fin 512) (j : Fin 32) :
    k0_pay52 S rows p (k0_pay50 S) (k0_pay51 S) (ix2 j x) = IntOp.addi (IntOp.addi (IntOp.addi (IntOp.addi (p (ix2 j x)) (bit S x j 7)) (bit S x j 8)) (bit S x j 9)) (bit S x j 10) := by
  pointwise [k0_pay52, k0_pay50, k0_pay51]
  rfl
theorem rank54 (S : FVec Ideal S32x512 .f32) (p) (x : Fin 512) (j : Fin 32) :
    k0_pay54 S rows p (k0_pay53 S rows) (ix2 j x) = IntOp.addi (IntOp.addi (IntOp.addi (IntOp.addi (IntOp.addi (p (ix2 j x)) (bit S x j 11)) (bit S x j 12)) (bit S x j 13)) (bit S x j 14)) (bit S x j 15) := by
  pointwise [k0_pay54, k0_pay53]
  rfl
theorem rank58 (S : FVec Ideal S32x512 .f32) (p) (x : Fin 512) (j : Fin 32) :
    k0_pay58 S rows p (k0_pay56 S) (k0_pay57 S) 16#32 (ix2 j x) = IntOp.addi (IntOp.addi (IntOp.addi (IntOp.addi (IntOp.addi (p (ix2 j x)) (bit S x j 16)) (bit S x j 17)) (bit S x j 18)) (bit S x j 19)) (bit S x j 20) := by
  pointwise [k0_pay58, k0_pay56, k0_pay57, k0_pay55]
  rfl
theorem rank60 (S : FVec Ideal S32x512 .f32) (p) (x : Fin 512) (j : Fin 32) :
    k0_pay60 S rows p (k0_pay59 S) (ix2 j x) = IntOp.addi (IntOp.addi (IntOp.addi (IntOp.addi (p (ix2 j x)) (bit S x j 21)) (bit S x j 22)) (bit S x j 23)) (bit S x j 24) := by
  pointwise [k0_pay60, k0_pay59]
  rfl
theorem rank65 (S : FVec Ideal S32x512 .f32) (p) (x : Fin 512) (j : Fin 32) :
    k0_pay65 S rows p (k0_pay62 S) (k0_pay63 S) (k0_pay64 rows) (ix2 j x) = IntOp.addi (IntOp.addi (IntOp.addi (IntOp.addi (IntOp.addi (p (ix2 j x)) (bit S x j 25)) (bit S x j 26)) (bit S x j 27)) (bit S x j 28)) (bit S x j 29) := by
  pointwise [k0_pay65, k0_pay62, k0_pay63, k0_pay61, k0_pay64]
  rfl
theorem mark69 (S : FVec Ideal S32x512 .f32) (p) (x : Fin 512) (j : Fin 32) :
    k0_pay69 S rows p (k0_pay67 S) (k0_pay68 S) (ix2 x ⟨j.val, by omega⟩) = FloatOps.sitofp (F := Ideal) FTy.f32
      (BitVec.setWidth 32 (IntOp.andi (IntOp.cmpi .slt (IntOp.addi (IntOp.addi (p (ix2 j x)) (bit S x j 30)) (bit S x j 31)) 16#32)
        (BitVec.ofBool (decide (0 ≤ S (ix2 j x)))))) := by
  pointwise [k0_pay69, k0_pay67, k0_pay68, k0_pay66]
  rfl

/-- Whether block `a` comes before block `j`, as a natural number. -/
theorem bit_eq (S : FVec Ideal S32x512 .f32) (x : Fin 512) (j a : Fin 32) :
    bit S x j a = BitVec.ofNat 32 (@ite _ (Before (fun j => S (ix2 j x)) a j) (Classical.propDecidable _) 1 0) := by
  unfold bit
  rw [show IntOp.cmpi .sgt (BitVec.ofNat 32 j.val) (BitVec.ofNat 32 a.val) = BitVec.ofBool (decide (a < j)) from slt_ofNat (by omega) (by omega),
    WordCmp.andi_ofBool, WordCmp.ori_ofBool]
  by_cases h : Before (fun j => S (ix2 j x)) a j
  · rw [if_pos h]
    have : (decide (S (ix2 j x) < S (ix2 a x)) || (decide (S (ix2 a x) = S (ix2 j x)) && decide (a < j))) = true := by
      simpa [Before] using h
    rw [this]; rfl
  · rw [if_neg h]
    have : (decide (S (ix2 j x) < S (ix2 a x)) || (decide (S (ix2 a x) = S (ix2 j x)) && decide (a < j))) = false := by
      simp only [Before, not_or, not_and] at h
      simpa using h
    rw [this]; rfl

/-- The rank of a block, as the kernel adds it up. -/
def rankWord (S : FVec Ideal S32x512 .f32) (x : Fin 512) (j : Fin 32) : BitVec 32 :=
  ([0, 1, 2, 3, 4, 5, 6, 7, 8, 9, 10, 11, 12, 13, 14, 15, 16, 17, 18, 19, 20, 21, 22, 23, 24, 25, 26, 27, 28, 29, 30, 31] : List (Fin 32)).foldl (fun p a => IntOp.addi p (bit S x j a)) 0#32

theorem foldl_addi (f : Fin 32 → ℕ) (l : List (Fin 32)) (n : ℕ) :
    l.foldl (fun p a => IntOp.addi p (BitVec.ofNat 32 (f a))) (BitVec.ofNat 32 n) = BitVec.ofNat 32 (n + (l.map f).sum) := by
  induction l generalizing n with
  | nil => simp
  | cons a l ih =>
    rw [List.foldl_cons, show IntOp.addi (BitVec.ofNat 32 n) (BitVec.ofNat 32 (f a)) = BitVec.ofNat 32 (n + f a) from (BitVec.ofNat_add ..).symm, ih]
    simp [Nat.add_assoc]

theorem rankWord_eq (S : FVec Ideal S32x512 .f32) (x : Fin 512) (j : Fin 32) :
    rankWord S x j = BitVec.ofNat 32 (rank (fun j => S (ix2 j x)) j) := by
  unfold rankWord rank
  simp only [bit_eq]
  rw [show ([0, 1, 2, 3, 4, 5, 6, 7, 8, 9, 10, 11, 12, 13, 14, 15, 16, 17, 18, 19, 20, 21, 22, 23, 24, 25, 26, 27, 28, 29, 30, 31] : List (Fin 32)) = List.finRange 32 by decide, foldl_addi, Finset.card_filter, ← List.ofFn_eq_map, List.sum_ofFn, Nat.zero_add]

theorem rank_le (S : Fin 32 → EReal) (j : Fin 32) : rank S j ≤ 32 := by
  unfold rank
  exact (Finset.card_le_univ _).trans (by simp)

/-- The kernel's marks: the words of the selected blocks, from the group sums and the queries' blocks. -/
def marks (v195 : FVec Ideal S512x128 .f32) (v220 : IVec S512x1 32) : FVec Ideal S512x128 .bf16 :=
  let v196 : IVec S1x128 32 := iota .tc S1x128 32 [1] iota_S1x128_d1_w32
  let S := k0_pay43 v195 v196 v220 k0_pay42
  let r18 := k0_pay49 S rows (k0_pay44 v195 v196 v220 k0_pay42) (k0_pay46 v195 v196 v220 k0_pay42) (k0_pay47 v195 v196 v220 k0_pay42) k0_pay48
  let r21 := k0_pay52 S rows r18 (k0_pay50 S) (k0_pay51 S)
  let r23 := k0_pay54 S rows r21 (k0_pay53 S rows)
  let r26 := k0_pay58 S rows r23 (k0_pay56 S) (k0_pay57 S) 16#32
  let r28 := k0_pay60 S rows r26 (k0_pay59 S)
  let r31 := k0_pay65 S rows r28 (k0_pay62 S) (k0_pay63 S) (k0_pay64 rows)
  k0_pay69 S rows r31 (k0_pay67 S) (k0_pay68 S)

open Classical in
theorem marks_low (v195 v220) (x : Fin 512) (j : Fin 32) :
    marks v195 v220 (ix2 x ⟨j.val, by omega⟩)
      = if rank (fun j => k0_pay43 v195 (iota .tc S1x128 32 [1] iota_S1x128_d1_w32) v220 k0_pay42 (ix2 j x)) j < 16
          ∧ 0 ≤ k0_pay43 v195 (iota .tc S1x128 32 [1] iota_S1x128_d1_w32) v220 k0_pay42 (ix2 j x) then 1 else 0 := by
  unfold marks
  simp only
  rw [mark69, rank65, rank60, rank58, rank54, rank52, rank49, rank44]
  generalize k0_pay43 v195 (iota .tc S1x128 32 [1] iota_S1x128_d1_w32) v220 k0_pay42 = S
  have h := rankWord_eq S x j
  have e := rank_le (fun j => S (ix2 j x)) j
  unfold rankWord at h
  simp only [List.foldl_cons, List.foldl_nil] at h
  rw [h, show IntOp.cmpi .slt (BitVec.ofNat 32 (rank (fun j => S (ix2 j x)) j)) 16#32 = _ from slt_ofNat (by omega) (by omega),
    WordCmp.andi_ofBool, sitofp_ofBool]
  simp

end Cert.KernelIdeal.Words
end
-- ==== Proof.Val.Score.lean ====
/- The scores of the selection blocks, and the biases of the selected and the window keys. -/
module

public import proofs.«01_k».proof.Proof.Val.Cmp
public import proofs.«01_k».proof.Proof.Val.Rank

@[expose] public section

noncomputable section

namespace Cert.KernelIdeal.Words

open Cert.KernelIdeal Cert.KernelIdeal.Gen Idealize.ShloMosaic Cert.Nsa

set_option maxHeartbeats 2000000

theorem score_at (s : Fin 4 → Fin 128 → ℝ) (t : ℕ) (ht : t < 2048) (v195 : FVec Ideal S512x128 .f32) (v220 : IVec S512x1 32) (x : Fin 512)
    (hv : ∀ j : Fin 32, v195 (ix2 x ⟨j.val, by omega⟩) = ((imp s t j : ℝ) : EReal)) (hc : v220 (ix2 x 0) = BitVec.ofNat 32 (t / 64)) (j : Fin 32) :
    k0_pay43 v195 (iota .tc S1x128 32 [1] iota_S1x128_d1_w32) v220 k0_pay42 (ix2 j x) = score s t j := by
  pointwise [k0_pay43, k0_pay42]
  rw [hc, hv, show (0#32) = BitVec.ofNat 32 0 from rfl, sle_ofNat (by omega) (by omega), eq_ofNat (by omega) (by omega), eq_ofNat (by omega) (by omega),
    eq_pred (by omega) (by omega), WordCmp.ori_ofBool, WordCmp.ori_ofBool, select_ofBool, select_ofBool]
  unfold score
  simp only [decide_eq_true_eq, Bool.or_eq_true, or_assoc]

open Classical in
/-- A selected key's bias: zero where its block is marked and it is not after the query. -/
theorem bias_word (m : Fin 128 → EReal) (P : Fin 32 → Prop) (hm : ∀ j : Fin 32, m ⟨j.val, by omega⟩ = if P j then 1 else 0) (n t : ℕ) (hn : n < 2048) (ht : t < 2048) :
    Scalar.select
      (IntOp.andi
        (BitVec.ofBool (decide (Ideal.ofBits FTy.f32 1056964608#32 <
          ∑ j : Fin 128, m j * FloatOps.sitofp (F := Ideal) FTy.f32
            (BitVec.setWidth 32 (IntOp.cmpi .eq (floorDiv (BitVec.ofNat 32 n) 64#32) (BitVec.ofNat 32 j.val))))))
        (IntOp.cmpi .sle (BitVec.ofNat 32 n) (BitVec.ofNat 32 t)))
      (0 : EReal) (Named.named (F := Ideal) (φ := .f32) κ "mask" 4048155338#32)
      = if decide (P ⟨n / 64, by omega⟩ ∧ n ≤ t) = true then 0 else ⊥ := by
  have hs : ∀ j : Fin 128, m j * FloatOps.sitofp (F := Ideal) FTy.f32
      (BitVec.setWidth 32 (IntOp.cmpi .eq (floorDiv (BitVec.ofNat 32 n) 64#32) (BitVec.ofNat 32 j.val)))
      = if j = (⟨n / 64, by omega⟩ : Fin 128) then m j else 0 := fun j => by
    rw [floorDiv_64 hn, eq_ofNat (by omega) (by omega), sitofp_ofBool]
    by_cases h : j = (⟨n / 64, by omega⟩ : Fin 128)
    · subst h; simp
    · rw [if_neg h, if_neg, mul_zero]
      intro h'
      exact h (Fin.ext (of_decide_eq_true h').symm)
  simp only [hs]
  rw [Finset.sum_ite_eq' Finset.univ, if_pos (Finset.mem_univ _), hm ⟨n / 64, by omega⟩, ofBits_half, sle_ofNat (by omega) (by omega), WordCmp.andi_ofBool,
    select_ofBool, mask_named]
  have hp : (((1 / 2 : ℝ) : EReal) < if P ⟨n / 64, by omega⟩ then 1 else 0) ↔ P ⟨n / 64, by omega⟩ := by
    by_cases h : P ⟨n / 64, by omega⟩
    · rw [if_pos h]
      exact ⟨fun _ => h, fun _ => by rw [← EReal.coe_one, EReal.coe_lt_coe_iff]; norm_num⟩
    · rw [if_neg h]
      refine ⟨fun h' => absurd h' (not_lt.mpr ?_), fun h' => absurd h' h⟩
      rw [← EReal.coe_zero, EReal.coe_le_coe_iff]; norm_num
  simp only [hp, Bool.and_eq_true, decide_eq_true_eq]

section
variable (v9 : IVec S512x1 32) (m : FVec Ideal S512x128 .bf16) (x : Fin 512) (P : Fin 32 → Prop) (t : ℕ) (ht : t < 2048)
  (h9 : v9 (ix2 x 0) = BitVec.ofNat 32 t)
include ht h9

open Classical in
theorem bias512 (hm : ∀ j : Fin 32, m (ix2 x ⟨j.val, by omega⟩) = if P j then 1 else 0) (y : Fin 512) :
    k0_pay18 (F := Ideal) v9 m (ix2 x y) = if decide (P ⟨y.val / 64, by omega⟩ ∧ y.val ≤ t) = true then 0 else ⊥ := by
  pointwise [k0_pay18]
  rw [h9]
  exact bias_word (fun j => m (ix2 x j)) P hm y.val t (by omega) ht

open Classical in
theorem bias1024 (hm : ∀ j : Fin 32, m (ix2 x ⟨j.val, by omega⟩) = if P j then 1 else 0) (y : Fin 1024) :
    k0_pay13 (F := Ideal) v9 m (ix2 x y) = if decide (P ⟨y.val / 64, by omega⟩ ∧ y.val ≤ t) = true then 0 else ⊥ := by
  pointwise [k0_pay13]
  rw [h9]
  exact bias_word (fun j => m (ix2 x j)) P hm y.val t (by omega) ht

open Classical in
theorem bias1536 (hm : ∀ j : Fin 32, m (ix2 x ⟨j.val, by omega⟩) = if P j then 1 else 0) (y : Fin 1536) :
    k0_pay8 (F := Ideal) v9 m (ix2 x y) = if decide (P ⟨y.val / 64, by omega⟩ ∧ y.val ≤ t) = true then 0 else ⊥ := by
  pointwise [k0_pay8]
  rw [h9]
  exact bias_word (fun j => m (ix2 x j)) P hm y.val t (by omega) ht

open Classical in
theorem bias2048 (hm : ∀ j : Fin 32, m (ix2 x ⟨j.val, by omega⟩) = if P j then 1 else 0) (y : Fin 2048) :
    k0_pay3 (F := Ideal) v9 m (ix2 x y) = if decide (P ⟨y.val / 64, by omega⟩ ∧ y.val ≤ t) = true then 0 else ⊥ := by
  pointwise [k0_pay3]
  rw [h9]
  exact bias_word (fun j => m (ix2 x j)) P hm y.val t (by omega) ht

end

/-- The first key of a query block's window rows. -/
def start (i : grid0.Coords) : ℕ := 512 * (i 2).val - 512

theorem start_all : ∀ n : Fin 4, Scalar.maxsi (Scalar.subi (Scalar.muli (BitVec.ofNat 32 n.val) 512#32) 512#32) 0#32 = BitVec.ofNat 32 (512 * n.val - 512) := by
  decide +kernel

theorem biasWin (i : grid0.Coords) (x : Fin 512) (y : Fin 1024) :
    k0_pay26 (F := Ideal) i (ix2 x y) = if decide (start i + y.val ≤ pos i x ∧ pos i x < start i + y.val + 512) = true then 0 else ⊥ := by
  have := point_lt i
  have hp := pos_lt i x
  pointwise [k0_pay26]
  rw [pos_word, start_all ⟨(i 2).val, point_lt i⟩]
  rw [show IntOp.addi (BitVec.ofNat 32 (512 * (i 2).val - 512)) (BitVec.ofNat 32 y.val) = BitVec.ofNat 32 (start i + y.val) from (BitVec.ofNat_add ..).symm,
    sle_ofNat (by unfold start; omega) (by omega), after_window (by unfold start; omega) (by omega), WordCmp.andi_ofBool, select_ofBool, mask_named]
  simp only [Bool.and_eq_true, decide_eq_true_eq]

/-- The marks of the query block at a grid point. -/
def markOut (i : grid0.Coords) (q : FVec Ideal S2048x128 .bf16) (kc : Vec Ideal S1x1x128x128 .bf16) : FVec Ideal S512x128 .bf16 :=
  marks (k0_pay40 (headSum i q kc) k0_pay37 k0_pay38 k0_pay39) (k0_pay41 (k0_pay24 i))

theorem cur_word (i : grid0.Coords) (x : Fin 512) : k0_pay41 (k0_pay24 i) (ix2 x 0) = BitVec.ofNat 32 (pos i x / 64) := by
  have h := floorDiv_64 (pos_lt i x)
  have hp := pos_word i x
  generalize k0_pay24 i = p at hp
  unfold floorDiv at h
  pointwise [k0_pay41]
  rw [hp]
  exact h

open Classical in
theorem markOut_at (i : grid0.Coords) (q : FVec Ideal S2048x128 .bf16) (kc : Vec Ideal S1x1x128x128 .bf16) (x : Fin 512)
    (hq : ∀ r e, IsReal (q (ix2 (row r x) e))) (hk : ∀ k e, IsReal (kc (ix4 0 0 k e))) (j : Fin 32) :
    markOut i q kc (ix2 x ⟨j.val, by omega⟩)
      = if sel (fun r k => dotR (fun e => q (ix2 (row r x) e)) (fun e => kc (ix4 0 0 k e))) (pos i x) j then 1 else 0 := by
  unfold markOut
  rw [marks_low]
  have hs : ∀ j : Fin 32, k0_pay43 (k0_pay40 (headSum i q kc) k0_pay37 k0_pay38 k0_pay39) (iota .tc S1x128 32 [1] iota_S1x128_d1_w32)
      (k0_pay41 (k0_pay24 i)) k0_pay42 (ix2 j x)
      = score (fun r k => dotR (fun e => q (ix2 (row r x) e)) (fun e => kc (ix4 0 0 k e))) (pos i x) j := fun j =>
    score_at _ _ (pos_lt i x) _ _ x (fun j => groupSum_at _ x _ (headSum_at i q kc x hq hk) j) (cur_word i x) j
  simp only [hs]
  exact if_congr Iff.rfl rfl rfl

end Cert.KernelIdeal.Words
end
-- ==== Proof.Val.Tile.lean ====
/- The window and the selected attention of the tile, as attentions over all keys of the sequence. -/
module

public import proofs.«01_k».proof.Proof.Val.Score

@[expose] public section

noncomputable section

namespace Cert.KernelIdeal.Words

open Cert.KernelIdeal Cert.KernelIdeal.Gen Idealize.ShloMosaic Cert.Nsa

set_option maxHeartbeats 2000000

/-- The exponents' scale, `1 / (√128 · log 2)`. -/
def scale2 : ℝ := (Real.sqrt 128 * Real.log 2)⁻¹

theorem scale2_named : Named.named (F := Ideal) (φ := .f32) κ "scale_log2e" 0x3E0293EE#32 = ((scale2 : ℝ) : EReal) := by
  exact IdealRules.named_const.ideal_named_scalar _ _ _ _ rfl

theorem scale2_pos : 0 < scale2 :=
  inv_pos.mpr (mul_pos (Real.sqrt_pos.mpr (by norm_num)) (Real.log_pos (by norm_num)))

theorem two_pow (x : ℝ) : (2 : ℝ) ^ (x * scale2) = Real.exp (scale * x) := by
  have h1 : (0 : ℝ) < Real.sqrt 128 := Real.sqrt_pos.mpr (by norm_num)
  have h2 : (0 : ℝ) < Real.log 2 := Real.log_pos (by norm_num)
  rw [Real.rpow_def_of_pos (by norm_num)]
  congr 1
  unfold scale2 scale
  field_simp

theorem head_att {n : ℕ} (s' : Fin n → ℝ) (M : Fin n → Bool) (s b v : Fin n → EReal) (hs : ∀ k, s k = ((s' k : ℝ) : EReal))
    (hb : ∀ k, b k = if M k = true then 0 else ⊥) : head s b v = att scale s' M v := by
  have hz : ∀ k, s k + b k = if M k = true then ((s' k : ℝ) : EReal) else ⊥ := fun k => by
    rw [hs, hb]; cases M k
    · simp
    · simp
  unfold head
  rw [ofBits_negInf, scale2_named]
  exact att_bias scale scale2 scale2_pos two_pow s' M v (fun k => s k + b k) hz

/-- The keys a block of `n` rows from `o` on holds. -/
theorem att_rows {n : ℕ} (o : ℕ) (ho : o + n ≤ 2048) (s : Fin 2048 → ℝ) (M : Fin 2048 → Bool) (v : Fin 2048 → EReal)
    (h : ∀ k, M k = true → o ≤ k.val ∧ k.val < o + n) :
    att scale s M v = att scale (fun y : Fin n => s ⟨o + y.val, by omega⟩) (fun y : Fin n => M ⟨o + y.val, by omega⟩) (fun y : Fin n => v ⟨o + y.val, by omega⟩) :=
  att_comp (fun y : Fin n => (⟨o + y.val, by omega⟩ : Fin 2048)) (fun a b h => by simpa [Fin.ext_iff] using h) v
    (fun k hk => ⟨⟨k.val - o, by have := h k hk; omega⟩, Fin.ext (by have := h k hk; simp; omega)⟩)

/-- The window's result of a head, over all the keys `K` and values `V` of the sequence. -/
theorem win_att (i : grid0.Coords) (q : Vec Ideal S512x512 .bf16) (k v : Vec Ideal S1024x128 .bf16) (K V : Fin 2048 → Fin 128 → EReal) (r : Fin 4) (x : Fin 512)
    (hk : ∀ (y : Fin 1024) (h : start i + y.val < 2048) e, k (ix2 y e) = K ⟨start i + y.val, h⟩ e)
    (hv : ∀ (y : Fin 1024) (h : start i + y.val < 2048) e, v (ix2 y e) = V ⟨start i + y.val, h⟩ e)
    (hq : ∀ e, IsReal (k0_pay23 q (ix2 (row r x) e))) (hK : ∀ y e, IsReal (K y e)) (d : Fin 128) :
    winOut i q k v (ix2 (row r x) d)
      = att scale (fun y => dotR (fun e => k0_pay23 q (ix2 (row r x) e)) (K y)) (winMask (pos i x)) (fun y => V y d) := by
  have hi := point_lt i
  have hp : pos i x = 512 * (i 2).val + x.val := rfl
  have hst : start i = 512 * (i 2).val - 512 := rfl
  have hle : start i + 1024 ≤ 2048 := by omega
  rw [winOut_at, att_rows (n := 1024) (start i) hle _ _ _ (fun k hk => by
    have := of_decide_eq_true hk
    omega)]
  simp only [hk _ (lt_of_lt_of_le (Nat.add_lt_add_left (Fin.isLt _) _) hle), hv _ (lt_of_lt_of_le (Nat.add_lt_add_left (Fin.isLt _) _) hle)]
  exact head_att _ _ _ _ _ (fun y => dot_real hq (hK _)) (fun y => biasWin i x y)

/-- The selected keys' result of a head from the first `n` keys, over all the keys of the sequence. -/
theorem sel_att {n : ℕ} (hn : n ≤ 2048) (s' : Fin 4 → Fin 128 → ℝ) (t : ℕ) (ht : t < n) (q : Fin 128 → EReal) (K : Fin 2048 → Fin 128 → EReal) (V : Fin 2048 → EReal)
    (s b v : Fin n → EReal) (hq : ∀ e, IsReal (q e)) (hK : ∀ y e, IsReal (K y e))
    (hs : ∀ y, s y = ∑ e, q e * K ⟨y.val, by omega⟩ e) (hv : ∀ y, v y = V ⟨y.val, by omega⟩)
    (hb : ∀ y, b y = if selMask s' t ⟨y.val, by omega⟩ = true then 0 else ⊥) :
    head s b v = att scale (fun y => dotR q (K y)) (selMask s' t) V := by
  rw [att_rows (n := n) 0 (by omega) _ _ _ (fun k hk => by
    have := (by simpa [selMask] using hk : _ ∧ k.val ≤ t)
    omega)]
  simp only [Nat.zero_add]
  obtain rfl : v = _ := funext hv
  exact head_att _ _ _ _ _ (fun y => (hs y).trans (dot_real hq (hK _))) hb

end Cert.KernelIdeal.Words
end
-- ==== Proof.Val.Pieces.lean ====
/- The stored pieces of one grid point: the gated sums of the three attentions, one column group per head. -/
module

public import proofs.«01_k».proof.Proof.Val.Tile
public import Idealize.ShloMosaic.Lib.Pipeline.ValueKit

@[expose] public section

set_option maxRecDepth 16384

noncomputable section

namespace Cert.KernelIdeal.Words

open Cert.KernelIdeal Cert.KernelIdeal.Gen Idealize.ShloMosaic Cert.Nsa

/-- The four stores, from the stacked window, compressed and selected results and the gates. -/
def pieces (W C S : FVec Ideal S2048x128 .f32) (G : Vec Ideal S512x128 .f32) : List (View.Piece (Elt Ideal) S512x512 .bf16) :=
  [⟨Rect.unit ![0, 384] S512x128.size inb_S512x512_S512x128_0_384, k0_pay2 W C S G⟩,
   ⟨Rect.unit ![0, 256] S512x128.size inb_S512x512_S512x128_0_256, k0_pay1 W (k0_pay76 C S G) (k0_pay77 G)⟩,
   ⟨Rect.unit ![0, 128] S512x128.size inb_S512x512_S512x128_0_128, k0_pay75 W C S G⟩,
   ⟨Rect.unit ![0, 0] S512x128.size inb_S512x512_S512x128_0_0, k0_pay74 W C S G⟩]

theorem idx_eq (z : S512x128.Idx) (x : Fin 512) (d : Fin 128) (h0 : x.val = (z 0).val) (h1 : (z 1).val = d.val) : z = ix2 x d := by
  funext a
  match a with
  | 0 => exact Fin.ext h0.symm
  | 1 => exact Fin.ext h1

theorem pieces_at (W C S : FVec Ideal S2048x128 .f32) (G : Vec Ideal S512x128 .f32) (x : Fin 512) (r : Fin 4) (d : Fin 128) :
    View.canon (pieces W C S G) (ix2 x ⟨128 * r.val + d.val, by omega⟩)
      = G (ix2 x ⟨r.val, by omega⟩) * C (ix2 (row r x) d) + G (ix2 x ⟨4 + r.val, by omega⟩) * S (ix2 (row r x) d)
        + G (ix2 x ⟨8 + r.val, by omega⟩) * W (ix2 (row r x) d) := by
  have h0' : ((ix2 x (⟨128 * r.val + d.val, by omega⟩ : Fin 512) : S512x512.Idx) 0 : ℕ) = x.val := rfl
  have h1' : ((ix2 x (⟨128 * r.val + d.val, by omega⟩ : Fin 512) : S512x512.Idx) 1 : ℕ) = 128 * r.val + d.val := rfl
  unfold pieces
  canon_tiles z h
  · rw [h0'] at h0
    rw [h1'] at h1
    obtain rfl : r = 3 := Fin.ext (by simp; omega)
    obtain rfl : z = ix2 x d := idx_eq z x d h0 (by simp at h1; omega)
    pointwise [k0_pay2]
    rfl
  · rw [h0'] at h0
    rw [h1'] at h1
    obtain rfl : r = 2 := Fin.ext (by simp; omega)
    obtain rfl : z = ix2 x d := idx_eq z x d h0 (by simp at h1; omega)
    pointwise [k0_pay1, k0_pay76, k0_pay77]
    rfl
  · rw [h0'] at h0
    rw [h1'] at h1
    obtain rfl : r = 1 := Fin.ext (by simp; omega)
    obtain rfl : z = ix2 x d := idx_eq z x d h0 (by simp at h1; omega)
    pointwise [k0_pay75]
    rfl
  · rw [h0'] at h0
    rw [h1'] at h1
    obtain rfl : r = 0 := Fin.ext (by simp; omega)
    obtain rfl : z = ix2 x d := idx_eq z x d h0 (by simp at h1; omega)
    pointwise [k0_pay74]
    rw [row_zero]

end Cert.KernelIdeal.Words
end
-- ==== Proof.Val.Stores.lean ====
/- The stores of the four cases of the body are the pieces of the window, compressed and selected results. -/
module

public import proofs.«01_k».proof.Proof.Ideal.Frame
public import proofs.«01_k».proof.Proof.Val.Pieces

@[expose] public section

set_option maxRecDepth 16384

noncomputable section

namespace Cert.KernelIdeal.Attn

open Cert.KernelIdeal Cert.KernelIdeal.Gen Cert.KernelIdeal.Words Idealize.ShloMosaic

theorem load_eq {s : Shape} {e : EltTy} (a : Memref sig .tc .vmem s e) (h : a.IsWhole) (X : Vec Ideal s e) (r : Rect s) :
    View.readAt (Elt Ideal) a.view r.toLoadRect (h.unread X) = View.ld X r := by
  rw [View.readAt_eq_ld, h.read_unread]

theorem zero2 : (![0, 0] : Fin 2 → ℕ) = fun _ => 0 := by funext a; fin_cases a <;> rfl
theorem zero4 : (![0, 0, 0, 0] : Fin 4 → ℕ) = fun _ => 0 := by funext a; fin_cases a <;> rfl

section
variable (c : Dev nD) (i : grid0.Coords) (a0 : Memref sig .tc .vmem S512x512 .bf16) (h0 : a0.IsWhole)
  (a1 : Memref sig .tc .vmem S2048x128 .bf16) (h1 : a1.IsWhole) (a2 : Memref sig .tc .vmem S2048x128 .bf16) (h2 : a2.IsWhole)
  (a3 : Memref sig .tc .vmem S2048x128 .bf16) (h3 : a3.IsWhole) (a4 : Memref sig .tc .vmem S2048x128 .bf16) (h4 : a4.IsWhole)
  (a5 : Memref sig .tc .vmem S1x1x128x128 .bf16) (h5 : a5.IsWhole) (a6 : Memref sig .tc .vmem S1x1x128x128 .bf16) (h6 : a6.IsWhole)
  (a7 : Memref sig .tc .vmem S512x128 .f32) (h7 : a7.IsWhole) (a8 : Memref sig .tc .vmem S512x512 .bf16) (h8 : a8.IsWhole)
  (x0 : Vec Ideal S512x512 .bf16) (x1 x2 x3 x4 : Vec Ideal S2048x128 .bf16) (x5 x6 : Vec Ideal S1x1x128x128 .bf16) (x7 : Vec Ideal S512x128 .f32)

theorem run0_pieces (hi : (i 2).val = 0) :
    (run0 c i hi a0 h0 a1 h1 a2 h2 a3 h3 a4 h4 a5 h5 a6 h6 a7 h7 a8 h8 x0 x1 x2 x3 x4 x5 x6 x7).1
      = pieces (winOut i x0 (View.ld x3 (Rect.unit (k0_off1 i) S1024x128.size (k0_off1_inb i))) (View.ld x4 (Rect.unit (k0_off1 i) S1024x128.size (k0_off1_inb i))))
          (cmpOut i (k0_pay23 x0) x5 x6)
          (selOut0 (k0_pay23 x0) (k0_pay18 (k0_pay24 i) (markOut i (k0_pay23 x0) x5))
            (View.ld x1 (Rect.unit ![0, 0] S512x128.size inb_S2048x128_S512x128_0_0)) (View.ld x2 (Rect.unit ![0, 0] S512x128.size inb_S2048x128_S512x128_0_0)))
          x7 := by
  have e0 := (load_eq a0 h0 x0 (Rect.unit ![0, 0] S512x512.size inb_S512x512_S512x512_0_0)).trans (View.ld_unit_zero zero2 _ _)
  have e5 := (load_eq a5 h5 x5 (Rect.unit ![0, 0, 0, 0] S1x1x128x128.size inb_S1x1x128x128_S1x1x128x128_0_0_0_0)).trans (View.ld_unit_zero zero4 _ _)
  have e6 := (load_eq a6 h6 x6 (Rect.unit ![0, 0, 0, 0] S1x1x128x128.size inb_S1x1x128x128_S1x1x128x128_0_0_0_0)).trans (View.ld_unit_zero zero4 _ _)
  have e7 := (load_eq a7 h7 x7 (Rect.unit ![0, 0] S512x128.size inb_S512x128_S512x128_0_0)).trans (View.ld_unit_zero zero2 _ _)
  rw [← load_eq a3 h3 x3, ← load_eq a4 h4 x4, ← load_eq a1 h1 x1, ← load_eq a2 h2 x2]
  conv_rhs => rw [← e0, ← e5, ← e6, ← e7]
  rfl

theorem run1_pieces (hi : (i 2).val = 1) :
    (run1 c i hi a0 h0 a1 h1 a2 h2 a3 h3 a4 h4 a5 h5 a6 h6 a7 h7 a8 h8 x0 x1 x2 x3 x4 x5 x6 x7).1
      = pieces (winOut i x0 (View.ld x3 (Rect.unit (k0_off1 i) S1024x128.size (k0_off1_inb i))) (View.ld x4 (Rect.unit (k0_off1 i) S1024x128.size (k0_off1_inb i))))
          (cmpOut i (k0_pay23 x0) x5 x6)
          (selOut1 (k0_pay23 x0) (k0_pay13 (k0_pay24 i) (markOut i (k0_pay23 x0) x5))
            (View.ld x1 (Rect.unit ![0, 0] S1024x128.size inb_S2048x128_S1024x128_0_0)) (View.ld x2 (Rect.unit ![0, 0] S1024x128.size inb_S2048x128_S1024x128_0_0)))
          x7 := by
  have e0 := (load_eq a0 h0 x0 (Rect.unit ![0, 0] S512x512.size inb_S512x512_S512x512_0_0)).trans (View.ld_unit_zero zero2 _ _)
  have e5 := (load_eq a5 h5 x5 (Rect.unit ![0, 0, 0, 0] S1x1x128x128.size inb_S1x1x128x128_S1x1x128x128_0_0_0_0)).trans (View.ld_unit_zero zero4 _ _)
  have e6 := (load_eq a6 h6 x6 (Rect.unit ![0, 0, 0, 0] S1x1x128x128.size inb_S1x1x128x128_S1x1x128x128_0_0_0_0)).trans (View.ld_unit_zero zero4 _ _)
  have e7 := (load_eq a7 h7 x7 (Rect.unit ![0, 0] S512x128.size inb_S512x128_S512x128_0_0)).trans (View.ld_unit_zero zero2 _ _)
  rw [← load_eq a3 h3 x3, ← load_eq a4 h4 x4, ← load_eq a1 h1 x1, ← load_eq a2 h2 x2]
  conv_rhs => rw [← e0, ← e5, ← e6, ← e7]
  rfl

theorem run2_pieces (hi : (i 2).val = 2) :
    (run2 c i hi a0 h0 a1 h1 a2 h2 a3 h3 a4 h4 a5 h5 a6 h6 a7 h7 a8 h8 x0 x1 x2 x3 x4 x5 x6 x7).1
      = pieces (winOut i x0 (View.ld x3 (Rect.unit (k0_off1 i) S1024x128.size (k0_off1_inb i))) (View.ld x4 (Rect.unit (k0_off1 i) S1024x128.size (k0_off1_inb i))))
          (cmpOut i (k0_pay23 x0) x5 x6)
          (selOut2 (k0_pay23 x0) (k0_pay8 (k0_pay24 i) (markOut i (k0_pay23 x0) x5))
            (View.ld x1 (Rect.unit ![0, 0] S1536x128.size inb_S2048x128_S1536x128_0_0)) (View.ld x2 (Rect.unit ![0, 0] S1536x128.size inb_S2048x128_S1536x128_0_0)))
          x7 := by
  have e0 := (load_eq a0 h0 x0 (Rect.unit ![0, 0] S512x512.size inb_S512x512_S512x512_0_0)).trans (View.ld_unit_zero zero2 _ _)
  have e5 := (load_eq a5 h5 x5 (Rect.unit ![0, 0, 0, 0] S1x1x128x128.size inb_S1x1x128x128_S1x1x128x128_0_0_0_0)).trans (View.ld_unit_zero zero4 _ _)
  have e6 := (load_eq a6 h6 x6 (Rect.unit ![0, 0, 0, 0] S1x1x128x128.size inb_S1x1x128x128_S1x1x128x128_0_0_0_0)).trans (View.ld_unit_zero zero4 _ _)
  have e7 := (load_eq a7 h7 x7 (Rect.unit ![0, 0] S512x128.size inb_S512x128_S512x128_0_0)).trans (View.ld_unit_zero zero2 _ _)
  rw [← load_eq a3 h3 x3, ← load_eq a4 h4 x4, ← load_eq a1 h1 x1, ← load_eq a2 h2 x2]
  conv_rhs => rw [← e0, ← e5, ← e6, ← e7]
  rfl

theorem run3_pieces (hi : (i 2).val = 3) :
    (run3 c i hi a0 h0 a1 h1 a2 h2 a3 h3 a4 h4 a5 h5 a6 h6 a7 h7 a8 h8 x0 x1 x2 x3 x4 x5 x6 x7).1
      = pieces (winOut i x0 (View.ld x3 (Rect.unit (k0_off1 i) S1024x128.size (k0_off1_inb i))) (View.ld x4 (Rect.unit (k0_off1 i) S1024x128.size (k0_off1_inb i))))
          (cmpOut i (k0_pay23 x0) x5 x6)
          (selOut3 (k0_pay23 x0) (k0_pay3 (k0_pay24 i) (markOut i (k0_pay23 x0) x5))
            (View.ld x1 (Rect.unit ![0, 0] S2048x128.size inb_S2048x128_S2048x128_0_0)) (View.ld x2 (Rect.unit ![0, 0] S2048x128.size inb_S2048x128_S2048x128_0_0)))
          x7 := by
  have e0 := (load_eq a0 h0 x0 (Rect.unit ![0, 0] S512x512.size inb_S512x512_S512x512_0_0)).trans (View.ld_unit_zero zero2 _ _)
  have e5 := (load_eq a5 h5 x5 (Rect.unit ![0, 0, 0, 0] S1x1x128x128.size inb_S1x1x128x128_S1x1x128x128_0_0_0_0)).trans (View.ld_unit_zero zero4 _ _)
  have e6 := (load_eq a6 h6 x6 (Rect.unit ![0, 0, 0, 0] S1x1x128x128.size inb_S1x1x128x128_S1x1x128x128_0_0_0_0)).trans (View.ld_unit_zero zero4 _ _)
  have e7 := (load_eq a7 h7 x7 (Rect.unit ![0, 0] S512x128.size inb_S512x128_S512x128_0_0)).trans (View.ld_unit_zero zero2 _ _)
  rw [← load_eq a3 h3 x3, ← load_eq a4 h4 x4, ← load_eq a1 h1 x1, ← load_eq a2 h2 x2]
  conv_rhs => rw [← e0, ← e5, ← e6, ← e7]
  rfl

end

end Cert.KernelIdeal.Attn
end
-- ==== Proof.Val.Block.lean ====
/- What one grid point leaves in its block of the result: the three gated attentions of its queries. -/
module

public import proofs.«01_k».proof.Proof.Val.Stores

@[expose] public section

set_option maxRecDepth 16384

noncomputable section

namespace Cert.KernelIdeal.Block

open Cert.KernelIdeal Cert.KernelIdeal.Gen Cert.KernelIdeal.Words Idealize.ShloMosaic Cert.Nsa

theorem off1_eq : ∀ i : grid0.Coords, k0_off1 i = ![512 * (i 2).val - 512, 0] := by decide +kernel

theorem ld_window (i : grid0.Coords) (X : Vec Ideal S2048x128 .bf16) (y : Fin 1024) (h : start i + y.val < 2048) (e : Fin 128) :
    View.ld X (Rect.unit (k0_off1 i) S1024x128.size (k0_off1_inb i)) (ix2 y e) = X (ix2 ⟨start i + y.val, h⟩ e) := by
  refine View.ld_unit_apply_of X _ _ _ _ _ fun a => ?_
  have h1 := congrFun (off1_eq i) a
  match a with
  | 0 => exact congrArg (· + y.val) h1.symm
  | 1 => exact (Nat.zero_add _).symm.trans (congrArg (· + e.val) h1.symm)

theorem ld_first {n : ℕ} (hn : n ≤ 2048) (h : ∀ a, (![0, 0] : Fin 2 → ℕ) a + (⟨2, ![n, 128]⟩ : Shape).size a ≤ S2048x128.size a) (X : Vec Ideal S2048x128 .bf16) (y : Fin n) (e : Fin 128) :
    View.ld X (Rect.unit (s := S2048x128) ![0, 0] (⟨2, ![n, 128]⟩ : Shape).size h) (ix2 y e) = X (ix2 ⟨y.val, by omega⟩ e) := by
  refine View.ld_unit_apply_of X _ _ _ _ _ fun a => ?_
  match a with
  | 0 => exact (Nat.zero_add _).symm
  | 1 => exact (Nat.zero_add _).symm

section
variable (i : grid0.Coords) (x0 : Vec Ideal S512x512 .bf16) (x1 x2 x3 x4 : Vec Ideal S2048x128 .bf16) (x5 x6 : Vec Ideal S1x1x128x128 .bf16) (x7 : Vec Ideal S512x128 .f32)
  (hq : ∀ x y, IsReal (x0 (ix2 x y))) (hks : ∀ y e, IsReal (x1 (ix2 y e))) (hkw : ∀ y e, IsReal (x3 (ix2 y e))) (hkc : ∀ k e, IsReal (x5 (ix4 0 0 k e)))

/-- The queries of one position, by head. -/
abbrev qs (x : Fin 512) (r : Fin 4) (e : Fin 128) : EReal := x0 (ix2 x ⟨128 * r.val + e.val, by omega⟩)

/-- The scores of the compressed blocks. -/
abbrev cs (x : Fin 512) (r : Fin 4) (k : Fin 128) : ℝ := dotR (qs x0 x r) (fun e => x5 (ix4 0 0 k e))

include hq hkc in
theorem mark_at (x : Fin 512) (j : Fin 32) : markOut i (k0_pay23 x0) x5 (ix2 x ⟨j.val, by omega⟩)
    = @ite _ (sel (cs x0 x5 x) (pos i x) j) (Classical.propDecidable _) 1 0 := by
  have h := markOut_at i (k0_pay23 x0) x5 x (fun r e => by rw [stacked]; exact hq _ _) hkc j
  rw [show (fun r k => dotR (fun e => k0_pay23 x0 (ix2 (row r x) e)) (fun e => x5 (ix4 0 0 k e))) = cs x0 x5 x from
    funext fun r => funext fun k => congrArg (fun f => dotR f _) (funext fun e => stacked x0 r x e)] at h
  exact h

include hq hkw hkc in
theorem block_at (S : FVec Ideal S2048x128 .f32) (x : Fin 512) (r : Fin 4) (d : Fin 128)
    (hS : S (ix2 (row r x) d) = att scale (fun y => dotR (qs x0 x r) (fun e => x1 (ix2 y e))) (selMask (cs x0 x5 x) (pos i x)) (fun y => x2 (ix2 y d))) :
    View.canon (pieces (winOut i x0 (View.ld x3 (Rect.unit (k0_off1 i) S1024x128.size (k0_off1_inb i))) (View.ld x4 (Rect.unit (k0_off1 i) S1024x128.size (k0_off1_inb i))))
        (cmpOut i (k0_pay23 x0) x5 x6) S x7) (ix2 x ⟨128 * r.val + d.val, by omega⟩)
      = out (qs x0 x) (fun k e => x5 (ix4 0 0 k e)) (fun k e => x6 (ix4 0 0 k e)) (fun y e => x1 (ix2 y e)) (fun y e => x2 (ix2 y e))
          (fun y e => x3 (ix2 y e)) (fun y e => x4 (ix2 y e)) (fun k => x7 (ix2 x k)) (pos i x) r d := by
  have hr : ∀ e, IsReal (k0_pay23 x0 (ix2 (row r x) e)) := fun e => by rw [stacked]; exact hq _ _
  rw [pieces_at, hS, cmpOut_at i _ _ _ r x hr hkc,
    win_att i x0 _ _ (fun y e => x3 (ix2 y e)) (fun y e => x4 (ix2 y e)) r x (fun y h e => ld_window i x3 y h e) (fun y h e => ld_window i x4 y h e) hr hkw]
  simp only [stacked]
  rfl

include hq hks hkc in
theorem sel0_at (hi : (i 2).val = 0) (x : Fin 512) (r : Fin 4) (d : Fin 128) :
    selOut0 (k0_pay23 x0) (k0_pay18 (k0_pay24 i) (markOut i (k0_pay23 x0) x5))
      (View.ld x1 (Rect.unit ![0, 0] S512x128.size inb_S2048x128_S512x128_0_0)) (View.ld x2 (Rect.unit ![0, 0] S512x128.size inb_S2048x128_S512x128_0_0)) (ix2 (row r x) d)
      = att scale (fun y => dotR (qs x0 x r) (fun e => x1 (ix2 y e))) (selMask (cs x0 x5 x) (pos i x)) (fun y => x2 (ix2 y d)) := by
  rw [selOut0_at]
  refine sel_att (n := 512) (by omega) _ _ (by unfold pos; omega) (qs x0 x r) (fun y e => x1 (ix2 y e)) _ _ _ _ (fun e => hq _ _) hks (fun y => ?_) (fun y => ?_) (fun y => ?_)
  · simp only [stacked]
    exact Finset.sum_congr rfl fun e _ => congrArg _ (ld_first (by omega) _ x1 y e)
  · exact ld_first (by omega) _ x2 y d
  · exact bias512 _ _ x _ (pos i x) (pos_lt i x) (pos_word i x) (mark_at i x0 x5 hq hkc x) y

include hq hks hkc in
theorem sel1_at (hi : (i 2).val = 1) (x : Fin 512) (r : Fin 4) (d : Fin 128) :
    selOut1 (k0_pay23 x0) (k0_pay13 (k0_pay24 i) (markOut i (k0_pay23 x0) x5))
      (View.ld x1 (Rect.unit ![0, 0] S1024x128.size inb_S2048x128_S1024x128_0_0)) (View.ld x2 (Rect.unit ![0, 0] S1024x128.size inb_S2048x128_S1024x128_0_0)) (ix2 (row r x) d)
      = att scale (fun y => dotR (qs x0 x r) (fun e => x1 (ix2 y e))) (selMask (cs x0 x5 x) (pos i x)) (fun y => x2 (ix2 y d)) := by
  rw [selOut1_at]
  refine sel_att (n := 1024) (by omega) _ _ (by unfold pos; omega) (qs x0 x r) (fun y e => x1 (ix2 y e)) _ _ _ _ (fun e => hq _ _) hks (fun y => ?_) (fun y => ?_) (fun y => ?_)
  · simp only [stacked]
    exact Finset.sum_congr rfl fun e _ => congrArg _ (ld_first (by omega) _ x1 y e)
  · exact ld_first (by omega) _ x2 y d
  · exact bias1024 _ _ x _ (pos i x) (pos_lt i x) (pos_word i x) (mark_at i x0 x5 hq hkc x) y

include hq hks hkc in
theorem sel2_at (hi : (i 2).val = 2) (x : Fin 512) (r : Fin 4) (d : Fin 128) :
    selOut2 (k0_pay23 x0) (k0_pay8 (k0_pay24 i) (markOut i (k0_pay23 x0) x5))
      (View.ld x1 (Rect.unit ![0, 0] S1536x128.size inb_S2048x128_S1536x128_0_0)) (View.ld x2 (Rect.unit ![0, 0] S1536x128.size inb_S2048x128_S1536x128_0_0)) (ix2 (row r x) d)
      = att scale (fun y => dotR (qs x0 x r) (fun e => x1 (ix2 y e))) (selMask (cs x0 x5 x) (pos i x)) (fun y => x2 (ix2 y d)) := by
  rw [selOut2_at]
  refine sel_att (n := 1536) (by omega) _ _ (by unfold pos; omega) (qs x0 x r) (fun y e => x1 (ix2 y e)) _ _ _ _ (fun e => hq _ _) hks (fun y => ?_) (fun y => ?_) (fun y => ?_)
  · simp only [stacked]
    exact Finset.sum_congr rfl fun e _ => congrArg _ (ld_first (by omega) _ x1 y e)
  · exact ld_first (by omega) _ x2 y d
  · exact bias1536 _ _ x _ (pos i x) (pos_lt i x) (pos_word i x) (mark_at i x0 x5 hq hkc x) y

include hq hks hkc in
theorem sel3_at (hi : (i 2).val = 3) (x : Fin 512) (r : Fin 4) (d : Fin 128) :
    selOut3 (k0_pay23 x0) (k0_pay3 (k0_pay24 i) (markOut i (k0_pay23 x0) x5))
      (View.ld x1 (Rect.unit ![0, 0] S2048x128.size inb_S2048x128_S2048x128_0_0)) (View.ld x2 (Rect.unit ![0, 0] S2048x128.size inb_S2048x128_S2048x128_0_0)) (ix2 (row r x) d)
      = att scale (fun y => dotR (qs x0 x r) (fun e => x1 (ix2 y e))) (selMask (cs x0 x5 x) (pos i x)) (fun y => x2 (ix2 y d)) := by
  rw [selOut3_at]
  refine sel_att (n := 2048) (by omega) _ _ (by unfold pos; omega) (qs x0 x r) (fun y e => x1 (ix2 y e)) _ _ _ _ (fun e => hq _ _) hks (fun y => ?_) (fun y => ?_) (fun y => ?_)
  · simp only [stacked]
    exact Finset.sum_congr rfl fun e _ => congrArg _ (ld_first (by omega) _ x1 y e)
  · exact ld_first (by omega) _ x2 y d
  · exact bias2048 _ _ x _ (pos i x) (pos_lt i x) (pos_word i x) (mark_at i x0 x5 hq hkc x) y

end

variable (m : (ℓ : Loc nD τ sig) → Buf (Elt Ideal) ℓ)

/-- The block of the result at a grid point. -/
theorem outAt_at (c : Dev nD) (t : Fin cfg0.N)
    (hq : ∀ x y, IsReal (X0_0 m c t (ix2 x y))) (hks : ∀ y e, IsReal ((iblk m c 1 t : Vec Ideal S2048x128 .bf16) (ix2 y e)))
    (hkw : ∀ y e, IsReal ((iblk m c 3 t : Vec Ideal S2048x128 .bf16) (ix2 y e))) (hkc : ∀ k e, IsReal ((iblk m c 5 t : Vec Ideal S1x1x128x128 .bf16) (ix4 0 0 k e)))
    (x : Fin 512) (r : Fin 4) (d : Fin 128) :
    Attn.outAt m c t (ix2 x ⟨128 * r.val + d.val, by omega⟩)
      = out (qs (X0_0 m c t) x) (fun k e => (iblk m c 5 t : Vec Ideal S1x1x128x128 .bf16) (ix4 0 0 k e)) (fun k e => (iblk m c 6 t : Vec Ideal S1x1x128x128 .bf16) (ix4 0 0 k e))
          (fun y e => (iblk m c 1 t : Vec Ideal S2048x128 .bf16) (ix2 y e)) (fun y e => (iblk m c 2 t : Vec Ideal S2048x128 .bf16) (ix2 y e))
          (fun y e => (iblk m c 3 t : Vec Ideal S2048x128 .bf16) (ix2 y e)) (fun y e => (iblk m c 4 t : Vec Ideal S2048x128 .bf16) (ix2 y e))
          (fun k => X0_7 m c t (ix2 x k)) (pos (grid0.coords t) x) r d := by
  have hlt := point_lt (grid0.coords t)
  obtain h | h | h | h : (grid0.coords t 2).val = 0 ∨ (grid0.coords t 2).val = 1 ∨ (grid0.coords t 2).val = 2 ∨ (grid0.coords t 2).val = 3 := by omega
  · rw [Attn.outAt_0 m c t h, Attn.outOf, View.read_writes_junk_eq_canon, Attn.stores0, Attn.run0_pieces]
    exact block_at _ _ _ _ _ _ _ _ _ hq hkw hkc _ x r d (sel0_at _ _ _ _ _ hq hks hkc h x r d)
  · rw [Attn.outAt_1 m c t h, Attn.outOf, View.read_writes_junk_eq_canon, Attn.stores1, Attn.run1_pieces]
    exact block_at _ _ _ _ _ _ _ _ _ hq hkw hkc _ x r d (sel1_at _ _ _ _ _ hq hks hkc h x r d)
  · rw [Attn.outAt_2 m c t h, Attn.outOf, View.read_writes_junk_eq_canon, Attn.stores2, Attn.run2_pieces]
    exact block_at _ _ _ _ _ _ _ _ _ hq hkw hkc _ x r d (sel2_at _ _ _ _ _ hq hks hkc h x r d)
  · rw [Attn.outAt_3 m c t h, Attn.outOf, View.read_writes_junk_eq_canon, Attn.stores3, Attn.run3_pieces]
    exact block_at _ _ _ _ _ _ _ _ _ hq hkw hkc _ x r d (sel3_at _ _ _ _ _ hq hks hkc h x r d)

end Cert.KernelIdeal.Block
end
-- ==== Proof.Val.Array.lean ====
/- The kernel's whole result: its blocks read off the arguments, and the array they fill. -/
module

public import proofs.«01_k».proof.Proof.Val.Block
public import proofs.«01_k».proof.Proof.Math.Result
public import Idealize.ShloMosaic.Lib.Pipeline.ValueKit

@[expose] public section

set_option maxRecDepth 16384

noncomputable section

namespace Cert.KernelIdeal.Block

open Cert.KernelIdeal Cert.KernelIdeal.Gen Cert.KernelIdeal.Words Idealize.ShloMosaic Idealize.ShloMosaic.TcCoe Cert.Nsa

variable (m : (ℓ : Loc nD τ sig) → Buf (Elt Ideal) ℓ) (c : Dev nD)

/-- Where each window's block lies. -/
theorem idx : ∀ t : Fin cfg0.N,
    (win0_0.index t = ![4 * (grid0.coords t 0).val + (grid0.coords t 2).val, (grid0.coords t 1).val]
    ∧ win0_1.index t = ![(grid0.coords t 0).val, (grid0.coords t 1).val]
    ∧ win0_2.index t = ![(grid0.coords t 0).val, (grid0.coords t 1).val + 4]
    ∧ win0_3.index t = ![(grid0.coords t 0).val, (grid0.coords t 1).val]
    ∧ win0_4.index t = ![(grid0.coords t 0).val, (grid0.coords t 1).val + 4])
    ∧ win0_5.index t = ![(grid0.coords t 0).val, (grid0.coords t 1).val, 0, 0]
    ∧ win0_6.index t = ![(grid0.coords t 0).val, (grid0.coords t 1).val + 4, 0, 0]
    ∧ win0_7.index t = ![4 * (grid0.coords t 0).val + (grid0.coords t 2).val, (grid0.coords t 1).val]
    ∧ win0_8.index t = ![4 * (grid0.coords t 0).val + (grid0.coords t 2).val, (grid0.coords t 1).val] := by decide +kernel

/-- The position of a row of a point's block. -/
abbrev at' (t : Fin cfg0.N) (x : Fin 512) : Fin 2048 := ⟨pos (grid0.coords t) x, pos_lt _ _⟩

theorem q_read (t : Fin cfg0.N) (x : Fin 512) (r : Fin 4) (e : Fin 128) :
    qs (X0_0 m c t) x r e = qOf (m (c.tc.loc main_arg0)) (grid0.coords t 0) (grid0.coords t 1) (at' t x) r e := by
  unfold qs X0_0 Pipeline.Window.fill
  rw [dif_pos (moved0_0 t _)]
  blk_ext [iblk, V, (idx t).1.1, pos]

theorem g_read (t : Fin cfg0.N) (x : Fin 512) (k : Fin 128) :
    X0_7 m c t (ix2 x k) = gOf (m (c.tc.loc main_arg4)) (grid0.coords t 0) (grid0.coords t 1) (at' t x) k := by
  unfold X0_7 Pipeline.Window.fill
  rw [dif_pos (moved0_7 t _)]
  blk_ext [iblk, V, (idx t).2.2.2.1, pos]

theorem ks_read (t : Fin cfg0.N) (y : Fin 2048) (e : Fin 128) :
    (iblk m c 1 t : Vec Ideal S2048x128 .bf16) (ix2 y e) = kOf (m (c.tc.loc main_arg1)) (grid0.coords t 0) (grid0.coords t 1) y e := by
  blk_ext [iblk, V, (idx t).1.2.1]

theorem vs_read (t : Fin cfg0.N) (y : Fin 2048) (e : Fin 128) :
    (iblk m c 2 t : Vec Ideal S2048x128 .bf16) (ix2 y e) = vOf (m (c.tc.loc main_arg1)) (grid0.coords t 0) (grid0.coords t 1) y e := by
  blk_ext [iblk, V, (idx t).1.2.2.1]

theorem kw_read (t : Fin cfg0.N) (y : Fin 2048) (e : Fin 128) :
    (iblk m c 3 t : Vec Ideal S2048x128 .bf16) (ix2 y e) = kOf (m (c.tc.loc main_arg2)) (grid0.coords t 0) (grid0.coords t 1) y e := by
  blk_ext [iblk, V, (idx t).1.2.2.2.1]

theorem vw_read (t : Fin cfg0.N) (y : Fin 2048) (e : Fin 128) :
    (iblk m c 4 t : Vec Ideal S2048x128 .bf16) (ix2 y e) = vOf (m (c.tc.loc main_arg2)) (grid0.coords t 0) (grid0.coords t 1) y e := by
  blk_ext [iblk, V, (idx t).1.2.2.2.2]

theorem kc_read (t : Fin cfg0.N) (k e : Fin 128) :
    (iblk m c 5 t : Vec Ideal S1x1x128x128 .bf16) (ix4 0 0 k e) = kcOf (m (c.tc.loc main_arg3)) (grid0.coords t 0) (grid0.coords t 1) k e := by
  blk_ext [iblk, V, (idx t).2.1]

theorem vc_read (t : Fin cfg0.N) (k e : Fin 128) :
    (iblk m c 6 t : Vec Ideal S1x1x128x128 .bf16) (ix4 0 0 k e) = vcOf (m (c.tc.loc main_arg3)) (grid0.coords t 0) (grid0.coords t 1) k e := by
  blk_ext [iblk, V, (idx t).2.2.1]

section
variable (hf : Finite (m (c.tc.loc main_arg0)) (m (c.tc.loc main_arg1)) (m (c.tc.loc main_arg2)) (m (c.tc.loc main_arg3)))
include hf

theorem outAt_result (t : Fin cfg0.N) (x : Fin 512) (r : Fin 4) (d : Fin 128) :
    Attn.outAt m c t (ix2 x ⟨128 * r.val + d.val, by omega⟩)
      = result (m (c.tc.loc main_arg0)) (m (c.tc.loc main_arg1)) (m (c.tc.loc main_arg2)) (m (c.tc.loc main_arg3)) (m (c.tc.loc main_arg4))
          (grid0.coords t 0) (grid0.coords t 1) (at' t x) r d := by
  have hq : ∀ x y, IsReal (X0_0 m c t (ix2 x y)) := fun x y => by
    have h := q_read m c t x ⟨y.val / 128, by have := y.isLt; omega⟩ ⟨y.val % 128, by omega⟩
    have e : (⟨128 * (y.val / 128) + y.val % 128, by have := y.isLt; omega⟩ : Fin 512) = y := Fin.ext (Nat.div_add_mod _ _)
    unfold qs at h; rw [e] at h; rw [h]; exact hf.q _ _ _ _ _
  rw [outAt_at m c t hq (fun y e => by rw [ks_read]; exact hf.ks _ _ _ _) (fun y e => by rw [kw_read]; exact hf.kw _ _ _ _)
    (fun k e => by rw [kc_read]; exact hf.kc _ _ _ _) x r d]
  unfold result
  congr 1
  · funext r e; exact q_read m c t x r e
  · funext k e; exact kc_read m c t k e
  · funext k e; exact vc_read m c t k e
  · funext k e; exact ks_read m c t k e
  · funext k e; exact vs_read m c t k e
  · funext k e; exact kw_read m c t k e
  · funext k e; exact vw_read m c t k e
  · funext k; exact g_read m c t x k

/-- The result array the region leaves, at a position of the sequences. -/
theorem arr_at (i : S8256x2048.Idx) (hi : (i 0).val < 8192) :
    (Attn.dats m 0 c).arrAt 8 cfg0.N i
      = resultArr (m (c.tc.loc main_arg0)) (m (c.tc.loc main_arg1)) (m (c.tc.loc main_arg2)) (m (c.tc.loc main_arg3)) (m (c.tc.loc main_arg4))
          (ix2 ⟨(i 0).val, hi⟩ (i 1)) := by
  let G : S8256x2048.Idx → EReal := fun i => if hi : (i 0).val < 8192 then
    resultArr (m (c.tc.loc main_arg0)) (m (c.tc.loc main_arg1)) (m (c.tc.loc main_arg2)) (m (c.tc.loc main_arg3)) (m (c.tc.loc main_arg4))
          (ix2 ⟨(i 0).val, hi⟩ (i 1)) else 0
  have h := (Attn.dats m 0 c).arrAt_apply_of_coversWhere 8 (P := fun i => (i 0).val < 8192) G (fun β => β 0 < 16) (by decide +kernel)
    (fun t _ y => ?_) (fun j => by blk_simp [Pipeline.Window.cell_apply]; omega) i
  · rw [h, if_pos hi]
    exact dif_pos hi
  · blk_simp
    rw [Attn.after_8]
    have e0 : (((cfg0.win 8).blk t).view.emb y (0 : Fin 2)).val = 2048 * (grid0.coords t 0).val + 512 * (grid0.coords t 2).val + (y 0).val := by
      blk_simp [(idx t).2.2.2.2]; omega
    have e1 : (((cfg0.win 8).blk t).view.emb y (1 : Fin 2)).val = 512 * (grid0.coords t 1).val + (y 1).val := by
      blk_simp [(idx t).2.2.2.2]; omega
    have y0 : (y (0 : Fin 2)).val < 512 := ((cfg0.win 8).xinj (cfg0.grid.coords t) y (0 : Fin 2)).isLt
    have y1 : (y (1 : Fin 2)).val < 512 := ((cfg0.win 8).xinj (cfg0.grid.coords t) y (1 : Fin 2)).isLt
    have ez : (cfg0.win 8).xinj (cfg0.grid.coords t) y
        = ix2 (⟨(y (0 : Fin 2)).val, y0⟩ : Fin 512) (⟨128 * ((y (1 : Fin 2)).val / 128) + (y (1 : Fin 2)).val % 128, by omega⟩ : Fin 512) := by
      blk_ext
    have hb : (grid0.coords t 0).val < 4 := (grid0.coords t 0).isLt
    have hi : (grid0.coords t 2).val < 4 := (grid0.coords t 2).isLt
    have hlt : (((cfg0.win 8).blk t).view.emb y (0 : Fin 2)).val < 8192 := by omega
    have hG : G (((cfg0.win 8).blk t).view.emb y) = _ := dif_pos hlt
    rw [hG]
    rw [ez]
    refine (outAt_result m c hf t ⟨_, y0⟩ ⟨(y (1 : Fin 2)).val / 128, by omega⟩ ⟨(y (1 : Fin 2)).val % 128, by omega⟩).trans ?_
    refine (resultArr_of _ _ _ _ _ _ _ _ _ _ _ ?_ ?_).symm
    · exact e0.trans (Nat.add_assoc _ _ _)
    · refine e1.trans (congrArg _ ?_)
      exact (Nat.div_add_mod _ _).symm

/-- What the host's slice leaves: the result's rows of the sequences. -/
theorem sliced : Pipeline.afterTail₀ cfgs (Attn.dats m) 0 (V0 m) [hostOps1] c main_v1
    = resultArr (m (c.tc.loc main_arg0)) (m (c.tc.loc main_arg1)) (m (c.tc.loc main_arg2)) (m (c.tc.loc main_arg3)) (m (c.tc.loc main_arg4)) := by
  have hA := Pipeline.withArrays_arr_shared spec0 c (V0 m c) (fun w => (Attn.dats m 0 c).arrAt w cfg0.N)
    ((Attn.dats m 0 c).arrAt_sharedIn (by decide) (V0 m c) (Attn.A_eq m c) cfg0.N) 8
  have hR : Pipeline.afterTail₀ cfgs (Attn.dats m) 0 (V0 m) [hostOps1] c main_v1
      = extractStridedSlice S8192x2048 ![0, 0] ((Attn.dats m 0 c).arrAt 8 cfg0.N) slices_S8256x2048_S8192x2048_0_0 := by
    unfold Pipeline.afterTail₀
    simp only [List.flatten_cons, List.flatten_nil, List.append_nil, StableHlo.after_cons, StableHlo.after_nil]
    rw [StableHlo.unary_result]
    exact congrArg (fun v => extractStridedSlice S8192x2048 ![0, 0] v slices_S8256x2048_S8192x2048_0_0) hA
  have hs : ∀ (v : Vec Ideal S8256x2048 .bf16) (a : Fin 8192) (b : Fin 2048),
      extractStridedSlice S8192x2048 ![0, 0] v slices_S8256x2048_S8192x2048_0_0 (ix2 a b) = v (ix2 ⟨a.val, by omega⟩ b) := fun v a b => by
    pointwise []
    blk_ext
  rw [hR]
  funext i
  have hi : i = ix2 (i 0) (i 1) := by blk_ext
  rw [hi]
  refine (hs _ _ _).trans ((arr_at m c hf _ (i 0).isLt).trans ?_)
  rfl

end

section
variable (hf : ∀ c : Dev nD, Finite (m (c.tc.loc main_arg0)) (m (c.tc.loc main_arg1)) (m (c.tc.loc main_arg2)) (m (c.tc.loc main_arg3)))
  (ρ : Dev nD → PrngReg)
include hf

/-- The kernel's run: the result entry by entry, the arguments unchanged. -/
theorem run : θ_run (defs (F := Ideal)) (onTc (τ := τ) (main (F := Ideal))) ⟨m, fun _ => 0, ρ⟩ (fun r => ∀ c : Dev nD,
      r.2.mem (c.tc.loc main_v1) = resultArr (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c => ⟨(h.1.1.rest_eq c main_v1 (by decide)).trans (sliced m c (hf c)), h.2.1 c⟩)
    (θ_run_and (Attn.launch m ρ) (Attn.framed m ρ))

end

end Cert.KernelIdeal.Block

end
-- ==== Proof.Ref.Words.lean ====
/- The reference's words, entry by entry: its operands, its masks and its positions. -/
module

public import proofs.«01_k».proof.Proof.Val.Words
public import proofs.«01_k».proof.Proof.Math.Result
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Words

open Cert.ReferenceIdeal Cert.ReferenceIdeal.Gen Cert.ReferenceIdeal.Value Idealize.ShloMosaic Cert.Nsa

variable (V : Valuation τ sig (Elt Ideal)) (b g r : Fin 4) (t : Fin 2048)

/-- The arguments. -/
abbrev A0 : Queries := V (Proc.devRef .tc main_arg0)
abbrev A1 : Keys := V (Proc.devRef .tc main_arg1)
abbrev A2 : Keys := V (Proc.devRef .tc main_arg2)
abbrev A3 : Blocks := V (Proc.devRef .tc main_arg3)
abbrev A4 : Gates := V (Proc.devRef .tc main_arg4)

theorem v3_at (e : Fin 128) : res_main_v3 V (ix5 b g r t e) = qOf (A0 V) b g t r e := by
  pointwise [res_main_v3]
  blk_ext

theorem v6_key (y : Fin 2048) (e : Fin 128) : res_main_v6 V (ix5 0 b g y e) = kOf (A1 V) b g y e := by
  pointwise [res_main_v6]
  blk_ext

theorem v6_val (y : Fin 2048) (e : Fin 128) : res_main_v6 V (ix5 1 b g y e) = vOf (A1 V) b g y e := by
  pointwise [res_main_v6]
  blk_ext

theorem v13_key (y : Fin 2048) (e : Fin 128) : res_main_v13 V (ix5 0 b g y e) = kOf (A2 V) b g y e := by
  pointwise [res_main_v13]
  blk_ext

theorem v13_val (y : Fin 2048) (e : Fin 128) : res_main_v13 V (ix5 1 b g y e) = vOf (A2 V) b g y e := by
  pointwise [res_main_v13]
  blk_ext

theorem v24_at (k : Fin 128) : res_main_v24 V (ix4 b g k t) = gOf (A4 V) b g t k := by
  pointwise [res_main_v24]
  blk_ext

theorem v26_at : res_main_v26 V (ix2 t 0) = BitVec.ofNat 32 t.val := by
  pointwise [res_main_v26]

theorem v28_at : res_main_v28 V (ix2 0 t) = BitVec.ofNat 32 t.val := by
  pointwise [res_main_v28]

theorem v66_at : res_main_v66 V (ix2 t 0) = BitVec.ofNat 32 (t.val / 64) := by
  pointwise [res_main_v66, v26_at]
  exact divs_64 t.isLt

theorem end_all : ∀ k : Fin 127, IntOp.subi (IntOp.addi (IntOp.muli (BitVec.ofNat 32 k.val) 16#32) 32#32) 1#32 = BitVec.ofNat 32 (16 * k.val + 31) := by
  decide +kernel

theorem v39_at (k : Fin 127) : res_main_v39 V (ix2 t k) = BitVec.ofBool (cmpMask t.val k.castSucc) := by
  generalize h : res_main_v26 V = w
  pointwise [res_main_v39, h]
  rw [end_all, ← h, v26_at, sle_ofNat (by omega) (by omega)]
  rfl

theorem v141_at (y : Fin 2048) : res_main_v141 V (ix2 t y) = BitVec.ofBool (winMask t.val y) := by
  generalize h : res_main_v26 V = w
  generalize h' : res_main_v28 V = w'
  pointwise [res_main_v141, h, h']
  rw [← h, ← h', v26_at, v28_at, sle_ofNat (by omega) (by omega), after_window (by omega) (by omega), WordCmp.andi_ofBool]
  unfold winMask
  congr 1
  simp

end Cert.ReferenceIdeal.Words

end
-- ==== Proof.Ref.Weights.lean ====
/- The reference's compressed weights and the scores of its selection blocks. -/
module

public import proofs.«01_k».proof.Proof.Ref.Words

@[expose] public section

set_option maxRecDepth 16384

noncomputable section

namespace Cert.ReferenceIdeal.Words

open Cert.ReferenceIdeal Cert.ReferenceIdeal.Gen Cert.ReferenceIdeal.Value Idealize.ShloMosaic Cert.Nsa

/-- The quotient by the square root of the head size is the product with the scale. -/
theorem div_scale (x : ℝ) : Ideal.div (x : EReal) (Ideal.sqrt (Ideal.ofBits FTy.f32 1124073472#32)) = ((scale * x : ℝ) : EReal) := by
  have h : (0 : ℝ) < Real.sqrt 128 := Real.sqrt_pos.mpr (by norm_num)
  rw [ofBits_128, show Ideal.sqrt ((128 : ℝ) : EReal) = ((Real.sqrt 128 : ℝ) : EReal) from if_neg (by norm_num), Ideal.div_coe h.ne', ← EReal.coe_mul]
  congr 1
  unfold scale
  rw [one_div, mul_comm]

/-- A masked score: the product of a query and a key over the root, `⊥` where the mask is false. -/
theorem masked_score {a k : Fin 128 → EReal} (ha : ∀ e, IsReal (a e)) (hk : ∀ e, IsReal (k e)) (M : Bool) :
    Scalar.select (BitVec.ofBool M) (Ideal.div (∑ e, a e * k e) (Ideal.sqrt (Ideal.ofBits FTy.f32 1124073472#32))) (Ideal.ofBits FTy.f32 4286578688#32)
      = if M then ((scale * dotR a k : ℝ) : EReal) else ⊥ := by
  rw [dot_real ha hk, div_scale, ofBits_negInf, select_ofBool]

/-- The softmax weights as the reference spells them. -/
theorem weight {n : ℕ} (M : Fin n → Bool) (s : Fin n → ℝ) (z x : Fin n → EReal) (hz : ∀ k, z k = if M k then ((scale * s k : ℝ) : EReal) else ⊥)
    (hx : ∀ k, x k = Ideal.exp (z k - Finset.univ.fold max ⊥ z)) (k : Fin n) :
    Scalar.select (BitVec.ofBool (M k)) (Ideal.div (x k) (∑ j, x j)) 0 = ((wt scale s M k : ℝ) : EReal) := by
  rw [select_ofBool]
  obtain rfl : x = _ := funext hx
  exact wt_quotient scale s M z hz k

variable (V : Valuation τ sig (Elt Ideal)) (b g r : Fin 4) (t : Fin 2048)

/-- The scores of the compressed blocks. -/
abbrev cs (r : Fin 4) (k : Fin 128) : ℝ := dotR (qOf (A0 V) b g t r) (kcOf (A3 V) b g k)

/-- One masked score, its exponential and its weight. -/
abbrev cZ (k : Fin 127) : EReal := res_main_v46 V (ix5 b g r t k)
abbrev cX (k : Fin 127) : EReal := res_main_v51 V (ix5 b g r t k)
abbrev cP (k : Fin 127) : EReal := res_main_v58 V (ix5 b g r t k)

theorem v51_at (k : Fin 127) : cX V b g r t k = Ideal.exp (cZ V b g r t k - Finset.univ.fold max ⊥ (cZ V b g r t)) := by
  unfold cX cZ
  generalize h : res_main_v46 V = w
  pointwise [res_main_v51, h]
  rw [← ofBits_negInf]
  exact congrArg (fun x : EReal => Ideal.exp (HSub.hSub (α := EReal) (β := EReal) (w (ix5 b g r t k)) x))
    (Shape.ReducesTo.fold_fiber_r5_a4 reducesTo_S4x4x4x2048x127_S4x4x4x2048_d4 (ix4 b g r t) max (Ideal.ofBits FTy.f32 4286578688#32) w)

section
variable (hf : Finite (A0 V) (A1 V) (A2 V) (A3 V))
include hf

theorem v46_at (k : Fin 127) : cZ V b g r t k = if cmpMask t.val k.castSucc then ((scale * cs V b g t r k.castSucc : ℝ) : EReal) else ⊥ := by
  refine Eq.trans ?_ (masked_score (hf.q b g t r) (hf.kc b g k.castSucc) (cmpMask t.val k.castSucc))
  rw [← v39_at V t k]
  unfold cZ
  have h3 := v3_at V b g r t
  revert h3
  generalize h : res_main_v39 V = w
  generalize h' : res_main_v3 V = w'
  intro h3
  pointwise [res_main_v46, h, h']
  simp only [h3]
  rfl

theorem v58_at (k : Fin 127) : cP V b g r t k = ((cmpW (cs V b g t r) t.val k.castSucc : ℝ) : EReal) := by
  have e := weight (fun k : Fin 127 => cmpMask t.val k.castSucc) (fun k => cs V b g t r k.castSucc) _ _ (v46_at V b g r t hf) (v51_at V b g r t) k
  have hc : cmpW (cs V b g t r) t.val k.castSucc = wt scale (fun k : Fin 127 => cs V b g t r k.castSucc) (fun k => cmpMask t.val k.castSucc) k := by
    refine wt_comp Fin.castSucc (Fin.castSucc_injective 127) (fun j hj => ?_) k
    have hj' : 16 * j.val + 31 ≤ t.val := of_decide_eq_true hj
    exact ⟨⟨j.val, by omega⟩, rfl⟩
  rw [hc, ← e, ← v39_at V t k]
  unfold cP cX
  generalize h : res_main_v39 V = w
  generalize h' : res_main_v51 V = w'
  pointwise [res_main_v58, h, h']

/-- The compressed attention's sum is over all but the last block, which is always masked. -/
theorem cmp_att (v : Fin 128 → EReal) : ∑ k : Fin 127, cP V b g r t k * v k.castSucc
    = att scale (cs V b g t r) (cmpMask t.val) v := by
  rw [att_comp Fin.castSucc (Fin.castSucc_injective 127) v (fun j hj => ?_)]
  · unfold att
    refine Finset.sum_congr rfl fun k _ => ?_
    rw [v58_at V b g r t hf]
    have hc : cmpW (cs V b g t r) t.val k.castSucc = wt scale (cs V b g t r ∘ Fin.castSucc) (cmpMask t.val ∘ Fin.castSucc) k := by
      refine wt_comp Fin.castSucc (Fin.castSucc_injective 127) (fun j hj => ?_) k
      have hj' : 16 * j.val + 31 ≤ t.val := of_decide_eq_true hj
      exact ⟨⟨j.val, by omega⟩, rfl⟩
    rw [hc]; rfl
  · have hj' : 16 * j.val + 31 ≤ t.val := of_decide_eq_true hj
    exact ⟨⟨j.val, by omega⟩, rfl⟩

theorem imp_at (j : Fin 32) : (∑ x : Fin 4, if h : j.val * 4 + x.val < 127 then ∑ r : Fin 4, cP V b g r t ⟨j.val * 4 + x.val, h⟩
      else FloatOps.sitofp (F := Ideal) FTy.f32 0#32) = ((imp (cs V b g t) t.val j : ℝ) : EReal) := by
  unfold imp
  rw [coe_sum]
  refine Finset.sum_congr rfl fun l _ => ?_
  rw [coe_sum]
  split
  · next h =>
    refine Finset.sum_congr rfl fun r _ => ?_
    rw [v58_at V b g r t hf]
    have : (⟨j.val * 4 + l.val, h⟩ : Fin 127).castSucc = ⟨4 * j.val + l.val, by omega⟩ := Fin.ext (by simp; omega)
    rw [this]
  · next h =>
    have h0 : ∀ r, cmpW (cs V b g t r) t.val ⟨4 * j.val + l.val, by omega⟩ = 0 := fun r => by
      refine wt_of_false (decide_eq_false ?_)
      have := t.isLt
      simp only; omega
    simp only [h0, EReal.coe_zero, Finset.sum_const_zero]
    change (((0#32).toInt : ℝ) : EReal) = 0
    simp

omit hf in
set_option maxHeartbeats 2000000 in
theorem v92_read (j : Fin 32) (w : BufTy.Contents (Elt Ideal) (Proc.tc.devRef main_v66).ty) (w' : BufTy.Contents (Elt Ideal) (Proc.tc.devRef main_v58).ty)
    (h : res_main_v66 V = w) (h' : res_main_v58 V = w') : res_main_v92 V (ix4 b g t j) =
    Scalar.select (IntOp.cmpi CmpIPredicate.sle (BitVec.ofNat 32 j.val) (w (ix2 t 0)))
      (Scalar.select
        (IntOp.ori
          (IntOp.ori (IntOp.cmpi CmpIPredicate.eq (BitVec.ofNat 32 j.val) 0#32)
            (IntOp.cmpi CmpIPredicate.eq (BitVec.ofNat 32 j.val) (w (ix2 t 0))))
          (IntOp.cmpi CmpIPredicate.eq (BitVec.ofNat 32 j.val) (IntOp.subi (w (ix2 t 0)) 1#32)))
        (Ideal.ofBits FTy.f32 1315859240#32)
        (∑ x : Fin 4,
          if h : j.val * 4 + x.val < 127 then ∑ r : Fin 4, (w' (ix5 b g r t ⟨j.val * 4 + x.val, h⟩) : EReal) else FloatOps.sitofp (F := Ideal) FTy.f32 0#32))
      (Ideal.ofBits FTy.f32 3212836864#32) := by
  pointwise [res_main_v92, res_main_v64, h, h']

theorem v92_at (j : Fin 32) : res_main_v92 V (ix4 b g t j) = score (cs V b g t) t.val j := by
  have hs := imp_at V b g t hf j
  unfold cP at hs
  rw [v92_read V b g t j _ _ rfl rfl, hs, v66_at]
  rw [show IntOp.cmpi .eq (BitVec.ofNat 32 j.val) 0#32 = BitVec.ofBool (decide (j.val = 0)) from eq_ofNat (b := 0) (by omega) (by omega)]
  rw [sle_ofNat (by omega) (by omega), eq_ofNat (by omega) (by omega),
    eq_pred (by omega) (by omega), WordCmp.ori_ofBool, WordCmp.ori_ofBool, select_ofBool, select_ofBool]
  unfold score
  simp only [decide_eq_true_eq, Bool.or_eq_true, or_assoc]

end

end Cert.ReferenceIdeal.Words

end
-- ==== Proof.Ref.Select.lean ====
/- The blocks the reference selects: the sixteen slots of its stable sort. -/
module

public import proofs.«01_k».proof.Proof.Ref.Weights
public import Idealize.ShloMosaic.Lib.Routing.OpsOrder

@[expose] public section

set_option maxRecDepth 16384

noncomputable section

namespace Cert.ReferenceIdeal.Words

open Cert.ReferenceIdeal Cert.ReferenceIdeal.Gen Cert.ReferenceIdeal.Value Idealize.ShloMosaic Cert.Nsa

theorem along_block (b g : Fin 4) (t : Fin 2048) (j k : Fin 32) :
    Shape.Idx.along (s := S4x4x2048x32) (ix4 b g t j) (3 : Fin 4) k = ix4 b g t k := by
  funext a
  unfold Shape.Idx.along
  fin_cases a <;> rfl

theorem iota_block (b g : Fin 4) (t : Fin 2048) (j k : Fin 32) :
    (if hd : 3 < S4x4x2048x32.rank then iotaInDim S4x4x2048x32 32 ⟨3, hd⟩ (Shape.Idx.along (s := S4x4x2048x32) (ix4 b g t j) (3 : Fin 4) k) else 0#32)
      = BitVec.ofNat 32 k.val := by
  rw [along_block, dif_pos (by decide)]
  rfl

/-- A block's place before another, by the scores' order. -/
theorem gt_order (a b : EReal) : (FloatOps.cmpfTotal (F := Ideal) (φ := .f32) .gt a b == 1#1) = decide (b < a) := by
  change (BitVec.ofBool (decide (b < a)) == 1#1) = _
  cases decide (b < a) <;> rfl

section
variable (x : S4x4x2048x32.Idx → EReal) (h : S4x4x2048x32.Slices (fun _ => 0) S4x4x2048x16) (b g : Fin 4) (t : Fin 2048) (s : Fin 16)

theorem slot_sorted (j : Fin 32) : sortedFrom (fun k k' : Fin 32 => FloatOps.cmpfTotal (F := Ideal) (φ := .f32) .gt
      (x (Shape.Idx.along (s := S4x4x2048x32) (ix4 b g t j) (3 : Fin 4) k)) (x (Shape.Idx.along (s := S4x4x2048x32) (ix4 b g t j) (3 : Fin 4) k')) == 1#1) j
    = slot (fun j : Fin 32 => x (ix4 b g t j)) j := by
  simp only [along_block, gt_order]

theorem slice_block {α : Type} (x : S4x4x2048x32.Idx → α) :
    extractStridedSlice S4x4x2048x16 (fun _ => 0) x h (ix4 b g t s) = x (ix4 b g t ⟨s.val, by omega⟩) := by
  unfold extractStridedSlice
  congr 1
  funext a
  fin_cases a <;> exact Fin.ext (Nat.zero_add _)

/-- The block in one of the sixteen greatest slots. -/
theorem topK_index : (Host.topK (s := S4x4x2048x32) S4x4x2048x16 3 (FloatOps.cmpfTotal (F := Ideal) (φ := .f32) .gt) x h).2 (ix4 b g t s)
      = BitVec.ofNat 32 (slot (fun j : Fin 32 => x (ix4 b g t j)) ⟨s.val, by omega⟩).val := by
  rw [← slot_sorted]
  unfold Host.topK
  dsimp only
  refine (slice_block h b g t s _).trans ?_
  unfold Host.sort2
  rw [dif_pos (by decide)]
  exact iota_block b g t _ _

/-- Its score. -/
theorem topK_score : (Host.topK (s := S4x4x2048x32) S4x4x2048x16 3 (FloatOps.cmpfTotal (F := Ideal) (φ := .f32) .gt) x h).1 (ix4 b g t s)
      = x (ix4 b g t (slot (fun j : Fin 32 => x (ix4 b g t j)) ⟨s.val, by omega⟩)) := by
  rw [← slot_sorted]
  unfold Host.topK
  dsimp only
  refine (slice_block h b g t s _).trans ?_
  unfold Host.sort2
  rw [dif_pos (by decide)]
  exact congrArg x (along_block b g t _ _)

end

variable (V : Valuation τ sig (Elt Ideal)) (b g : Fin 4) (t y : Fin 2048)

/-- The scores of a query's blocks. -/
abbrev sS (j : Fin 32) : EReal := res_main_v92 V (ix4 b g t j)

/-- Whether slot `s` holds block `j` and the block isn't out. -/
def hit (x : Fin 32 → EReal) (j : ℕ) (s : Fin 16) : BitVec 1 :=
  BitVec.ofBool (decide ((slot x ⟨s.val, by omega⟩).val = j) && decide (0 ≤ x (slot x ⟨s.val, by omega⟩)))

set_option maxHeartbeats 1000000 in
theorem v112_read : res_main_v112 V (ix5 b g 0 t y) = IntOp.andi (Finset.fold IntOp.ori (0#1) (hit (sS V b g t) (y.val / 64)) Finset.univ)
      (BitVec.ofBool (decide (y.val ≤ t.val))) := by
  rw [← sle_ofNat (a := y.val) (b := t.val) (by omega) (by omega), ← v28_at V y, ← v26_at V t]
  unfold sS
  generalize hR : IntOp.andi _ _ = R
  generalize h : res_main_v92 V = w at hR ⊢
  generalize h' : res_main_v26 V = w' at hR ⊢
  generalize h'' : res_main_v28 V = w'' at hR ⊢
  pointwise [res_main_v112, res_main_v64, h, h', h'']
  rw [← hR]
  refine congrArg₂ IntOp.andi ?_ rfl
  refine congrArg (fun f => Finset.fold IntOp.ori (0#1) f Finset.univ) ?_
  funext s
  refine (congrArg₂ (fun (a : BitVec 32) (z : EReal) => IntOp.andi (IntOp.cmpi .eq a (BitVec.ofNat 32 (y.val / 64))) (BitVec.ofBool (decide (0 ≤ z))))
    (topK_index w _ b g t s) (topK_score w _ b g t s)).trans ?_
  beta_reduce
  rw [eq_ofNat (by omega) (by omega), WordCmp.andi_ofBool]
  rfl

theorem fold_hit (x : Fin 32 → EReal) (j : Fin 32) : Finset.fold IntOp.ori (0#1) (hit x j.val) Finset.univ = 1#1 ↔ rank x j < 16 ∧ 0 ≤ x j := by
  rw [Routing.fold_ori, ← slot_iff_rank x 16 j (fun j => 0 ≤ x j)]
  constructor
  · rintro ⟨s, -, hs⟩
    unfold hit at hs
    refine ⟨⟨s.val, by omega⟩, s.isLt, ?_⟩
    by_cases h : (slot x ⟨s.val, by omega⟩).val = j.val <;> by_cases h' : 0 ≤ x (slot x ⟨s.val, by omega⟩)
    · exact ⟨Fin.ext h, h'⟩
    all_goals
      exfalso
      simp [h, h'] at hs
  · rintro ⟨s, h, e, h0⟩
    refine ⟨⟨s.val, h⟩, Finset.mem_univ _, ?_⟩
    unfold hit
    simp only [e] at h0 ⊢
    simp [h0]

theorem bit_eq (w : BitVec 1) (p : Prop) [Decidable p] (h : w = 1#1 ↔ p) : w = BitVec.ofBool (decide p) := by
  by_cases hp : p
  · rw [h.mpr hp, decide_eq_true hp]; rfl
  · rw [decide_eq_false hp]
    have : w ≠ 1#1 := fun e => hp (h.mp e)
    clear h; revert this; revert w; decide

variable (hf : Finite (A0 V) (A1 V) (A2 V) (A3 V))
include hf

theorem v112_at : res_main_v112 V (ix5 b g 0 t y) = BitVec.ofBool (selMask (cs V b g t) t.val y) := by
  classical
  have hx : sS V b g t = score (cs V b g t) t.val := funext fun j => v92_at V b g t hf j
  rw [v112_read, hx, bit_eq _ _ (fold_hit (score (cs V b g t) t.val) ⟨y.val / 64, by omega⟩), WordCmp.andi_ofBool]
  unfold selMask sel
  congr 1
  simp only [Bool.decide_and]

end Cert.ReferenceIdeal.Words

end
-- ==== Proof.Ref.Attend.lean ====
/- The reference's selected and window attentions. -/
module

public import proofs.«01_k».proof.Proof.Ref.Select

@[expose] public section

set_option maxRecDepth 16384

noncomputable section

namespace Cert.ReferenceIdeal.Words

open Cert.ReferenceIdeal Cert.ReferenceIdeal.Gen Cert.ReferenceIdeal.Value Idealize.ShloMosaic Cert.Nsa

/-- A masked attention as the reference spells it: the weights, then their products with the values. -/
theorem attend {n : ℕ} (M : Fin n → Bool) (s : Fin n → ℝ) (z x v : Fin n → EReal) (hz : ∀ k, z k = if M k then ((scale * s k : ℝ) : EReal) else ⊥)
    (hx : ∀ k, x k = Ideal.exp (z k - Finset.univ.fold max ⊥ z)) :
    ∑ k, Scalar.select (BitVec.ofBool (M k)) (Ideal.div (x k) (∑ j, x j)) 0 * v k = att scale s M v := by
  unfold att
  exact Finset.sum_congr rfl fun k _ => by rw [weight M s z x hz hx k]

/-- A row's exponentials, of any scores: the greatest entry is subtracted. -/
theorem exp_row (b g r : Fin 4) (t : Fin 2048) (w : FVec Ideal S4x4x4x2048x2048 .f32) (y : Fin 2048) :
    Host.exp (subf w (broadcastInDim S4x4x4x2048x2048 ![0, 1, 2, 3, 4] bcast_S4x4x4x2048x1_S4x4x4x2048x2048_0_1_2_3_4
      (broadcastInDim S4x4x4x2048x1 ![0, 1, 2, 3] bcast_S4x4x4x2048_S4x4x4x2048x1_0_1_2_3
        (Host.reduce FloatOps.maximumf w (constant S_ .f32 0xFF800000#32) reducesTo_S4x4x4x2048x2048_S4x4x4x2048_d4 h_S_)))) (ix5 b g r t y)
      = Ideal.exp (HSub.hSub (α := EReal) (β := EReal) (w (ix5 b g r t y)) (Finset.univ.fold max (⊥ : EReal) (fun y => (w (ix5 b g r t y) : EReal)))) := by
  rw [← ofBits_negInf]
  refine Eq.trans ?_ (congrArg (fun x : EReal => Ideal.exp (HSub.hSub (α := EReal) (β := EReal) (w (ix5 b g r t y)) x))
    (Shape.ReducesTo.fold_fiber_r5_a4 reducesTo_S4x4x4x2048x2048_S4x4x4x2048_d4 (ix4 b g r t) max (Ideal.ofBits FTy.f32 4286578688#32) w))
  pointwise

/-- A row's masked quotients by its sum, times the values. -/
theorem attend_row (b g r : Fin 4) (t : Fin 2048) (d : Fin 128) (M : IVec S4x4x4x2048x2048 1) (x : FVec Ideal S4x4x4x2048x2048 .f32) (v : FVec Ideal S4x4x2048x128 .f32) :
    Host.dotGeneral dot_S4x4x4x2048x2048_S4x4x2048x128_S4x4x4x2048x128_4_2_23_3_01_01 none
      (select M (Host.divf x (broadcastInDim S4x4x4x2048x2048 ![0, 1, 2, 3, 4] bcast_S4x4x4x2048x1_S4x4x4x2048x2048_0_1_2_3_4
        (broadcastInDim S4x4x4x2048x1 ![0, 1, 2, 3] bcast_S4x4x4x2048_S4x4x4x2048x1_0_1_2_3
          (Host.reduceAdd x (constant S_ .f32 0x00000000#32) reducesTo_S4x4x4x2048x2048_S4x4x4x2048_d4 h_S_))))
        (broadcastInDim S4x4x4x2048x2048 ![] bcast_S_S4x4x4x2048x2048 (constant S_ .f32 0x00000000#32))) v (ix5 b g r t d)
      = ∑ y : Fin 2048, HMul.hMul (α := EReal) (β := EReal) (Scalar.select (M (ix5 b g r t y)) (Ideal.div (x (ix5 b g r t y)) (∑ j : Fin 2048, (x (ix5 b g r t j) : EReal))) (0 : EReal)) (v (ix4 b g y d)) := by
  pointwise

/-- The gated sum of three attentions, where the result keeps it. -/
theorem gated_at (b g r : Fin 4) (t : Fin 2048) (d : Fin 128) (w : FVec Ideal S4x4x128x2048 .f32) (x y z : FVec Ideal S4x4x4x2048x128 .f32) :
    truncf .bf16 (shapeCast _ (transpose S4x2048x4x4x128 [0, 3, 1, 2, 4] (addf (addf
        (mulf (broadcastInDim S4x4x4x2048x128 ![0, 1, 2, 3, 4] bcast_S4x4x4x2048x1_S4x4x4x2048x128_0_1_2_3_4 (broadcastInDim S4x4x4x2048x1 ![0, 1, 2, 3] bcast_S4x4x4x2048_S4x4x4x2048x1_0_1_2_3 (extractStridedSlice S4x4x4x2048 ![0, 0, 0, 0] w slices_S4x4x128x2048_S4x4x4x2048_0_0_0_0))) x)
        (mulf (broadcastInDim S4x4x4x2048x128 ![0, 1, 2, 3, 4] bcast_S4x4x4x2048x1_S4x4x4x2048x128_0_1_2_3_4 (broadcastInDim S4x4x4x2048x1 ![0, 1, 2, 3] bcast_S4x4x4x2048_S4x4x4x2048x1_0_1_2_3 (extractStridedSlice S4x4x4x2048 ![0, 0, 4, 0] w slices_S4x4x128x2048_S4x4x4x2048_0_0_4_0))) y))
        (mulf (broadcastInDim S4x4x4x2048x128 ![0, 1, 2, 3, 4] bcast_S4x4x4x2048x1_S4x4x4x2048x128_0_1_2_3_4 (broadcastInDim S4x4x4x2048x1 ![0, 1, 2, 3] bcast_S4x4x4x2048_S4x4x4x2048x1_0_1_2_3 (extractStridedSlice S4x4x4x2048 ![0, 0, 8, 0] w slices_S4x4x128x2048_S4x4x4x2048_0_0_8_0))) z))
      transposes_S4x4x4x2048x128_S4x2048x4x4x128_0_3_1_2_4) shapeCasts_S4x2048x4x4x128_S8192x2048) bitsLt_bf16_f32
      (ix2 ⟨2048 * b.val + t.val, by omega⟩ ⟨512 * g.val + (128 * r.val + d.val), by omega⟩)
      = ((w (ix4 b g ⟨r.val, by omega⟩ t) : EReal) * (x (ix5 b g r t d) : EReal) + (w (ix4 b g ⟨4 + r.val, by omega⟩ t) : EReal) * (y (ix5 b g r t d) : EReal)
          + (w (ix4 b g ⟨8 + r.val, by omega⟩ t) : EReal) * (z (ix5 b g r t d) : EReal) : EReal) := by
  pointwise
  blk_ext

variable (V : Valuation τ sig (Elt Ideal)) (b g r : Fin 4) (t : Fin 2048)

/-- The masked scores of the selected attention and their exponentials, -/
abbrev sZ (y : Fin 2048) : EReal := res_main_v119 V (ix5 b g r t y)
abbrev sX (y : Fin 2048) : EReal := res_main_v124 V (ix5 b g r t y)
/-- and of the window attention. -/
abbrev wZ (y : Fin 2048) : EReal := res_main_v148 V (ix5 b g r t y)
abbrev wX (y : Fin 2048) : EReal := res_main_v153 V (ix5 b g r t y)

theorem v124_at (y : Fin 2048) : sX V b g r t y = Ideal.exp (sZ V b g r t y - Finset.univ.fold max ⊥ (sZ V b g r t)) :=
  exp_row b g r t (res_main_v119 V) y

theorem v153_at (y : Fin 2048) : wX V b g r t y = Ideal.exp (wZ V b g r t y - Finset.univ.fold max ⊥ (wZ V b g r t)) :=
  exp_row b g r t (res_main_v148 V) y

variable (hf : Finite (A0 V) (A1 V) (A2 V) (A3 V))
include hf

theorem v119_at (y : Fin 2048) : sZ V b g r t y = if selMask (cs V b g t) t.val y then ((scale * dotR (qOf (A0 V) b g t r) (kOf (A1 V) b g y) : ℝ) : EReal) else ⊥ := by
  refine Eq.trans ?_ (masked_score (hf.q b g t r) (hf.ks b g y) (selMask (cs V b g t) t.val y))
  rw [← v112_at V b g t y hf]
  unfold sZ
  have h3 := v3_at V b g r t
  have h6 := v6_key V b g y
  revert h3 h6
  generalize h : res_main_v112 V = w
  generalize h' : res_main_v3 V = w'
  generalize h'' : res_main_v6 V = w''
  intro h3 h6
  pointwise [res_main_v119, h, h', h'']
  simp only [h3, h6]

theorem v148_at (y : Fin 2048) : wZ V b g r t y = if winMask t.val y then ((scale * dotR (qOf (A0 V) b g t r) (kOf (A2 V) b g y) : ℝ) : EReal) else ⊥ := by
  refine Eq.trans ?_ (masked_score (hf.q b g t r) (hf.kw b g y) (winMask t.val y))
  rw [← v141_at V t y]
  unfold wZ
  have h3 := v3_at V b g r t
  have h6 := v13_key V b g y
  revert h3 h6
  generalize h : res_main_v141 V = w
  generalize h' : res_main_v3 V = w'
  generalize h'' : res_main_v13 V = w''
  intro h3 h6
  pointwise [res_main_v148, h, h', h'']
  simp only [h3, h6]

end Cert.ReferenceIdeal.Words

end
-- ==== Proof.Ref.Result.lean ====
/- The reference's result. -/
module

public import proofs.«01_k».proof.Proof.Ref.Attend

@[expose] public section

set_option maxRecDepth 16384

noncomputable section

namespace Cert.ReferenceIdeal.Words

open Cert.ReferenceIdeal Cert.ReferenceIdeal.Gen Cert.ReferenceIdeal.Value Idealize.ShloMosaic Cert.Nsa StableHlo

/-- A row's weights times the compressed values. -/
theorem cmp_row (b g r : Fin 4) (t : Fin 2048) (d : Fin 128) (w : FVec Ideal S4x4x4x2048x127 .f32) (C : FVec Ideal S4x8x128x128 .bf16) :
    Host.dotGeneral dot_S4x4x4x2048x127_S4x4x127x128_S4x4x4x2048x128_4_2_23_3_01_01 none w
      (extf .f32 (extractStridedSlice S4x4x127x128 ![0, 4, 0, 0] C slices_S4x8x128x128_S4x4x127x128_0_4_0_0) bitsLt_bf16_f32) (ix5 b g r t d)
      = ∑ k : Fin 127, HMul.hMul (α := EReal) (β := EReal) (w (ix5 b g r t k)) (vcOf C b g k.castSucc d) := by
  pointwise
  refine Finset.sum_congr rfl fun k _ => congrArg (fun i => HMul.hMul (α := EReal) (β := EReal) (w (ix5 b g r t k)) (C i)) ?_
  blk_ext
  rfl

/-- The values of the selected or the window keys, as the products take them. -/
theorem val_row (b g : Fin 4) (y : Fin 2048) (d : Fin 128) (w : FVec Ideal S2x4x4x2048x128 .f32) :
    shapeCast S4x4x2048x128 (extractStridedSlice S1x4x4x2048x128 ![1, 0, 0, 0, 0] w slices_S2x4x4x2048x128_S1x4x4x2048x128_1_0_0_0_0) shapeCasts_S1x4x4x2048x128_S4x4x2048x128 (ix4 b g y d)
      = w (ix5 1 b g y d) := by
  pointwise

theorem mask_row (b g r : Fin 4) (t y : Fin 2048) (M : IVec S4x4x1x2048x2048 1) :
    broadcastInDim S4x4x4x2048x2048 ![0, 1, 2, 3, 4] bcast_S4x4x1x2048x2048_S4x4x4x2048x2048_0_1_2_3_4 M (ix5 b g r t y) = M (ix5 b g 0 t y) := by
  pointwise

theorem mask_row' (b g r : Fin 4) (t y : Fin 2048) (M : IVec S2048x2048 1) :
    broadcastInDim S4x4x4x2048x2048 ![3, 4] bcast_S2048x2048_S4x4x4x2048x2048_3_4 M (ix5 b g r t y) = M (ix2 t y) := by
  pointwise

theorem run (m : (ℓ : Loc nD τ sig) → Buf (Elt Ideal) ℓ) (ρ : Dev nD → PrngReg)
    (hf : ∀ c : Dev nD, Finite (m ((c.tc : Thread nD τ).loc main_arg0)) (m ((c.tc : Thread nD τ).loc main_arg1)) (m ((c.tc : Thread nD τ).loc main_arg2)) (m ((c.tc : Thread nD τ).loc main_arg3))) :
    θ_run defs (onTc (τ := τ) (main (F := Ideal))) ⟨m, fun _ => 0, ρ⟩ fun r => ∀ c : Dev nD,
      r.2.mem ((c.tc : Thread nD τ).loc main_v178) = resultArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Cert.ReferenceIdeal.Value.run m ρ)
  have hf : Finite (A0 (launchContents m c)) (A1 (launchContents m c)) (A2 (launchContents m c)) (A3 (launchContents m c)) := hf c
  change _ = resultArr (A0 (launchContents m c)) (A1 (launchContents m c)) (A2 (launchContents m c)) (A3 (launchContents m c)) (A4 (launchContents m c))
  generalize launchContents m c = V at hf ⊢
  funext i
  have h0 : (i 0).val < 8192 := (i 0).isLt
  have h1 : (i 1).val < 2048 := (i 1).isLt
  obtain ⟨b, t, g, r, d, e0, e1⟩ : ∃ (b : Fin 4) (t : Fin 2048) (g r : Fin 4) (d : Fin 128),
      (i 0).val = 2048 * b.val + t.val ∧ (i 1).val = 512 * g.val + (128 * r.val + d.val) :=
    ⟨⟨(i 0).val / 2048, by omega⟩, ⟨(i 0).val % 2048, by omega⟩, ⟨(i 1).val / 512, by omega⟩, ⟨(i 1).val % 512 / 128, by omega⟩,
      ⟨(i 1).val % 128, by omega⟩, by dsimp only; omega, by dsimp only; omega⟩
  rw [resultArr_of _ _ _ _ _ i b g t r d e0 e1]
  have ei : i = ix2 ⟨2048 * b.val + t.val, by omega⟩ ⟨512 * g.val + (128 * r.val + d.val), by omega⟩ := by
    funext a
    fin_cases a
    · exact Fin.ext e0
    · exact Fin.ext e1
  rw [ei]
  refine (gated_at b g r t d _ _ _ _).trans ?_
  unfold result out
  refine congrArg₂ (HAdd.hAdd (α := EReal) (β := EReal)) (congrArg₂ (HAdd.hAdd (α := EReal) (β := EReal))
    (congrArg₂ (HMul.hMul (α := EReal) (β := EReal)) (v24_at V b g t _) ?_) (congrArg₂ (HMul.hMul (α := EReal) (β := EReal)) (v24_at V b g t _) ?_))
    (congrArg₂ (HMul.hMul (α := EReal) (β := EReal)) (v24_at V b g t _) ?_)
  · exact (cmp_row b g r t d _ _).trans (cmp_att V b g r t hf fun k => vcOf (A3 V) b g k d)
  · refine (attend_row b g r t d _ _ _).trans ?_
    refine (Finset.sum_congr rfl fun y _ => congrArg₂ (HMul.hMul (α := EReal) (β := EReal))
      (congrArg (fun M => Scalar.select M (Ideal.div (sX V b g r t y) (∑ j, sX V b g r t j)) (0 : EReal)) ((mask_row b g r t y _).trans (v112_at V b g t y hf)))
      ((val_row b g y d _).trans (v6_val V b g y d))).trans ?_
    exact attend (selMask (cs V b g t) t.val) _ _ _ _ (v119_at V b g r t hf) (v124_at V b g r t)
  · refine (attend_row b g r t d _ _ _).trans ?_
    refine (Finset.sum_congr rfl fun y _ => congrArg₂ (HMul.hMul (α := EReal) (β := EReal))
      (congrArg (fun M => Scalar.select M (Ideal.div (wX V b g r t y) (∑ j, wX V b g r t j)) (0 : EReal)) ((mask_row' b g r t y _).trans (v141_at V t y)))
      ((val_row b g y d _).trans (v13_val V b g y d))).trans ?_
    exact attend (winMask t.val) _ _ _ _ (v148_at V b g r t hf) (v153_at V b g r t)

end Cert.ReferenceIdeal.Words

end
-- ==== Proof.Algebraic.lean ====
/- The two computations agree: each ends at the same array of its arguments. -/
module

public import proofs.«01_k».proof.Defs
public import proofs.«01_k».proof.Proof.Pre
public import proofs.«01_k».proof.Proof.Val.Array
public import proofs.«01_k».proof.Proof.Ref.Result

@[expose] public section

noncomputable section

namespace Cert.Algebraic

open Idealize.ShloMosaic Cert.Nsa

theorem algebraic : algebraic_KernelIdeal_ReferenceIdeal_pre_finite (hKernelIdeal := Cert.KernelIdeal.Gen.facts) (hReferenceIdeal := Cert.ReferenceIdeal.Gen.facts)
    (hPre_finite := Cert.Pre_finite.facts) := by
  intro m g m' g' hp ha
  have hf := fun c => Cert.Pre_finite.finite_of _ _ _ _ _ (hp c)
  refine ⟨_, Cert.KernelIdeal.Block.run m hf g, ?_⟩
  refine (θ_run _ _ _).mono (fun _ h c => ⟨(h c).1.trans ?_, (h c).2⟩) (Cert.ReferenceIdeal.Words.run m' g' fun c => ?_)
  · obtain ⟨h0, h1, h2, h3, -⟩ := ha c
    rw [h0, h1, h2, h3]
    exact hf c
  · obtain ⟨h0, h1, h2, h3, h4⟩ := ha c
    rw [h0, h1, h2, h3, h4]

end Cert.Algebraic

end
-- ==== Proof.Ffn.Math.lean ====
/- The feed-forward half's formulas over the extended reals: the normed SwiGLU product, and the residual with its row sums. -/
module

public import Idealize.ShloMosaic.PureOps.Ideal
public import Idealize.ShloMosaic.Lib.Pointwise
public import Idealize.ShloMosaic.Lib.ValueIdx

@[expose] public section

noncomputable section

namespace Cert.Ffn

open Idealize.ShloMosaic

/-- One over the root mean square, from a row's sum of squares. -/
def inv (s : EReal) : EReal := Ideal.rsqrt (s * Ideal.ofBits .f32 0x39800000#32 + Ideal.ofBits .f32 0x358637BD#32)

/-- The gated product of two projections that are both scaled by `r`. -/
def gated (r a b : EReal) : EReal := r * a * Ideal.logistic (r * a) * (r * b)

theorem width : Ideal.ofBits .f32 0x45800000#32 = ((4096 : ℝ) : EReal) := by
  simp [Ideal.ofBits, Ideal.ieee]
  rw [← EReal.coe_mul]
  norm_num

theorem width_inv : Ideal.ofBits .f32 0x39800000#32 = ((4096⁻¹ : ℝ) : EReal) := by
  simp [Ideal.ofBits, Ideal.ieee]
  rw [← EReal.coe_mul]
  norm_num

theorem one : Ideal.ofBits .f32 0x3F800000#32 = 1 := by
  simp [Ideal.ofBits, Ideal.ieee]
  rw [← EReal.coe_mul]
  norm_num

theorem eps_pos : ∃ e : ℝ, 0 < e ∧ Ideal.ofBits .f32 0x358637BD#32 = (e : EReal) := by
  refine ⟨_, ?_, by simp [Ideal.ofBits, Ideal.ieee]; rfl⟩
  norm_num

/-- The mean by a division is the mean by a product with the reciprocal. -/
theorem mean (s : EReal) : Ideal.div s (Ideal.ofBits .f32 0x45800000#32) = s * Ideal.ofBits .f32 0x39800000#32 := by
  rw [width, width_inv, Ideal.div, if_neg (by exact_mod_cast (by norm_num : (4096 : ℝ) ≠ 0)), ← EReal.coe_inv]

/-- For a sum of squares that is not negative the scale is a nonnegative real. -/
theorem inv_real {s : EReal} (h : 0 ≤ s) : 0 ≤ inv s ∧ inv s ≠ ⊤ := by
  obtain ⟨e, he, hE⟩ := eps_pos
  unfold inv
  rw [hE, width_inv]
  induction s with
  | bot => simp at h
  | top =>
    rw [EReal.top_mul_coe_of_pos (by norm_num), EReal.top_add_coe, Ideal.rsqrt_top]
    exact ⟨le_refl _, EReal.zero_ne_top⟩
  | coe s =>
    have hs : 0 ≤ s := by exact_mod_cast h
    have hp : 0 < s * 4096⁻¹ + e := by positivity
    rw [← EReal.coe_mul, ← EReal.coe_add, Ideal.rsqrt_coe, if_neg (not_lt.2 hp.le), if_neg hp.ne']
    exact ⟨by exact_mod_cast inv_nonneg.2 (Real.sqrt_nonneg _), EReal.coe_ne_top _⟩

/-- A nonnegative real factor passes through a sum. -/
theorem scale_sum {n : ℕ} {r : EReal} (h0 : 0 ≤ r) (ht : r ≠ ⊤) (f : Fin n → EReal) : r * ∑ k, f k = ∑ k, r * f k := by
  induction n with
  | zero => simp
  | succ n ih => rw [Fin.sum_univ_succ, Fin.sum_univ_succ, EReal.left_distrib_of_nonneg_of_ne_top h0 ht, ih]

end Cert.Ffn

end
-- ==== Proof.Ffn.UpBlock.lean ====
/- What one grid point of the SwiGLU call leaves in its block of the result. -/
module

public import proofs.«01_k».proof.Proof.Gen.UpIdeal.Frame
public import proofs.«01_k».proof.Proof.Ffn.Math
public import Idealize.ShloMosaic.Lib.Pipeline.ValueKit

@[expose] public section

set_option maxRecDepth 16384

noncomputable section

namespace Cert.UpIdeal.Block

open Cert.UpIdeal Cert.UpIdeal.Gen Idealize.ShloMosaic Cert.Ffn

theorem second (v2 v5 : FVec Ideal S4096x256 .bf16) (v32 : FVec Ideal S688x1 .f32) (v33 v37 : Vec Ideal S688x4096 .bf16) (x : Fin 688) (y : Fin 256) :
    k0_pay1 v2 v5 v32 v33 v37 (ix2 x y)
      = gated (v32 (ix2 x 0)) (∑ k : Fin 4096, v33 (ix2 x k) * v2 (ix2 k y)) (∑ k : Fin 4096, v37 (ix2 x k) * v5 (ix2 k y)) := by
  pointwise [k0_pay1]
  rfl

theorem gate (v : Vec Ideal S1x4096x256 .f32) (k : Fin 4096) (y : Fin 256) : k0_pay2 v (ix2 k y) = v (ix3 0 k y) := by
  pointwise [k0_pay2]

theorem up (v : Vec Ideal S1x4096x256 .f32) (k : Fin 4096) (y : Fin 256) : k0_pay3 v (ix2 k y) = v (ix3 0 k y) := by
  pointwise [k0_pay3]

theorem scale (v : Vec Ideal S1376x1 .f32) (x : Fin 688) : k0_pay5 v (ix2 x 0) = inv (v (ix2 ⟨688 + x.val, by omega⟩ 0)) := by
  pointwise [k0_pay5]
  rfl

theorem first (v0 v3 : Vec Ideal S1x4096x256 .f32) (v6 : Vec Ideal S1376x1 .f32) (v13 v17 : Vec Ideal S688x4096 .bf16) (x : Fin 688) (y : Fin 256) :
    k0_pay4 v0 v3 v6 v13 v17 (ix2 x y)
      = gated (inv (v6 (ix2 ⟨x.val, by omega⟩ 0))) (∑ k : Fin 4096, v13 (ix2 x k) * k0_pay2 v0 (ix2 k y)) (∑ k : Fin 4096, v17 (ix2 x k) * k0_pay3 v3 (ix2 k y)) := by
  pointwise [k0_pay4]
  rfl

end Cert.UpIdeal.Block

end
-- ==== Proof.Ffn.UpArray.lean ====
/- The SwiGLU call's whole result: its blocks read off the arguments, and the array they fill. -/
module

public import proofs.«01_k».proof.Proof.Ffn.UpBlock
public import proofs.«01_k».proof.Proof.Gen.UpIdeal.Value

@[expose] public section

set_option maxRecDepth 16384

noncomputable section

namespace Cert.Ffn

open Idealize.ShloMosaic

/-- The call's arguments: activations scaled by the norm's weight, their rows' sums of squares, and the stacked weights. -/
abbrev Acts : Type := (⟨2, ![8256, 4096]⟩ : Shape).Idx → EReal
abbrev Sums : Type := (⟨2, ![8256, 1]⟩ : Shape).Idx → EReal
abbrev Ups : Type := (⟨3, ![4, 4096, 11008]⟩ : Shape).Idx → EReal

/-- The call's result, entry by entry, for the first layer's weights. -/
def upAt (X : Acts) (S : Sums) (G U : Ups) (a : Fin 8256) (b : Fin 11008) : EReal :=
  gated (inv (S (ix2 a 0))) (∑ k : Fin 4096, X (ix2 a k) * G (ix3 0 k b)) (∑ k : Fin 4096, X (ix2 a k) * U (ix3 0 k b))

/-- The same as an array. -/
def upArr (X : Acts) (S : Sums) (G U : Ups) (i : (⟨2, ![8256, 11008]⟩ : Shape).Idx) : EReal := upAt X S G U (i 0) (i 1)

theorem upArr_of (X : Acts) (S : Sums) (G U : Ups) (i : (⟨2, ![8256, 11008]⟩ : Shape).Idx) (a : Fin 8256) (b : Fin 11008)
    (h0 : (i 0).val = a.val) (h1 : (i 1).val = b.val) : upArr X S G U i = upAt X S G U a b := by
  obtain rfl : i 0 = a := Fin.ext h0
  obtain rfl : i 1 = b := Fin.ext h1
  rfl

end Cert.Ffn

namespace Cert.UpIdeal.Block

open Cert.UpIdeal Cert.UpIdeal.Gen Idealize.ShloMosaic Idealize.ShloMosaic.TcCoe Cert.Ffn

theorem zero2 : (![0, 0] : Fin 2 → ℕ) = fun _ => 0 := by funext a; fin_cases a <;> rfl
theorem zero3 : (![0, 0, 0] : Fin 3 → ℕ) = fun _ => 0 := by funext a; fin_cases a <;> rfl

theorem rows (o : ℕ) (h : ∀ a, (![o, 0] : Fin 2 → ℕ) a + S688x4096.size a ≤ S1376x4096.size a) (X : Vec Ideal S1376x4096 .bf16) (x : Fin 688) (k : Fin 4096)
    (x' : Fin 1376) (hx : x'.val = o + x.val) :
    View.ld X (Rect.unit (s := S1376x4096) ![o, 0] S688x4096.size h) (ix2 x k) = X (ix2 x' k) := by
  refine View.ld_unit_apply_of X _ _ _ _ _ fun a => ?_
  match a with
  | 0 => exact hx
  | 1 => exact (Nat.zero_add _).symm

theorem idx_eq (z : S688x256.Idx) (x : Fin 688) (y : Fin 256) (h0 : x.val = (z 0).val) (h1 : y.val = (z 1).val) : z = ix2 x y := by
  funext a
  match a with
  | 0 => exact Fin.ext h0.symm
  | 1 => exact Fin.ext h1.symm

/-- The block at an index: its two stores are the two halves of the rows. -/
theorem out_at (x0 : Vec Ideal S1376x4096 .bf16) (x1 : Vec Ideal S1376x1 .f32) (x2 x3 : Vec Ideal S1x4096x256 .f32) (x : Fin 1376) (y : Fin 256) :
    out0_4 x0 x1 x2 x3 (ix2 x y)
      = gated (inv (x1 (ix2 x 0))) (∑ k : Fin 4096, x0 (ix2 x k) * x2 (ix3 0 k y)) (∑ k : Fin 4096, x0 (ix2 x k) * x3 (ix3 0 k y)) := by
  have h0' : ((ix2 x y : S1376x256.Idx) 0 : ℕ) = x.val := rfl
  have h1' : ((ix2 x y : S1376x256.Idx) 1 : ℕ) = y.val := rfl
  have e1 : View.ld x1 r0_1 = x1 := View.ld_unit_zero zero2 _ _
  have e2 : View.ld x2 r0_0 = x2 := View.ld_unit_zero zero3 _ _
  have e3 : View.ld x3 r0_0 = x3 := View.ld_unit_zero zero3 _ _
  unfold out0_4
  rw [e1, e2, e3]
  canon_tiles z h
  · rw [h0'] at h0
    rw [h1'] at h1
    obtain ⟨p, hp⟩ : ∃ p : Fin 688, p.val = (z 0).val := ⟨⟨(z 0).val, (z 0).isLt⟩, rfl⟩
    obtain rfl : z = ix2 p y := idx_eq z p y hp h1
    rw [← hp] at h0
    rw [second, scale]
    simp only [gate, up, rows 688 _ x0 p _ x h0]
    rw [show (⟨688 + p.val, by omega⟩ : Fin 1376) = x from Fin.ext h0.symm]
  · rw [h0'] at h0
    rw [h1'] at h1
    obtain ⟨p, hp⟩ : ∃ p : Fin 688, p.val = (z 0).val := ⟨⟨(z 0).val, (z 0).isLt⟩, rfl⟩
    obtain rfl : z = ix2 p y := idx_eq z p y hp h1
    rw [← hp] at h0
    rw [first]
    simp only [gate, up, rows 0 _ x0 p _ x (h0.trans (Nat.zero_add _).symm)]
    rw [show (⟨p.val, by omega⟩ : Fin 1376) = x from Fin.ext h0.symm]

variable (m : (ℓ : Loc nD τ sig) → Buf (Elt Ideal) ℓ) (c : Dev nD)

/-- Where each window's block lies. -/
theorem idx : ∀ t : Fin cfg0.N,
    win0_0.index t = ![(grid0.coords t 0).val, 0] ∧ win0_1.index t = ![(grid0.coords t 0).val, 0]
    ∧ win0_2.index t = ![0, 0, (grid0.coords t 1).val] ∧ win0_3.index t = ![0, 0, (grid0.coords t 1).val]
    ∧ win0_4.index t = ![(grid0.coords t 0).val, (grid0.coords t 1).val] := by decide +kernel

theorem row_lt (t : Fin cfg0.N) (x : Fin 1376) : 1376 * (grid0.coords t 0).val + x.val < 8256 := by
  have : (grid0.coords t 0).val < 6 := (grid0.coords t 0).isLt
  omega

theorem col_lt (t : Fin cfg0.N) (y : Fin 256) : 256 * (grid0.coords t 1).val + y.val < 11008 := by
  have : (grid0.coords t 1).val < 43 := (grid0.coords t 1).isLt
  omega

theorem x_read (t : Fin cfg0.N) (x : Fin 1376) (k : Fin 4096) :
    (iblk m c 0 t : Vec Ideal S1376x4096 .bf16) (ix2 x k) = (m (c.tc.loc main_arg0) : Acts) (ix2 ⟨_, row_lt t x⟩ k) := by
  blk_ext [iblk, V, (idx t).1]

theorem s_read (t : Fin cfg0.N) (x : Fin 1376) :
    (iblk m c 1 t : Vec Ideal S1376x1 .f32) (ix2 x 0) = (m (c.tc.loc main_arg1) : Sums) (ix2 ⟨_, row_lt t x⟩ 0) := by
  blk_ext [iblk, V, (idx t).2.1]

theorem g_read (t : Fin cfg0.N) (k : Fin 4096) (y : Fin 256) :
    (iblk m c 2 t : Vec Ideal S1x4096x256 .f32) (ix3 0 k y) = (m (c.tc.loc main_arg2) : Ups) (ix3 0 k ⟨_, col_lt t y⟩) := by
  blk_ext [iblk, V, (idx t).2.2.1]

theorem u_read (t : Fin cfg0.N) (k : Fin 4096) (y : Fin 256) :
    (iblk m c 3 t : Vec Ideal S1x4096x256 .f32) (ix3 0 k y) = (m (c.tc.loc main_arg3) : Ups) (ix3 0 k ⟨_, col_lt t y⟩) := by
  blk_ext [iblk, V, (idx t).2.2.2.1]

/-- A point's block is the result's block there. -/
theorem block_at (t : Fin cfg0.N) (x : Fin 1376) (y : Fin 256) :
    out0_4 (iblk m c 0 t) (iblk m c 1 t) (iblk m c 2 t) (iblk m c 3 t) (ix2 x y)
      = upAt (m (c.tc.loc main_arg0)) (m (c.tc.loc main_arg1)) (m (c.tc.loc main_arg2)) (m (c.tc.loc main_arg3)) ⟨_, row_lt t x⟩ ⟨_, col_lt t y⟩ := by
  rw [out_at]
  simp only [x_read, s_read, g_read, u_read]
  rfl

/-- The result array the region leaves. -/
theorem arr : (dats m 0 c).arrAt 4 cfg0.N
    = upArr (m (c.tc.loc main_arg0)) (m (c.tc.loc main_arg1)) (m (c.tc.loc main_arg2)) (m (c.tc.loc main_arg3)) := by
  funext i
  have h := (dats m 0 c).arrAt_apply_of_coversWhere 4 (P := fun _ => True)
    (upArr (m (c.tc.loc main_arg0)) (m (c.tc.loc main_arg1)) (m (c.tc.loc main_arg2)) (m (c.tc.loc main_arg3))) (fun _ => true) (by decide +kernel)
    (fun t _ y => ?_) (fun j => by blk_simp [Pipeline.Window.cell_apply]; try omega) i
  · rw [h, if_pos trivial]
  · blk_simp
    rw [after0_4]
    have e0 : (((cfg0.win 4).blk t).view.emb y (0 : Fin 2)).val = 1376 * (grid0.coords t 0).val + (y 0).val := by
      blk_simp [(idx t).2.2.2.2]; try omega
    have e1 : (((cfg0.win 4).blk t).view.emb y (1 : Fin 2)).val = 256 * (grid0.coords t 1).val + (y 1).val := by
      blk_simp [(idx t).2.2.2.2]; try omega
    have y0 : (y (0 : Fin 2)).val < 1376 := ((cfg0.win 4).xinj (cfg0.grid.coords t) y (0 : Fin 2)).isLt
    have y1 : (y (1 : Fin 2)).val < 256 := ((cfg0.win 4).xinj (cfg0.grid.coords t) y (1 : Fin 2)).isLt
    have ez : (y : S1376x256.Idx) = ix2 (⟨(y (0 : Fin 2)).val, y0⟩ : Fin 1376) (⟨(y (1 : Fin 2)).val, y1⟩ : Fin 256) := by
      blk_ext
    exact ((congrArg (out0_4 (iblk m c 0 t) (iblk m c 1 t) (iblk m c 2 t) (iblk m c 3 t)) ez).trans (block_at m c t ⟨_, y0⟩ ⟨_, y1⟩)).trans
      (upArr_of _ _ _ _ _ _ _ e0 e1).symm

end Cert.UpIdeal.Block

end
-- ==== Proof.Ffn.UpRef.lean ====
/- The SwiGLU reference's result, entry by entry: the norm's scale goes through the projections' sums. -/
module

public import proofs.«01_k».proof.Proof.Gen.RefUpIdeal.Run
public import proofs.«01_k».proof.Proof.Ffn.UpArray

@[expose] public section

set_option maxRecDepth 16384

noncomputable section

namespace Cert.RefUpIdeal.Entry

open Cert.RefUpIdeal Cert.RefUpIdeal.Gen Idealize.ShloMosaic Idealize.ShloMosaic.TcCoe Cert.Ffn

/-- The normed activations. -/
def normed (X : FVec Ideal S8256x4096 .bf16) (S : FVec Ideal S8256x1 .f32) : FVec Ideal S8256x4096 .f32 :=
  mulf (extf .f32 X bitsLt_bf16_f32) (broadcastInDim S8256x4096 ![0, 1] bcast_S8256x1_S8256x4096_0_1 (Host.rsqrt (addf (Host.divf S (broadcastInDim S8256x1 ![] bcast_S_S8256x1 (constant S_ .f32 0x45800000#32))) (broadcastInDim S8256x1 ![] bcast_S_S8256x1 (constant S_ .f32 0x358637BD#32)))))

/-- Their product with the first layer's weights. -/
def proj (N : FVec Ideal S8256x4096 .f32) (W : FVec Ideal S4x4096x11008 .f32) : FVec Ideal S8256x11008 .f32 :=
  Host.dotGeneral dot_S8256x4096_S4096x11008_S8256x11008_1_0_0_1_n_n none N (shapeCast _ (extractStridedSlice S1x4096x11008 ![0, 0, 0] W slices_S4x4096x11008_S1x4096x11008_0_0_0) shapeCasts_S1x4096x11008_S4096x11008)

/-- The gated product of two projections. -/
def glu (A B : FVec Ideal S8256x11008 .f32) : FVec Ideal S8256x11008 .bf16 :=
  truncf .bf16 (mulf (mulf A (Host.divf (broadcastInDim S8256x11008 ![] bcast_S_S8256x11008 (constant S_ .f32 0x3F800000#32)) (addf (broadcastInDim S8256x11008 ![] bcast_S_S8256x11008 (constant S_ .f32 0x3F800000#32)) (Host.exp (Host.negf A))))) B) bitsLt_bf16_f32

theorem normed_at (X : FVec Ideal S8256x4096 .bf16) (S : FVec Ideal S8256x1 .f32) (a : Fin 8256) (k : Fin 4096) :
    normed X S (ix2 a k) = X (ix2 a k) * Ffn.inv (S (ix2 a 0)) := by
  pointwise [normed]
  unfold Ffn.inv
  rw [← mean]

theorem proj_at (N : FVec Ideal S8256x4096 .f32) (W : FVec Ideal S4x4096x11008 .f32) (a : Fin 8256) (b : Fin 11008) :
    proj N W (ix2 a b) = ∑ k : Fin 4096, N (ix2 a k) * W (ix3 0 k b) := by
  pointwise [proj]

theorem glu_at (A B : FVec Ideal S8256x11008 .f32) (a : Fin 8256) (b : Fin 11008) :
    glu A B (ix2 a b) = A (ix2 a b) * Ideal.logistic (A (ix2 a b)) * B (ix2 a b) := by
  pointwise [glu]
  unfold Ideal.logistic
  rw [← one]

/-- The reference's result is the call's. -/
theorem value (X : FVec Ideal S8256x4096 .bf16) (S : FVec Ideal S8256x1 .f32) (G U : FVec Ideal S4x4096x11008 .f32) (hS : ∀ a : Fin 8256, (0 : EReal) ≤ S (ix2 a 0)) :
    glu (proj (normed X S) G) (proj (normed X S) U) = upArr X S G U := by
  funext i
  obtain ⟨a, b, rfl⟩ : ∃ a b, i = ix2 a b := ⟨i 0, i 1, by blk_ext⟩
  obtain ⟨h0, ht⟩ := inv_real (hS a)
  have e : ∀ W : FVec Ideal S4x4096x11008 .f32, proj (normed X S) W (ix2 a b) = Ffn.inv (S (ix2 a 0)) * ∑ k : Fin 4096, X (ix2 a k) * W (ix3 0 k b) := fun W => by
    rw [proj_at, scale_sum h0 ht]
    refine Finset.sum_congr rfl fun k _ => ?_
    rw [normed_at, mul_comm (X (ix2 a k) : EReal), mul_assoc]
  rw [glu_at, e, e]
  rfl

variable (m : (ℓ : Loc nD τ sig) → Buf (Elt Ideal) ℓ) (ρ : Dev nD → PrngReg)
  (hS : ∀ (c : Dev nD) (a : Fin 8256), (0 : EReal) ≤ (m (c.tc.loc main_arg1) : FVec Ideal S8256x1 .f32) (ix2 a 0))
include hS

/-- The reference's run: the result entry by entry, the arguments unchanged. -/
theorem run : θ_run (defs (F := Ideal)) (onTc (τ := τ) (main (F := Ideal))) ⟨m, fun _ => 0, ρ⟩ (fun r => ∀ c : Dev nD,
      r.2.mem (c.tc.loc main_v16) = upArr (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun _ h c => ⟨(h c).1.trans (value _ _ _ _ (hS c)), (h c).2⟩) (Value.run m ρ)

end Cert.RefUpIdeal.Entry

end
-- ==== Proof.Ffn.UpClaims.lean ====
/- The SwiGLU call's claims: the frames, the precondition read, and the value. -/
module

public import proofs.«01_k».proof.Defs
public import proofs.«01_k».proof.Proof.Gen.Up.Frame
public import proofs.«01_k».proof.Proof.Ffn.UpRef
public import Idealize.ShloMosaic.Adequacy
public import Idealize.ShloMosaic.Init
public import Idealize.ShloMosaic.Lib.ReduceAll

@[expose] public section

noncomputable section

namespace Cert.Pre_nonnegative

open Idealize.ShloMosaic Cert.Ffn

instance facts : Facts where
  bcast_S_S8256x1 := by decide
  reducesTo_S8256x1_S_d0_1 := by decide
  h_S_ := by decide

instance : Subsingleton S_.Idx := ⟨fun _ _ => funext fun a => a.elim0⟩

/-- Every row's sum of squares is at least zero. -/
theorem nonneg_of (X : FVec Ideal S8256x4096 .bf16) (S : FVec Ideal S8256x1 .f32) (G U : FVec Ideal S4x4096x11008 .f32) (h : fn (F := Ideal) X S G U = fun _ => 1#1) (a : Fin 8256) :
    (0 : EReal) ≤ S (ix2 a 0) := by
  have h := congrFun h (fun a : Fin 0 => a.elim0)
  unfold fn at h
  dsimp only at h
  have e := Host.reduce_andi_all _ _ _ _ _ h (ix2 a 0)
  have e' : BitVec.ofBool (decide (Ideal.ofBits .f32 0x00000000#32 ≤ (S (ix2 a 0) : EReal))) = 1#1 := e
  by_contra hn
  rw [show Ideal.ofBits .f32 0x00000000#32 = (0 : EReal) by simp [Ideal.ofBits, Ideal.ieee], decide_eq_false hn] at e'
  exact absurd e' (by decide)

end Cert.Pre_nonnegative

namespace Cert.UpClaims

open Idealize.ShloMosaic Idealize.SL.Sem Cert.Ffn

theorem up : Cert.quiescent_Up (hUp := Cert.Up.Gen.facts) := fun m ρ _ =>
  Cert.Up.Gen.frame (F := Bits) m ρ

theorem upIdeal : Cert.quiescent_UpIdeal (hUpIdeal := Cert.UpIdeal.Gen.facts) := fun m ρ _ => Cert.UpIdeal.Gen.frame (F := Ideal) m ρ

theorem refUpIdeal : Cert.quiescent_RefUpIdeal (hRefUpIdeal := Cert.RefUpIdeal.Gen.facts) := fun m ρ _ =>
  (θ_run Cert.RefUpIdeal.defs _ _).mono
    (fun r h => ⟨fun c => (h c).2, sem_eq_zero_of_no_sems (by decide) r.2⟩)
    (Cert.RefUpIdeal.Value.run (F := Ideal) m ρ)

theorem algebraic : algebraic_UpIdeal_RefUpIdeal_pre_nonnegative (hUpIdeal := Cert.UpIdeal.Gen.facts) (hRefUpIdeal := Cert.RefUpIdeal.Gen.facts)
    (hPre_nonnegative := Cert.Pre_nonnegative.facts) := by
  intro m g m' g' hp ha
  have hS := fun c => Cert.Pre_nonnegative.nonneg_of _ _ _ _ (hp c)
  refine ⟨_, (θ_run _ _ _).mono (fun _ h c => ⟨(h c).1.trans (Cert.UpIdeal.Block.arr m c), (h c).2⟩) (Cert.UpIdeal.Value.run_blocks m g), ?_⟩
  refine (θ_run _ _ _).mono (fun _ h c => ⟨(h c).1.trans ?_, (h c).2⟩) (Cert.RefUpIdeal.Entry.run m' g' fun c => ?_)
  · obtain ⟨-, h1, -, -⟩ := ha c
    rw [h1]
    exact hS c
  · obtain ⟨h0, h1, h2, h3⟩ := ha c
    rw [h0, h1, h2, h3]

end Cert.UpClaims

end
-- ==== Proof.Ffn.DownBlock.lean ====
/- What one grid point of the down projection computes from its blocks. -/
module

public import proofs.«01_k».proof.Proof.Gen.DownIdeal.Frame
public import proofs.«01_k».proof.Proof.Ffn.Math
public import Idealize.ShloMosaic.Lib.Pipeline.ValueKit

@[expose] public section

set_option maxRecDepth 16384

noncomputable section

namespace Cert.DownIdeal.Block

open Cert.DownIdeal Cert.DownIdeal.Gen Idealize.ShloMosaic Cert.Ffn

/-- The residual plus half the projection, at an index of the block. -/
def blk (X : Vec Ideal S688x11008 .bf16) (W : Vec Ideal S1x11008x256 .bf16) (H : Vec Ideal S688x256 .f32) (p : Fin 688) (y : Fin 256) : EReal :=
  H (ix2 p y) + Ideal.ofBits .f32 0x3F000000#32 * ∑ k : Fin 11008, X (ix2 p k) * W (ix3 0 k y)

theorem pay5 (w : Vec Ideal S1x11008x256 .bf16) (h : Vec Ideal S336x256 .f32) (v : Vec Ideal S336x11008 .bf16) (x : Fin 336) (y : Fin 256) :
    k0_pay5 w h v (ix2 x y) = h (ix2 x y) + Ideal.ofBits .f32 0x3F000000#32 * ∑ k : Fin 11008, v (ix2 x k) * w (ix3 0 k y) := by
  pointwise [k0_pay5, k0_pay4]

theorem pay8 (w : Vec Ideal S1x11008x256 .bf16) (h : Vec Ideal S352x256 .f32) (v : Vec Ideal S352x11008 .bf16) (x : Fin 352) (y : Fin 256) :
    k0_pay8 w h v (ix2 x y) = h (ix2 x y) + Ideal.ofBits .f32 0x3F000000#32 * ∑ k : Fin 11008, v (ix2 x k) * w (ix3 0 k y) := by
  pointwise [k0_pay8, k0_pay4]

theorem pay6 (w : Vec Ideal S1x11008x256 .bf16) (h : Vec Ideal S336x256 .f32) (v : Vec Ideal S336x11008 .bf16) (g : Vec Ideal S1x256 .f32) (x : Fin 336) (y : Fin 256) :
    k0_pay6 w h v g (ix2 x y) = k0_pay5 w h v (ix2 x y) * g (ix2 0 y) := by
  pointwise [k0_pay6]

theorem pay9 (w : Vec Ideal S1x11008x256 .bf16) (h : Vec Ideal S352x256 .f32) (v : Vec Ideal S352x11008 .bf16) (g : Vec Ideal S1x256 .f32) (x : Fin 352) (y : Fin 256) :
    k0_pay1 (k0_pay9 w h v g) (ix2 x y) = k0_pay8 w h v (ix2 x y) * g (ix2 0 y) := by
  pointwise [k0_pay1, k0_pay9]

theorem pay7 (w : Vec Ideal S1x11008x256 .bf16) (h : Vec Ideal S336x256 .f32) (v : Vec Ideal S336x11008 .bf16) (x : Fin 336) :
    k0_pay7 w h v (ix2 x 0) = ∑ y : Fin 256, k0_pay5 w h v (ix2 x y) * k0_pay5 w h v (ix2 x y) := by
  pointwise [k0_pay7]

theorem pay2_lo (v17 : FVec Ideal S336x1 .f32) (v23 : FVec Ideal S352x256 .f32) (p : Fin 688) (x : Fin 336) (h : p.val = x.val) :
    k0_pay2 v17 v23 (ix2 p 0) = v17 (ix2 x 0) := by
  have e : p = ⟨x.val, by omega⟩ := Fin.ext h
  rw [e]
  pointwise [k0_pay2]

theorem pay2_hi (v17 : FVec Ideal S336x1 .f32) (v23 : FVec Ideal S352x256 .f32) (p : Fin 688) (x : Fin 352) (h : p.val = 336 + x.val) :
    k0_pay2 v17 v23 (ix2 p 0) = ∑ y : Fin 256, v23 (ix2 x y) * v23 (ix2 x y) := by
  have e : p = ⟨336 + x.val, by omega⟩ := Fin.ext h
  rw [e]
  pointwise [k0_pay2]

theorem pay3 (v17 : FVec Ideal S336x1 .f32) (v23 : FVec Ideal S352x256 .f32) (a : Vec Ideal S688x1 .f32) (p : Fin 688) :
    k0_pay3 v17 v23 a (ix2 p 0) = a (ix2 p 0) + k0_pay2 v17 v23 (ix2 p 0) := by
  pointwise [k0_pay3]

/-! The two halves of a block's rows, as the kernel loads and stores them. -/

abbrev loX : Rect S688x11008 := Rect.unit ![0, 0] ![336, 11008] inb_S688x11008_S336x11008_0_0
abbrev hiX : Rect S688x11008 := Rect.unit ![336, 0] ![352, 11008] inb_S688x11008_S352x11008_336_0
abbrev loH : Rect S688x256 := Rect.unit ![0, 0] ![336, 256] inb_S688x256_S336x256_0_0
abbrev hiH : Rect S688x256 := Rect.unit ![336, 0] ![352, 256] inb_S688x256_S352x256_336_0

theorem lo_at (X : Vec Ideal S688x11008 .bf16) (W : Vec Ideal S1x11008x256 .bf16) (H : Vec Ideal S688x256 .f32) (p : Fin 688) (x : Fin 336) (h : p.val = x.val) (y : Fin 256) :
    k0_pay5 W (View.ld H loH) (View.ld X loX) (ix2 x y) = blk X W H p y := by
  have eX : ∀ k : Fin 11008, View.ld X loX (ix2 x k) = X (ix2 p k) := fun k => by
    refine View.ld_unit_apply_of X _ _ _ _ _ fun a => ?_
    match a with
    | 0 => exact h.trans (Nat.zero_add _).symm
    | 1 => exact (Nat.zero_add _).symm
  have eH : View.ld H loH (ix2 x y) = H (ix2 p y) := by
    refine View.ld_unit_apply_of H _ _ _ _ _ fun a => ?_
    match a with
    | 0 => exact h.trans (Nat.zero_add _).symm
    | 1 => exact (Nat.zero_add _).symm
  rw [pay5, eH]
  simp only [eX]
  rfl

theorem hi_at (X : Vec Ideal S688x11008 .bf16) (W : Vec Ideal S1x11008x256 .bf16) (H : Vec Ideal S688x256 .f32) (p : Fin 688) (x : Fin 352) (h : p.val = 336 + x.val) (y : Fin 256) :
    k0_pay8 W (View.ld H hiH) (View.ld X hiX) (ix2 x y) = blk X W H p y := by
  have eX : ∀ k : Fin 11008, View.ld X hiX (ix2 x k) = X (ix2 p k) := fun k => by
    refine View.ld_unit_apply_of X _ _ _ _ _ fun a => ?_
    match a with
    | 0 => exact h
    | 1 => exact (Nat.zero_add _).symm
  have eH : View.ld H hiH (ix2 x y) = H (ix2 p y) := by
    refine View.ld_unit_apply_of H _ _ _ _ _ fun a => ?_
    match a with
    | 0 => exact h
    | 1 => exact (Nat.zero_add _).symm
  rw [pay8, eH]
  simp only [eX]
  rfl

theorem idx_eq {n : ℕ} (z : (⟨2, ![n, 256]⟩ : Shape).Idx) (x : Fin n) (y : Fin 256) (h0 : x.val = (z 0).val) (h1 : y.val = (z 1).val) : z = ix2 x y := by
  funext a
  match a with
  | 0 => exact Fin.ext h0.symm
  | 1 => exact Fin.ext h1.symm

/-- The two halves cover the block. -/
theorem halves {e : EltTy} (u : hiH.shape.Idx → Elt Ideal e) (v : loH.shape.Idx → Elt Ideal e) (p : Fin 688) (y : Fin 256) :
    ∃ q ∈ ([⟨hiH, u⟩, ⟨loH, v⟩] : List (View.Piece (Elt Ideal) S688x256 e)), (ix2 p y : S688x256.Idx) ∈ q.1.set := by
  have hy := y.isLt
  by_cases h : p.val < 336
  · refine ⟨⟨loH, v⟩, by simp, (Rect.mem_set_unit (inb := inb_S688x256_S336x256_0_0)).2 fun a => ?_⟩
    match a with
    | 0 => exact ⟨Nat.zero_le _, by simpa using h⟩
    | 1 => exact ⟨Nat.zero_le _, by simpa using hy⟩
  · refine ⟨⟨hiH, u⟩, by simp, (Rect.mem_set_unit (inb := inb_S688x256_S352x256_336_0)).2 fun a => ?_⟩
    match a with
    | 0 => exact ⟨by simpa using h, p.isLt⟩
    | 1 => exact ⟨Nat.zero_le _, by simpa using hy⟩

/-- The first result's block. -/
theorem first_at (X : Vec Ideal S688x11008 .bf16) (W : Vec Ideal S1x11008x256 .bf16) (H : Vec Ideal S688x256 .f32) (p : Fin 688) (y : Fin 256) :
    View.canon (Val := Elt Ideal) (s := S688x256) (e := .f32) [⟨hiH, k0_pay8 W (View.ld H hiH) (View.ld X hiX)⟩, ⟨loH, k0_pay5 W (View.ld H loH) (View.ld X loX)⟩] (ix2 p y) = blk X W H p y := by
  have h0' : ((ix2 p y : S688x256.Idx) 0 : ℕ) = p.val := rfl
  have h1' : ((ix2 p y : S688x256.Idx) 1 : ℕ) = y.val := rfl
  canon_tiles z h using halves _ _ p y
  · rw [h0'] at h0
    rw [h1'] at h1
    obtain ⟨x, hx⟩ : ∃ x : Fin 352, x.val = (z 0).val := ⟨⟨(z 0).val, (z 0).isLt⟩, rfl⟩
    obtain rfl : z = ix2 x y := idx_eq z x y hx h1
    exact hi_at X W H p x h0 y
  · rw [h0'] at h0
    rw [h1'] at h1
    obtain ⟨x, hx⟩ : ∃ x : Fin 336, x.val = (z 0).val := ⟨⟨(z 0).val, (z 0).isLt⟩, rfl⟩
    obtain rfl : z = ix2 x y := idx_eq z x y hx h1
    exact lo_at X W H p x h0 y

/-- The second result's block. -/
theorem second_at (X : Vec Ideal S688x11008 .bf16) (W : Vec Ideal S1x11008x256 .bf16) (H : Vec Ideal S688x256 .f32) (G : Vec Ideal S1x256 .f32) (p : Fin 688) (y : Fin 256) :
    View.canon (Val := Elt Ideal) (s := S688x256) (e := .bf16) [⟨hiH, k0_pay1 (k0_pay9 W (View.ld H hiH) (View.ld X hiX) G)⟩, ⟨loH, k0_pay6 W (View.ld H loH) (View.ld X loX) G⟩] (ix2 p y) = blk X W H p y * G (ix2 0 y) := by
  have h0' : ((ix2 p y : S688x256.Idx) 0 : ℕ) = p.val := rfl
  have h1' : ((ix2 p y : S688x256.Idx) 1 : ℕ) = y.val := rfl
  canon_tiles z h using halves _ _ p y
  · rw [h0'] at h0
    rw [h1'] at h1
    obtain ⟨x, hx⟩ : ∃ x : Fin 352, x.val = (z 0).val := ⟨⟨(z 0).val, (z 0).isLt⟩, rfl⟩
    obtain rfl : z = ix2 x y := idx_eq z x y hx h1
    rw [pay9, hi_at X W H p x h0 y]
  · rw [h0'] at h0
    rw [h1'] at h1
    obtain ⟨x, hx⟩ : ∃ x : Fin 336, x.val = (z 0).val := ⟨⟨(z 0).val, (z 0).isLt⟩, rfl⟩
    obtain rfl : z = ix2 x y := idx_eq z x y hx h1
    rw [pay6, lo_at X W H p x h0 y]

/-- What a point adds to a row's sum of squares. -/
theorem third_at (X : Vec Ideal S688x11008 .bf16) (W : Vec Ideal S1x11008x256 .bf16) (H : Vec Ideal S688x256 .f32) (p : Fin 688) :
    k0_pay2 (k0_pay7 W (View.ld H loH) (View.ld X loX)) (k0_pay8 W (View.ld H hiH) (View.ld X hiX)) (ix2 p 0)
      = ∑ y : Fin 256, blk X W H p y * blk X W H p y := by
  by_cases h : p.val < 336
  · rw [pay2_lo _ _ p ⟨p.val, h⟩ rfl, pay7]
    simp only [lo_at X W H p ⟨p.val, h⟩ rfl]
  · have e : p.val = 336 + (p.val - 336) := by omega
    rw [pay2_hi _ _ p ⟨p.val - 336, by omega⟩ e]
    simp only [hi_at X W H p ⟨p.val - 336, by omega⟩ e]

variable (m : (ℓ : Loc nD τ sig) → Buf (Elt Ideal) ℓ) (c : Dev nD)

theorem out4 (t : Fin cfg0.N) (p : Fin 688) (y : Fin 256) :
    (outsAt0 m c t.val t.isLt).1 (ix2 p y) = blk (iblk m c 0 t) (iblk m c 1 t) (iblk m c 2 t) p y := by
  by_cases h : t.val % 16 = 0
  · rw [outsAt0_A m c t h (by omega)]
    frame_out
    exact first_at _ _ _ p y
  · rw [outsAt0_B m c t h (by omega)]
    frame_out
    exact first_at _ _ _ p y

theorem out5 (t : Fin cfg0.N) (p : Fin 688) (y : Fin 256) :
    (outsAt0 m c t.val t.isLt).2.1 (ix2 p y) = blk (iblk m c 0 t) (iblk m c 1 t) (iblk m c 2 t) p y * (iblk m c 3 t : Vec Ideal S1x256 .f32) (ix2 0 y) := by
  by_cases h : t.val % 16 = 0
  · rw [outsAt0_A m c t h (by omega)]
    frame_out
    exact second_at _ _ _ _ p y
  · rw [outsAt0_B m c t h (by omega)]
    frame_out
    exact second_at _ _ _ _ p y

/-- A row's sum of squares over one block of columns. -/
def part (t : Fin cfg0.N) (p : Fin 688) : EReal :=
  ∑ y : Fin 256, blk (iblk m c 0 t) (iblk m c 1 t) (iblk m c 2 t) p y * blk (iblk m c 0 t) (iblk m c 1 t) (iblk m c 2 t) p y

theorem out6_A (t : Fin cfg0.N) (h : t.val % 16 = 0) (p : Fin 688) : (outsAt0 m c t.val t.isLt).2.2 (ix2 p 0) = part m c t p := by
  rw [outsAt0_A m c t h (by omega)]
  frame_out
  exact third_at _ _ _ p

theorem out6_B (t : Fin cfg0.N) (h : ¬t.val % 16 = 0) (p : Fin 688) :
    (outsAt0 m c t.val t.isLt).2.2 (ix2 p 0)
      = (outsAt0 m c (t.val - 1) (Nat.lt_of_le_of_lt (Nat.sub_le _ _) t.isLt)).2.2 (ix2 p 0) + part m c t p := by
  rw [outsAt0_B m c t h (by omega)]
  frame_out
  rw [pay3]
  exact congrArg _ (third_at _ _ _ p)

end Cert.DownIdeal.Block

end
-- ==== Proof.Ffn.DownArray.lean ====
/- The down projection's whole results: the blocks read off the arguments, and the arrays they fill. -/
module

public import proofs.«01_k».proof.Proof.Ffn.DownBlock
public import proofs.«01_k».proof.Proof.Gen.DownIdeal.Value

@[expose] public section

set_option maxRecDepth 16384

noncomputable section

namespace Cert.Ffn

open Idealize.ShloMosaic

/-- The call's arguments: gated activations, the stacked weights, the residual, and the next norm's weight. -/
abbrev Gates : Type := (⟨2, ![8256, 11008]⟩ : Shape).Idx → EReal
abbrev Downs : Type := (⟨3, ![4, 11008, 4096]⟩ : Shape).Idx → EReal
abbrev Res : Type := (⟨2, ![8256, 4096]⟩ : Shape).Idx → EReal
abbrev Norm : Type := (⟨1, ![4096]⟩ : Shape).Idx → EReal

/-- The new residual, entry by entry, for the first layer's weights. -/
def downAt (A : Gates) (W : Downs) (H : Res) (a : Fin 8256) (b : Fin 4096) : EReal :=
  H (ix2 a b) + Ideal.ofBits .f32 0x3F000000#32 * ∑ k : Fin 11008, A (ix2 a k) * W (ix3 0 k b)

/-- The three results as arrays: the residual, the residual scaled by the norm's weight, and its rows' sums of squares. -/
def downArr (A : Gates) (W : Downs) (H : Res) (i : (⟨2, ![8256, 4096]⟩ : Shape).Idx) : EReal := downAt A W H (i 0) (i 1)
def scaledArr (A : Gates) (W : Downs) (H : Res) (g : Norm) (i : (⟨2, ![8256, 4096]⟩ : Shape).Idx) : EReal := downAt A W H (i 0) (i 1) * g (ix1 (i 1))
def squaresArr (A : Gates) (W : Downs) (H : Res) (i : (⟨2, ![8256, 1]⟩ : Shape).Idx) : EReal := ∑ b : Fin 4096, downAt A W H (i 0) b * downAt A W H (i 0) b

theorem downArr_of (A : Gates) (W : Downs) (H : Res) (i : (⟨2, ![8256, 4096]⟩ : Shape).Idx) (a : Fin 8256) (b : Fin 4096)
    (h0 : (i 0).val = a.val) (h1 : (i 1).val = b.val) : downArr A W H i = downAt A W H a b := by
  obtain rfl : i 0 = a := Fin.ext h0
  obtain rfl : i 1 = b := Fin.ext h1
  rfl

theorem scaledArr_of (A : Gates) (W : Downs) (H : Res) (g : Norm) (i : (⟨2, ![8256, 4096]⟩ : Shape).Idx) (a : Fin 8256) (b : Fin 4096)
    (h0 : (i 0).val = a.val) (h1 : (i 1).val = b.val) : scaledArr A W H g i = downAt A W H a b * g (ix1 b) := by
  obtain rfl : i 0 = a := Fin.ext h0
  obtain rfl : i 1 = b := Fin.ext h1
  rfl

theorem squaresArr_of (A : Gates) (W : Downs) (H : Res) (i : (⟨2, ![8256, 1]⟩ : Shape).Idx) (a : Fin 8256)
    (h0 : (i 0).val = a.val) : squaresArr A W H i = ∑ b : Fin 4096, downAt A W H a b * downAt A W H a b := by
  obtain rfl : i 0 = a := Fin.ext h0
  rfl

end Cert.Ffn

namespace Cert.DownIdeal.Block

open Cert.DownIdeal Cert.DownIdeal.Gen Idealize.ShloMosaic Idealize.ShloMosaic.TcCoe Cert.Ffn

variable (m : (ℓ : Loc nD τ sig) → Buf (Elt Ideal) ℓ) (c : Dev nD)

/-- The weights the region finds: the argument, cast. -/
theorem V_w : V m c main_v0 = truncf (F := Ideal) .bf16 (m (c.tc.loc main_arg1)) bitsLt_bf16_f32 := by
  unfold V hostOps0
  after_results

/-- The norm's weight the region finds: the argument as one row. -/
theorem V_g : V m c main_v1 = shapeCast (s := S4096) S1x4096 (m (c.tc.loc main_arg3)) shapeCasts_S4096_S1x4096 := by
  unfold V hostOps0
  after_results
  rfl

/-- Where each window's block lies. -/
theorem idx : ∀ t : Fin cfg0.N,
    win0_0.index t = ![t.val / 16, 0] ∧ win0_1.index t = ![0, 0, t.val % 16]
    ∧ win0_2.index t = ![t.val / 16, t.val % 16] ∧ win0_3.index t = ![0, t.val % 16]
    ∧ win0_4.index t = ![t.val / 16, t.val % 16] ∧ win0_5.index t = ![t.val / 16, t.val % 16] ∧ win0_6.index t = ![t.val / 16, 0] := by decide +kernel

theorem row_lt (t : Fin cfg0.N) (x : Fin 688) : 688 * (t.val / 16) + x.val < 8256 := by
  have : t.val < 192 := t.isLt
  omega

theorem col_lt (t : Fin cfg0.N) (y : Fin 256) : 256 * (t.val % 16) + y.val < 4096 := by
  omega

theorem a_read (t : Fin cfg0.N) (x : Fin 688) (k : Fin 11008) :
    (iblk m c 0 t : Vec Ideal S688x11008 .bf16) (ix2 x k) = (m (c.tc.loc main_arg0) : Gates) (ix2 ⟨_, row_lt t x⟩ k) := by
  rw [← V_main_arg0 m c]
  blk_ext [iblk, (idx t).1]

theorem w_read (t : Fin cfg0.N) (k : Fin 11008) (y : Fin 256) :
    (iblk m c 1 t : Vec Ideal S1x11008x256 .bf16) (ix3 0 k y) = (m (c.tc.loc main_arg1) : Downs) (ix3 0 k ⟨_, col_lt t y⟩) := by
  refine Eq.trans (b := V m c main_v0 (ix3 0 k ⟨_, col_lt t y⟩)) (by blk_ext [iblk, (idx t).2.1]) ?_
  rw [V_w]
  rfl

theorem h_read (t : Fin cfg0.N) (x : Fin 688) (y : Fin 256) :
    (iblk m c 2 t : Vec Ideal S688x256 .f32) (ix2 x y) = (m (c.tc.loc main_arg2) : Res) (ix2 ⟨_, row_lt t x⟩ ⟨_, col_lt t y⟩) := by
  rw [← V_main_arg2 m c]
  blk_ext [iblk, (idx t).2.2.1]

theorem g_read (t : Fin cfg0.N) (y : Fin 256) :
    (iblk m c 3 t : Vec Ideal S1x256 .f32) (ix2 0 y) = (m (c.tc.loc main_arg3) : Norm) (ix1 ⟨_, col_lt t y⟩) := by
  refine Eq.trans (b := V m c main_v1 (ix2 0 ⟨_, col_lt t y⟩)) (by blk_ext [iblk, (idx t).2.2.2.1]) ?_
  rw [V_g]
  pointwise

/-- A point's block is the result's block there. -/
theorem blk_at (t : Fin cfg0.N) (x : Fin 688) (y : Fin 256) :
    blk (iblk m c 0 t) (iblk m c 1 t) (iblk m c 2 t) x y
      = downAt (m (c.tc.loc main_arg0)) (m (c.tc.loc main_arg1)) (m (c.tc.loc main_arg2)) ⟨_, row_lt t x⟩ ⟨_, col_lt t y⟩ := by
  unfold blk
  simp only [a_read, w_read, h_read]
  rfl

/-- After a run's last point a row's sum of squares is over all columns. -/
theorem squares_at (t : Fin cfg0.N) (h : t.val % 16 = 15) (x : Fin 688) :
    (outsAt0 m c t.val t.isLt).2.2 (ix2 x 0)
      = ∑ b : Fin 4096, downAt (m (c.tc.loc main_arg0)) (m (c.tc.loc main_arg1)) (m (c.tc.loc main_arg2)) ⟨_, row_lt t x⟩ b
          * downAt (m (c.tc.loc main_arg0)) (m (c.tc.loc main_arg1)) (m (c.tc.loc main_arg2)) ⟨_, row_lt t x⟩ b := by
  have e := Pipeline.eq_sum_fin_of_reset_step_apply_of_flush (M := EReal) (fun n h (p : Fin 688) => (outsAt0 m c n h).2.2 (ix2 p 0)) 16 (fun _ => 0) (part m c)
    (fun t h p => (out6_A m c t h p).trans (zero_add _).symm) (fun t h p => out6_B m c t h p) t h x
  refine (e.trans (zero_add _)).trans ?_
  unfold part
  refine Fin.sum_mul_add_congr (n := 256) (fun s y hl => ?_)
  rw [blk_at]
  have er : (688 * ((16 * (t.val / 16) + s.val) / 16) + x.val) = 688 * (t.val / 16) + x.val := by omega
  have ec : (256 * ((16 * (t.val / 16) + s.val) % 16) + y.val) = s.val * 256 + y.val := by omega
  simp only [er, ec]

/-- The array of new residuals the region leaves. -/
theorem arr4 : (dats m 0 c).arrAt 4 cfg0.N
    = downArr (m (c.tc.loc main_arg0)) (m (c.tc.loc main_arg1)) (m (c.tc.loc main_arg2)) := by
  funext i
  have h := (dats m 0 c).arrAt_apply_of_coversWhere 4 (P := fun _ => True)
    (downArr (m (c.tc.loc main_arg0)) (m (c.tc.loc main_arg1)) (m (c.tc.loc main_arg2))) (fun _ => true) (by decide +kernel)
    (fun t _ y => ?_) (fun j => by blk_simp [Pipeline.Window.cell_apply]; try omega) i
  · rw [h, if_pos trivial]
  · blk_simp
    rw [after0_4]
    have e0 : (((cfg0.win 4).blk t).view.emb y (0 : Fin 2)).val = 688 * (t.val / 16) + (y 0).val := by
      blk_simp [(idx t).2.2.2.2.1]; try omega
    have e1 : (((cfg0.win 4).blk t).view.emb y (1 : Fin 2)).val = 256 * (t.val % 16) + (y 1).val := by
      blk_simp [(idx t).2.2.2.2.1]; try omega
    have y0 : (y (0 : Fin 2)).val < 688 := ((cfg0.win 4).xinj (cfg0.grid.coords t) y (0 : Fin 2)).isLt
    have y1 : (y (1 : Fin 2)).val < 256 := ((cfg0.win 4).xinj (cfg0.grid.coords t) y (1 : Fin 2)).isLt
    have ez : (y : S688x256.Idx) = ix2 (⟨(y (0 : Fin 2)).val, y0⟩ : Fin 688) (⟨(y (1 : Fin 2)).val, y1⟩ : Fin 256) := by
      blk_ext
    exact ((congrArg (outsAt0 m c t.val t.isLt).1 ez).trans ((out4 m c t ⟨_, y0⟩ ⟨_, y1⟩).trans (blk_at m c t ⟨_, y0⟩ ⟨_, y1⟩))).trans
      (downArr_of _ _ _ _ _ _ e0 e1).symm

/-- The array of scaled residuals. -/
theorem arr5 : (dats m 0 c).arrAt 5 cfg0.N
    = scaledArr (m (c.tc.loc main_arg0)) (m (c.tc.loc main_arg1)) (m (c.tc.loc main_arg2)) (m (c.tc.loc main_arg3)) := by
  funext i
  have h := (dats m 0 c).arrAt_apply_of_coversWhere 5 (P := fun _ => True)
    (scaledArr (m (c.tc.loc main_arg0)) (m (c.tc.loc main_arg1)) (m (c.tc.loc main_arg2)) (m (c.tc.loc main_arg3))) (fun _ => true) (by decide +kernel)
    (fun t _ y => ?_) (fun j => by blk_simp [Pipeline.Window.cell_apply]; try omega) i
  · rw [h, if_pos trivial]
  · blk_simp
    rw [after0_5]
    have e0 : (((cfg0.win 5).blk t).view.emb y (0 : Fin 2)).val = 688 * (t.val / 16) + (y 0).val := by
      blk_simp [(idx t).2.2.2.2.2.1]; try omega
    have e1 : (((cfg0.win 5).blk t).view.emb y (1 : Fin 2)).val = 256 * (t.val % 16) + (y 1).val := by
      blk_simp [(idx t).2.2.2.2.2.1]; try omega
    have y0 : (y (0 : Fin 2)).val < 688 := ((cfg0.win 5).xinj (cfg0.grid.coords t) y (0 : Fin 2)).isLt
    have y1 : (y (1 : Fin 2)).val < 256 := ((cfg0.win 5).xinj (cfg0.grid.coords t) y (1 : Fin 2)).isLt
    have ez : (y : S688x256.Idx) = ix2 (⟨(y (0 : Fin 2)).val, y0⟩ : Fin 688) (⟨(y (1 : Fin 2)).val, y1⟩ : Fin 256) := by
      blk_ext
    exact ((congrArg (outsAt0 m c t.val t.isLt).2.1 ez).trans ((out5 m c t ⟨_, y0⟩ ⟨_, y1⟩).trans
      (congrArg₂ (· * ·) (blk_at m c t ⟨_, y0⟩ ⟨_, y1⟩) (g_read m c t ⟨_, y1⟩)))).trans
      (scaledArr_of _ _ _ _ _ _ _ e0 e1).symm

/-- The array of the rows' sums of squares. -/
theorem arr6 : (dats m 0 c).arrAt 6 cfg0.N
    = squaresArr (m (c.tc.loc main_arg0)) (m (c.tc.loc main_arg1)) (m (c.tc.loc main_arg2)) := by
  funext i
  have h := (dats m 0 c).arrAt_apply_of_coversWhere 6 (P := fun _ => True)
    (squaresArr (m (c.tc.loc main_arg0)) (m (c.tc.loc main_arg1)) (m (c.tc.loc main_arg2))) (fun _ => true) (by decide +kernel)
    (fun t hf y => ?_) (fun j => by blk_simp [Pipeline.Window.cell_apply]; try omega) i
  · rw [h, if_pos trivial]
  · have hf := (flush0_6 t).mp hf
    blk_simp
    rw [after0_6]
    have e0 : (((cfg0.win 6).blk t).view.emb y (0 : Fin 2)).val = 688 * (t.val / 16) + (y 0).val := by
      blk_simp [(idx t).2.2.2.2.2.2]; try omega
    have y0 : (y (0 : Fin 2)).val < 688 := ((cfg0.win 6).xinj (cfg0.grid.coords t) y (0 : Fin 2)).isLt
    have y1 : (y (1 : Fin 2)).val < 1 := ((cfg0.win 6).xinj (cfg0.grid.coords t) y (1 : Fin 2)).isLt
    have ez : (y : S688x1.Idx) = ix2 (⟨(y (0 : Fin 2)).val, y0⟩ : Fin 688) (0 : Fin 1) := by
      blk_ext
    exact ((congrArg (outsAt0 m c t.val t.isLt).2.2 ez).trans (squares_at m c t hf ⟨_, y0⟩)).trans
      (squaresArr_of _ _ _ _ _ e0).symm

end Cert.DownIdeal.Block

end
-- ==== Proof.Ffn.DownRef.lean ====
/- The down projection's reference, entry by entry. -/
module

public import proofs.«01_k».proof.Proof.Gen.RefDownIdeal.Run
public import proofs.«01_k».proof.Proof.Ffn.DownArray

@[expose] public section

set_option maxRecDepth 16384

noncomputable section

namespace Cert.RefDownIdeal.Entry

open Cert.RefDownIdeal Cert.RefDownIdeal.Gen Idealize.ShloMosaic Idealize.ShloMosaic.TcCoe Cert.Ffn

/-- The new residual. -/
def resid (A : FVec Ideal S8256x11008 .bf16) (W : FVec Ideal S4x11008x4096 .f32) (H : FVec Ideal S8256x4096 .f32) : FVec Ideal S8256x4096 .f32 :=
  addf H (mulf (broadcastInDim S8256x4096 ![] bcast_S_S8256x4096 (constant S_ .f32 0x3F000000#32)) (Host.dotGeneral dot_S8256x11008_S11008x4096_S8256x4096_1_0_0_1_n_n none (extf .f32 A bitsLt_bf16_f32) (shapeCast _ (extractStridedSlice S1x11008x4096 ![0, 0, 0] W slices_S4x11008x4096_S1x11008x4096_0_0_0) shapeCasts_S1x11008x4096_S11008x4096)))

/-- Scaled by the norm's weight. -/
def scaled (R : FVec Ideal S8256x4096 .f32) (g : FVec Ideal S4096 .f32) : FVec Ideal S8256x4096 .bf16 :=
  truncf .bf16 (mulf R (broadcastInDim S8256x4096 ![0, 1] bcast_S1x4096_S8256x4096_0_1 (broadcastInDim S1x4096 ![1] bcast_S4096_S1x4096_1 g))) bitsLt_bf16_f32

/-- Its rows' sums of squares. -/
def squares (R : FVec Ideal S8256x4096 .f32) : FVec Ideal S8256x1 .f32 :=
  broadcastInDim S8256x1 ![0] bcast_S8256_S8256x1_0 (Host.reduceAdd (mulf R R) (constant S_ .f32 0x00000000#32) reducesTo_S8256x4096_S8256_d1 h_S_)

theorem resid_at (A : FVec Ideal S8256x11008 .bf16) (W : FVec Ideal S4x11008x4096 .f32) (H : FVec Ideal S8256x4096 .f32) (a : Fin 8256) (b : Fin 4096) :
    resid A W H (ix2 a b) = downAt A W H a b := by
  pointwise [resid]
  rfl

theorem scaled_at (R : FVec Ideal S8256x4096 .f32) (g : FVec Ideal S4096 .f32) (a : Fin 8256) (b : Fin 4096) :
    scaled R g (ix2 a b) = R (ix2 a b) * g (ix1 b) := by
  pointwise [scaled]

theorem squares_at (R : FVec Ideal S8256x4096 .f32) (a : Fin 8256) (b : Fin 1) :
    squares R (ix2 a b) = ∑ k : Fin 4096, R (ix2 a k) * R (ix2 a k) := by
  pointwise [squares]

theorem value4 (A : FVec Ideal S8256x11008 .bf16) (W : FVec Ideal S4x11008x4096 .f32) (H : FVec Ideal S8256x4096 .f32) : resid A W H = downArr A W H := by
  funext i
  obtain ⟨a, b, rfl⟩ : ∃ a b, i = ix2 a b := ⟨i 0, i 1, by blk_ext⟩
  exact resid_at A W H a b

theorem value5 (A : FVec Ideal S8256x11008 .bf16) (W : FVec Ideal S4x11008x4096 .f32) (H : FVec Ideal S8256x4096 .f32) (g : FVec Ideal S4096 .f32) :
    scaled (resid A W H) g = scaledArr A W H g := by
  funext i
  obtain ⟨a, b, rfl⟩ : ∃ a b, i = ix2 a b := ⟨i 0, i 1, by blk_ext⟩
  rw [scaled_at, resid_at]
  rfl

theorem value6 (A : FVec Ideal S8256x11008 .bf16) (W : FVec Ideal S4x11008x4096 .f32) (H : FVec Ideal S8256x4096 .f32) :
    squares (resid A W H) = squaresArr A W H := by
  funext i
  obtain ⟨a, b, rfl⟩ : ∃ a b, i = ix2 a b := ⟨i 0, i 1, by blk_ext⟩
  rw [squares_at]
  simp only [resid_at]
  rfl

variable (m : (ℓ : Loc nD τ sig) → Buf (Elt Ideal) ℓ) (ρ : Dev nD → PrngReg)

/-- The reference's run: the results entry by entry, the arguments unchanged. -/
theorem run : θ_run (defs (F := Ideal)) (onTc (τ := τ) (main (F := Ideal))) ⟨m, fun _ => 0, ρ⟩ (fun r => ∀ c : Dev nD,
      r.2.mem (c.tc.loc main_v6) = downArr (m (c.tc.loc main_arg0)) (m (c.tc.loc main_arg1)) (m (c.tc.loc main_arg2))
      ∧ r.2.mem (c.tc.loc main_v10) = scaledArr (m (c.tc.loc main_arg0)) (m (c.tc.loc main_arg1)) (m (c.tc.loc main_arg2)) (m (c.tc.loc main_arg3))
      ∧ r.2.mem (c.tc.loc main_v13) = squaresArr (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun _ h c => ⟨(h c).1.trans (value4 _ _ _), (h c).2.1.trans (value5 _ _ _ _), (h c).2.2.1.trans (value6 _ _ _), (h c).2.2.2⟩) (Value.run m ρ)

end Cert.RefDownIdeal.Entry

end
-- ==== Proof.Ffn.DownClaims.lean ====
/- The down projection's claims: the frames and the value. -/
module

public import proofs.«01_k».proof.Defs
public import proofs.«01_k».proof.Proof.Gen.Down.Frame
public import proofs.«01_k».proof.Proof.Ffn.DownRef
public import Idealize.ShloMosaic.Adequacy
public import Idealize.ShloMosaic.Init

@[expose] public section

noncomputable section

namespace Cert.DownClaims

open Idealize.ShloMosaic Idealize.SL.Sem Cert.Ffn

theorem down : Cert.quiescent_Down (hDown := Cert.Down.Gen.facts) := fun m ρ _ =>
  Cert.Down.Gen.frame (F := Bits) m ρ

theorem downIdeal : Cert.quiescent_DownIdeal (hDownIdeal := Cert.DownIdeal.Gen.facts) := fun m ρ _ => Cert.DownIdeal.Gen.frame (F := Ideal) m ρ

theorem refDownIdeal : Cert.quiescent_RefDownIdeal (hRefDownIdeal := Cert.RefDownIdeal.Gen.facts) := fun m ρ _ =>
  (θ_run Cert.RefDownIdeal.defs _ _).mono
    (fun r h => ⟨fun c => (h c).2.2.2, sem_eq_zero_of_no_sems (by decide) r.2⟩)
    (Cert.RefDownIdeal.Value.run (F := Ideal) m ρ)

theorem algebraic : algebraic_DownIdeal_RefDownIdeal (hDownIdeal := Cert.DownIdeal.Gen.facts) (hRefDownIdeal := Cert.RefDownIdeal.Gen.facts) := by
  intro m g m' g' _ ha
  refine ⟨_, _, _, (θ_run _ _ _).mono (fun _ h c => ⟨(h c).1.trans (Cert.DownIdeal.Block.arr4 m c), (h c).2.1.trans (Cert.DownIdeal.Block.arr5 m c),
    (h c).2.2.1.trans (Cert.DownIdeal.Block.arr6 m c), (h c).2.2.2⟩) (Cert.DownIdeal.Value.run_blocks m g), ?_⟩
  refine (θ_run _ _ _).mono (fun _ h c => ⟨(h c).1.trans ?_, (h c).2.1.trans ?_, (h c).2.2.1.trans ?_, (h c).2.2.2⟩) (Cert.RefDownIdeal.Entry.run m' g')
  all_goals
    obtain ⟨h0, h1, h2, h3⟩ := ha c
    simp only [h0, h1, h2, h3]

end Cert.DownClaims

end
-- ==== Proof.Ffn.MergeBlock.lean ====
/- What one grid point of the branches' merge leaves in its block of the result. -/
module

public import proofs.«01_k».proof.Proof.Gen.MergeIdeal.Frame
public import proofs.«01_k».proof.Proof.Ffn.DownBlock

@[expose] public section

set_option maxRecDepth 16384

noncomputable section

namespace Cert.Ffn

open Idealize.ShloMosaic

/-- Two branches added, each under the gate of its own scaled projection. -/
def mix (r a b u v : EReal) : EReal := Ideal.logistic (r * a) * u + Ideal.logistic (r * b) * v

end Cert.Ffn

namespace Cert.MergeIdeal.Block

open Cert.MergeIdeal Cert.MergeIdeal.Gen Idealize.ShloMosaic Cert.Ffn

/-- The merged branches at an index of the block. -/
def blk (N : Vec Ideal S688x4096 .bf16) (S : Vec Ideal S688x1 .f32) (O G : Vec Ideal S688x2048 .bf16) (A B : Vec Ideal S1x256x4096 .bf16) (U V : Vec Ideal S1x2048x256 .f32)
    (p : Fin 688) (y : Fin 256) : EReal :=
  mix (Ffn.inv (S (ix2 p 0))) (∑ k : Fin 4096, N (ix2 p k) * A (ix3 0 y k)) (∑ k : Fin 4096, N (ix2 p k) * B (ix3 0 y k))
    (∑ k : Fin 2048, O (ix2 p k) * U (ix3 0 k y)) (∑ k : Fin 2048, G (ix2 p k) * V (ix3 0 k y))

theorem gate3 (w : Vec Ideal S1x256x4096 .bf16) (y : Fin 256) (k : Fin 4096) : k0_pay3 w (ix2 y k) = w (ix3 0 y k) := by
  pointwise [k0_pay3]

theorem gate4 (w : Vec Ideal S1x256x4096 .bf16) (y : Fin 256) (k : Fin 4096) : k0_pay4 w (ix2 y k) = w (ix3 0 y k) := by
  pointwise [k0_pay4]

theorem up5 (w : Vec Ideal S1x2048x256 .f32) (k : Fin 2048) (y : Fin 256) : k0_pay5 w (ix2 k y) = w (ix3 0 k y) := by
  pointwise [k0_pay5]

theorem up6 (w : Vec Ideal S1x2048x256 .f32) (k : Fin 2048) (y : Fin 256) : k0_pay6 w (ix2 k y) = w (ix3 0 k y) := by
  pointwise [k0_pay6]

theorem scale (v : Vec Ideal S688x1 .f32) (x : Fin 336) : k0_pay7 v (ix2 x 0) = Ffn.inv (v (ix2 ⟨x.val, by omega⟩ 0)) := by
  pointwise [k0_pay7]
  rfl

theorem pay8 (w : Vec Ideal S1x256x4096 .bf16) (u : Vec Ideal S1x2048x256 .f32) (n : Vec Ideal S336x4096 .bf16) (s : Vec Ideal S688x1 .f32) (o : Vec Ideal S336x2048 .bf16)
    (x : Fin 336) (y : Fin 256) :
    k0_pay8 w u n s o (ix2 x y)
      = Ideal.logistic (k0_pay7 s (ix2 x 0) * ∑ k : Fin 4096, n (ix2 x k) * k0_pay3 w (ix2 y k)) * ∑ k : Fin 2048, o (ix2 x k) * k0_pay5 u (ix2 k y) := by
  pointwise [k0_pay8]

theorem pay9 (w : Vec Ideal S1x256x4096 .bf16) (u : Vec Ideal S1x2048x256 .f32) (n : Vec Ideal S336x4096 .bf16) (s : Vec Ideal S688x1 .f32) (o : Vec Ideal S336x2048 .bf16)
    (x : Fin 336) (y : Fin 256) :
    k0_pay9 w u n s o (ix2 x y)
      = Ideal.logistic (k0_pay7 s (ix2 x 0) * ∑ k : Fin 4096, n (ix2 x k) * k0_pay4 w (ix2 y k)) * ∑ k : Fin 2048, o (ix2 x k) * k0_pay6 u (ix2 k y) := by
  pointwise [k0_pay9]

theorem pay1 (a b : FVec Ideal S336x256 .f32) (x : Fin 336) (y : Fin 256) : k0_pay1 a b (ix2 x y) = a (ix2 x y) + b (ix2 x y) := by
  pointwise [k0_pay1]

theorem pay2 (a b : FVec Ideal S256x4096 .bf16) (u v : FVec Ideal S2048x256 .bf16) (n : Vec Ideal S352x4096 .bf16) (s : Vec Ideal S688x1 .f32) (o g : Vec Ideal S352x2048 .bf16)
    (x : Fin 352) (y : Fin 256) :
    k0_pay2 a b u v n s o g (ix2 x y)
      = mix (Ffn.inv (s (ix2 ⟨336 + x.val, by omega⟩ 0))) (∑ k : Fin 4096, n (ix2 x k) * a (ix2 y k)) (∑ k : Fin 4096, n (ix2 x k) * b (ix2 y k))
          (∑ k : Fin 2048, o (ix2 x k) * u (ix2 k y)) (∑ k : Fin 2048, g (ix2 x k) * v (ix2 k y)) := by
  pointwise [k0_pay2]
  rfl

/-! The two parts of a block's rows, as the kernel loads and stores them. -/

abbrev loN : Rect S688x4096 := Rect.unit ![0, 0] ![336, 4096] inb_S688x4096_S336x4096_0_0
abbrev hiN : Rect S688x4096 := Rect.unit ![336, 0] ![352, 4096] inb_S688x4096_S352x4096_336_0
abbrev loO : Rect S688x2048 := Rect.unit ![0, 0] ![336, 2048] inb_S688x2048_S336x2048_0_0
abbrev hiO : Rect S688x2048 := Rect.unit ![336, 0] ![352, 2048] inb_S688x2048_S352x2048_336_0
abbrev loR : Rect S688x256 := Rect.unit ![0, 0] ![336, 256] inb_S688x256_S336x256_0_0
abbrev hiR : Rect S688x256 := Rect.unit ![336, 0] ![352, 256] inb_S688x256_S352x256_336_0

/-- A load of whole rows, at an index. -/
theorem ld_rows {n w o : ℕ} (X : Vec Ideal ⟨2, ![688, w]⟩ .bf16) (h : ∀ a, (![o, 0] : Fin 2 → ℕ) a + (![n, w] : Fin 2 → ℕ) a ≤ (⟨2, ![688, w]⟩ : Shape).size a)
    (x : Fin n) (k : Fin w) (p : Fin 688) (hp : p.val = o + x.val) :
    View.ld X (Rect.unit (s := ⟨2, ![688, w]⟩) ![o, 0] ![n, w] h) (ix2 x k) = X (ix2 p k) := by
  refine View.ld_unit_apply_of X _ _ _ _ _ fun a => ?_
  match a with
  | 0 => exact hp
  | 1 => exact (Nat.zero_add _).symm

variable (N : Vec Ideal S688x4096 .bf16) (S : Vec Ideal S688x1 .f32) (O G : Vec Ideal S688x2048 .bf16) (A B : Vec Ideal S1x256x4096 .bf16) (U V : Vec Ideal S1x2048x256 .f32)

theorem lo_at (p : Fin 688) (x : Fin 336) (h : p.val = x.val) (y : Fin 256) :
    k0_pay1 (k0_pay8 A U (View.ld N loN) S (View.ld O loO)) (k0_pay9 B V (View.ld N loN) S (View.ld G loO)) (ix2 x y) = blk N S O G A B U V p y := by
  have h' : p.val = 0 + x.val := h.trans (Nat.zero_add _).symm
  have e : (⟨x.val, by omega⟩ : Fin 688) = p := Fin.ext h.symm
  have eN := fun k => ld_rows N inb_S688x4096_S336x4096_0_0 x k p h'
  have eO := fun k => ld_rows O inb_S688x2048_S336x2048_0_0 x k p h'
  have eG := fun k => ld_rows G inb_S688x2048_S336x2048_0_0 x k p h'
  rw [pay1, pay8, pay9, scale, e]
  simp only [gate3, gate4, up5, up6]
  unfold blk mix
  exact congrArg₂ (· + ·)
    (congrArg₂ (· * ·) (congrArg Ideal.logistic (congrArg _ (Finset.sum_congr rfl fun k _ => congrArg (· * _) (eN k)))) (Finset.sum_congr rfl fun k _ => congrArg (· * _) (eO k)))
    (congrArg₂ (· * ·) (congrArg Ideal.logistic (congrArg _ (Finset.sum_congr rfl fun k _ => congrArg (· * _) (eN k)))) (Finset.sum_congr rfl fun k _ => congrArg (· * _) (eG k)))

theorem hi_at (p : Fin 688) (x : Fin 352) (h : p.val = 336 + x.val) (y : Fin 256) :
    k0_pay2 (k0_pay3 A) (k0_pay4 B) (k0_pay5 U) (k0_pay6 V) (View.ld N hiN) S (View.ld O hiO) (View.ld G hiO) (ix2 x y) = blk N S O G A B U V p y := by
  have e : (⟨336 + x.val, by omega⟩ : Fin 688) = p := Fin.ext h.symm
  have eN := fun k => ld_rows N inb_S688x4096_S352x4096_336_0 x k p h
  have eO := fun k => ld_rows O inb_S688x2048_S352x2048_336_0 x k p h
  have eG := fun k => ld_rows G inb_S688x2048_S352x2048_336_0 x k p h
  rw [pay2, e]
  simp only [gate3, gate4, up5, up6]
  unfold blk mix
  exact congrArg₂ (· + ·)
    (congrArg₂ (· * ·) (congrArg Ideal.logistic (congrArg _ (Finset.sum_congr rfl fun k _ => congrArg (· * _) (eN k)))) (Finset.sum_congr rfl fun k _ => congrArg (· * _) (eO k)))
    (congrArg₂ (· * ·) (congrArg Ideal.logistic (congrArg _ (Finset.sum_congr rfl fun k _ => congrArg (· * _) (eN k)))) (Finset.sum_congr rfl fun k _ => congrArg (· * _) (eG k)))

/-- The block's two stores are its two parts. -/
theorem out_at (p : Fin 688) (y : Fin 256) :
    View.canon (Val := Elt Ideal) (s := S688x256) (e := .bf16)
        [⟨hiR, k0_pay2 (k0_pay3 A) (k0_pay4 B) (k0_pay5 U) (k0_pay6 V) (View.ld N hiN) S (View.ld O hiO) (View.ld G hiO)⟩,
          ⟨loR, k0_pay1 (k0_pay8 A U (View.ld N loN) S (View.ld O loO)) (k0_pay9 B V (View.ld N loN) S (View.ld G loO))⟩] (ix2 p y)
      = blk N S O G A B U V p y := by
  have h0' : ((ix2 p y : S688x256.Idx) 0 : ℕ) = p.val := rfl
  have h1' : ((ix2 p y : S688x256.Idx) 1 : ℕ) = y.val := rfl
  canon_tiles z h using Cert.DownIdeal.Block.halves _ _ p y
  · rw [h0'] at h0
    rw [h1'] at h1
    obtain ⟨x, hx⟩ : ∃ x : Fin 352, x.val = (z 0).val := ⟨⟨(z 0).val, (z 0).isLt⟩, rfl⟩
    obtain rfl : z = ix2 x y := Cert.DownIdeal.Block.idx_eq z x y hx h1
    exact hi_at N S O G A B U V p x h0 y
  · rw [h0'] at h0
    rw [h1'] at h1
    obtain ⟨x, hx⟩ : ∃ x : Fin 336, x.val = (z 0).val := ⟨⟨(z 0).val, (z 0).isLt⟩, rfl⟩
    obtain rfl : z = ix2 x y := Cert.DownIdeal.Block.idx_eq z x y hx h1
    exact lo_at N S O G A B U V p x h0 y

variable (m : (ℓ : Loc nD τ sig) → Buf (Elt Ideal) ℓ) (c : Dev nD)

theorem out8 (t : Fin cfg0.N) (p : Fin 688) (y : Fin 256) :
    outsAt0 m c t (ix2 p y) = blk (iblk m c 0 t) (iblk m c 1 t) (iblk m c 2 t) (iblk m c 3 t) (iblk m c 4 t) (iblk m c 5 t) (iblk m c 6 t) (iblk m c 7 t) p y := by
  unfold outsAt0
  frame_out
  exact out_at _ _ _ _ _ _ _ _ p y

end Cert.MergeIdeal.Block

end
-- ==== Proof.Ffn.MergeArray.lean ====
/- The merge's whole result: its blocks read off the arguments, and the array they fill. -/
module

public import proofs.«01_k».proof.Proof.Ffn.MergeBlock
public import proofs.«01_k».proof.Proof.Ffn.UpArray
public import proofs.«01_k».proof.Proof.Gen.MergeIdeal.Value

@[expose] public section

set_option maxRecDepth 16384

noncomputable section

namespace Cert.Ffn

open Idealize.ShloMosaic

/-- The call's further arguments: a branch's rows, the projections' weights with one output a row, and a branch's weights. -/
abbrev Branch : Type := (⟨2, ![8256, 2048]⟩ : Shape).Idx → EReal
abbrev Mains : Type := (⟨3, ![4, 17408, 4096]⟩ : Shape).Idx → EReal
abbrev Mixes : Type := (⟨3, ![4, 2048, 4096]⟩ : Shape).Idx → EReal

/-- The merged branches, entry by entry, for the first layer's weights. -/
def mergeAt (N : Acts) (S : Sums) (O G : Branch) (W : Mains) (U V : Mixes) (a : Fin 8256) (b : Fin 4096) : EReal :=
  mix (inv (S (ix2 a 0))) (∑ k : Fin 4096, N (ix2 a k) * W (ix3 0 ⟨9216 + b.val, by omega⟩ k)) (∑ k : Fin 4096, N (ix2 a k) * W (ix3 0 ⟨13312 + b.val, by omega⟩ k))
    (∑ k : Fin 2048, O (ix2 a k) * U (ix3 0 k b)) (∑ k : Fin 2048, G (ix2 a k) * V (ix3 0 k b))

/-- The same as an array. -/
def mergeArr (N : Acts) (S : Sums) (O G : Branch) (W : Mains) (U V : Mixes) (i : (⟨2, ![8256, 4096]⟩ : Shape).Idx) : EReal := mergeAt N S O G W U V (i 0) (i 1)

theorem mergeArr_of (N : Acts) (S : Sums) (O G : Branch) (W : Mains) (U V : Mixes) (i : (⟨2, ![8256, 4096]⟩ : Shape).Idx) (a : Fin 8256) (b : Fin 4096)
    (h0 : (i 0).val = a.val) (h1 : (i 1).val = b.val) : mergeArr N S O G W U V i = mergeAt N S O G W U V a b := by
  obtain rfl : i 0 = a := Fin.ext h0
  obtain rfl : i 1 = b := Fin.ext h1
  rfl

end Cert.Ffn

namespace Cert.MergeIdeal.Block

open Cert.MergeIdeal Cert.MergeIdeal.Gen Idealize.ShloMosaic Idealize.ShloMosaic.TcCoe Cert.Ffn

variable (m : (ℓ : Loc nD τ sig) → Buf (Elt Ideal) ℓ) (c : Dev nD)

/-- Where each window's block lies. -/
theorem idx : ∀ t : Fin cfg0.N,
    win0_0.index t = ![t.val / 16, 0] ∧ win0_1.index t = ![t.val / 16, 0] ∧ win0_2.index t = ![t.val / 16, 0] ∧ win0_3.index t = ![t.val / 16, 0]
    ∧ win0_4.index t = ![0, 36 + t.val % 16, 0] ∧ win0_5.index t = ![0, 52 + t.val % 16, 0]
    ∧ win0_6.index t = ![0, 0, t.val % 16] ∧ win0_7.index t = ![0, 0, t.val % 16] ∧ win0_8.index t = ![t.val / 16, t.val % 16] := by decide +kernel

theorem row_lt (t : Fin cfg0.N) (x : Fin 688) : 688 * (t.val / 16) + x.val < 8256 := by
  have : t.val < 192 := t.isLt
  omega

theorem col_lt (t : Fin cfg0.N) (y : Fin 256) : 256 * (t.val % 16) + y.val < 4096 := by
  omega

theorem n_read (t : Fin cfg0.N) (x : Fin 688) (k : Fin 4096) :
    (iblk m c 0 t : Vec Ideal S688x4096 .bf16) (ix2 x k) = (m (c.tc.loc main_arg0) : Acts) (ix2 ⟨_, row_lt t x⟩ k) := by
  blk_ext [iblk, V, (idx t).1]

theorem s_read (t : Fin cfg0.N) (x : Fin 688) :
    (iblk m c 1 t : Vec Ideal S688x1 .f32) (ix2 x 0) = (m (c.tc.loc main_arg1) : Sums) (ix2 ⟨_, row_lt t x⟩ 0) := by
  blk_ext [iblk, V, (idx t).2.1]

theorem o_read (t : Fin cfg0.N) (x : Fin 688) (k : Fin 2048) :
    (iblk m c 2 t : Vec Ideal S688x2048 .bf16) (ix2 x k) = (m (c.tc.loc main_arg2) : Branch) (ix2 ⟨_, row_lt t x⟩ k) := by
  blk_ext [iblk, V, (idx t).2.2.1]

theorem g_read (t : Fin cfg0.N) (x : Fin 688) (k : Fin 2048) :
    (iblk m c 3 t : Vec Ideal S688x2048 .bf16) (ix2 x k) = (m (c.tc.loc main_arg3) : Branch) (ix2 ⟨_, row_lt t x⟩ k) := by
  blk_ext [iblk, V, (idx t).2.2.2.1]

theorem a_read (t : Fin cfg0.N) (y : Fin 256) (k : Fin 4096) :
    (iblk m c 4 t : Vec Ideal S1x256x4096 .bf16) (ix3 0 y k) = (m (c.tc.loc main_arg4) : Mains) (ix3 0 ⟨9216 + (256 * (t.val % 16) + y.val), by omega⟩ k) := by
  blk_ext [iblk, V, (idx t).2.2.2.2.1]

theorem b_read (t : Fin cfg0.N) (y : Fin 256) (k : Fin 4096) :
    (iblk m c 5 t : Vec Ideal S1x256x4096 .bf16) (ix3 0 y k) = (m (c.tc.loc main_arg4) : Mains) (ix3 0 ⟨13312 + (256 * (t.val % 16) + y.val), by omega⟩ k) := by
  blk_ext [iblk, V, (idx t).2.2.2.2.2.1]

theorem u_read (t : Fin cfg0.N) (k : Fin 2048) (y : Fin 256) :
    (iblk m c 6 t : Vec Ideal S1x2048x256 .f32) (ix3 0 k y) = (m (c.tc.loc main_arg5) : Mixes) (ix3 0 k ⟨_, col_lt t y⟩) := by
  blk_ext [iblk, V, (idx t).2.2.2.2.2.2.1]

theorem v_read (t : Fin cfg0.N) (k : Fin 2048) (y : Fin 256) :
    (iblk m c 7 t : Vec Ideal S1x2048x256 .f32) (ix3 0 k y) = (m (c.tc.loc main_arg6) : Mixes) (ix3 0 k ⟨_, col_lt t y⟩) := by
  blk_ext [iblk, V, (idx t).2.2.2.2.2.2.2.1]

/-- A point's block is the result's block there. -/
theorem blk_at (t : Fin cfg0.N) (x : Fin 688) (y : Fin 256) :
    blk (iblk m c 0 t) (iblk m c 1 t) (iblk m c 2 t) (iblk m c 3 t) (iblk m c 4 t) (iblk m c 5 t) (iblk m c 6 t) (iblk m c 7 t) x y
      = mergeAt (m (c.tc.loc main_arg0)) (m (c.tc.loc main_arg1)) (m (c.tc.loc main_arg2)) (m (c.tc.loc main_arg3)) (m (c.tc.loc main_arg4)) (m (c.tc.loc main_arg5)) (m (c.tc.loc main_arg6)) ⟨_, row_lt t x⟩ ⟨_, col_lt t y⟩ := by
  unfold blk
  simp only [n_read, s_read, o_read, g_read, a_read, b_read, u_read, v_read]
  rfl

/-- The result array the region leaves. -/
theorem arr : (dats m 0 c).arrAt 8 cfg0.N
    = mergeArr (m (c.tc.loc main_arg0)) (m (c.tc.loc main_arg1)) (m (c.tc.loc main_arg2)) (m (c.tc.loc main_arg3)) (m (c.tc.loc main_arg4)) (m (c.tc.loc main_arg5)) (m (c.tc.loc main_arg6)) := by
  funext i
  have h := (dats m 0 c).arrAt_apply_of_coversWhere 8 (P := fun _ => True)
    (mergeArr (m (c.tc.loc main_arg0)) (m (c.tc.loc main_arg1)) (m (c.tc.loc main_arg2)) (m (c.tc.loc main_arg3)) (m (c.tc.loc main_arg4)) (m (c.tc.loc main_arg5)) (m (c.tc.loc main_arg6)))
    (fun _ => true) (by decide +kernel) (fun t _ y => ?_) (fun j => by blk_simp [Pipeline.Window.cell_apply]; try omega) i
  · rw [h, if_pos trivial]
  · blk_simp
    rw [after0_8]
    have e0 : (((cfg0.win 8).blk t).view.emb y (0 : Fin 2)).val = 688 * (t.val / 16) + (y 0).val := by
      blk_simp [(idx t).2.2.2.2.2.2.2.2]; try omega
    have e1 : (((cfg0.win 8).blk t).view.emb y (1 : Fin 2)).val = 256 * (t.val % 16) + (y 1).val := by
      blk_simp [(idx t).2.2.2.2.2.2.2.2]; try omega
    have y0 : (y (0 : Fin 2)).val < 688 := ((cfg0.win 8).xinj (cfg0.grid.coords t) y (0 : Fin 2)).isLt
    have y1 : (y (1 : Fin 2)).val < 256 := ((cfg0.win 8).xinj (cfg0.grid.coords t) y (1 : Fin 2)).isLt
    have ez : (y : S688x256.Idx) = ix2 (⟨(y (0 : Fin 2)).val, y0⟩ : Fin 688) (⟨(y (1 : Fin 2)).val, y1⟩ : Fin 256) := by
      blk_ext
    exact ((congrArg (outsAt0 m c t) ez).trans ((out8 m c t ⟨_, y0⟩ ⟨_, y1⟩).trans (blk_at m c t ⟨_, y0⟩ ⟨_, y1⟩))).trans
      (mergeArr_of _ _ _ _ _ _ _ _ _ _ e0 e1).symm

end Cert.MergeIdeal.Block

end
-- ==== Proof.Ffn.MergeRef.lean ====
/- The merge reference's result, entry by entry: the norm's scale goes through the gates' sums. -/
module

public import proofs.«01_k».proof.Proof.Gen.RefMergeIdeal.Run
public import proofs.«01_k».proof.Proof.Ffn.MergeArray
public import proofs.«01_k».proof.Proof.Ffn.UpRef

@[expose] public section

set_option maxRecDepth 16384

noncomputable section

namespace Cert.RefMergeIdeal.Entry

open Cert.RefMergeIdeal Cert.RefMergeIdeal.Gen Idealize.ShloMosaic Idealize.ShloMosaic.TcCoe Cert.Ffn
open Cert.RefUpIdeal.Entry (normed normed_at)

/-- A product with 4096 of the first layer's rows. -/
def gates (N : FVec Ideal S8256x4096 .f32) (w : Vec Ideal S1x4096x4096 .bf16) : FVec Ideal S8256x4096 .f32 :=
  Host.dotGeneral dot_S8256x4096_S4096x4096_S8256x4096_1_0_0_1_n_n none N (transpose S4096x4096 [1, 0] (extf .f32 (shapeCast S4096x4096 w shapeCasts_S1x4096x4096_S4096x4096) bitsLt_bf16_f32) transposes_S4096x4096_S4096x4096_1_0)

/-- The rows of the two gates. -/
def rowsA (W : FVec Ideal S4x17408x4096 .bf16) : Vec Ideal S1x4096x4096 .bf16 := extractStridedSlice S1x4096x4096 ![0, 9216, 0] W slices_S4x17408x4096_S1x4096x4096_0_9216_0
def rowsB (W : FVec Ideal S4x17408x4096 .bf16) : Vec Ideal S1x4096x4096 .bf16 := extractStridedSlice S1x4096x4096 ![0, 13312, 0] W slices_S4x17408x4096_S1x4096x4096_0_13312_0

/-- A branch's product with the first layer's weights. -/
def branch (O : FVec Ideal S8256x2048 .bf16) (U : FVec Ideal S4x2048x4096 .f32) : FVec Ideal S8256x4096 .f32 :=
  Host.dotGeneral dot_S8256x2048_S2048x4096_S8256x4096_1_0_0_1_n_n none (extf .f32 O bitsLt_bf16_f32) (shapeCast _ (extractStridedSlice S1x2048x4096 ![0, 0, 0] U slices_S4x2048x4096_S1x2048x4096_0_0_0) shapeCasts_S1x2048x4096_S2048x4096)

/-- The gate of a projection. -/
def open_ (A : FVec Ideal S8256x4096 .f32) : FVec Ideal S8256x4096 .f32 :=
  Host.divf (broadcastInDim S8256x4096 ![] bcast_S_S8256x4096 (constant S_ .f32 0x3F800000#32)) (addf (broadcastInDim S8256x4096 ![] bcast_S_S8256x4096 (constant S_ .f32 0x3F800000#32)) (Host.exp (Host.negf A)))

/-- The two gated branches added. -/
def merged (A B P Q : FVec Ideal S8256x4096 .f32) : FVec Ideal S8256x4096 .bf16 := truncf .bf16 (addf (mulf (open_ A) P) (mulf (open_ B) Q)) bitsLt_bf16_f32

theorem gates_at (N : FVec Ideal S8256x4096 .f32) (w : Vec Ideal S1x4096x4096 .bf16) (a : Fin 8256) (b : Fin 4096) :
    gates N w (ix2 a b) = ∑ k : Fin 4096, N (ix2 a k) * w (ix3 0 b k) := by
  pointwise [gates]

theorem rowsA_at (W : FVec Ideal S4x17408x4096 .bf16) (b k : Fin 4096) : rowsA W (ix3 0 b k) = W (ix3 0 ⟨9216 + b.val, by omega⟩ k) := by
  pointwise [rowsA]

theorem rowsB_at (W : FVec Ideal S4x17408x4096 .bf16) (b k : Fin 4096) : rowsB W (ix3 0 b k) = W (ix3 0 ⟨13312 + b.val, by omega⟩ k) := by
  pointwise [rowsB]

theorem branch_at (O : FVec Ideal S8256x2048 .bf16) (U : FVec Ideal S4x2048x4096 .f32) (a : Fin 8256) (b : Fin 4096) :
    branch O U (ix2 a b) = ∑ k : Fin 2048, O (ix2 a k) * U (ix3 0 k b) := by
  pointwise [branch]

theorem open_at (A : FVec Ideal S8256x4096 .f32) (a : Fin 8256) (b : Fin 4096) : open_ A (ix2 a b) = Ideal.logistic (A (ix2 a b)) := by
  pointwise [open_]
  unfold Ideal.logistic
  rw [← one]

theorem merged_at (A B P Q : FVec Ideal S8256x4096 .f32) (a : Fin 8256) (b : Fin 4096) :
    merged A B P Q (ix2 a b) = open_ A (ix2 a b) * P (ix2 a b) + open_ B (ix2 a b) * Q (ix2 a b) := by
  pointwise [merged]

/-- The reference's result is the call's. -/
theorem value (N : FVec Ideal S8256x4096 .bf16) (S : FVec Ideal S8256x1 .f32) (O G : FVec Ideal S8256x2048 .bf16) (W : FVec Ideal S4x17408x4096 .bf16) (U V : FVec Ideal S4x2048x4096 .f32)
    (hS : ∀ a : Fin 8256, (0 : EReal) ≤ S (ix2 a 0)) :
    merged (gates (normed N S) (rowsA W)) (gates (normed N S) (rowsB W)) (branch O U) (branch G V) = mergeArr N S O G W U V := by
  funext i
  obtain ⟨a, b, rfl⟩ : ∃ a b, i = ix2 a b := ⟨i 0, i 1, by blk_ext⟩
  obtain ⟨h0, ht⟩ := inv_real (hS a)
  have e : ∀ w : Vec Ideal S1x4096x4096 .bf16, gates (normed N S) w (ix2 a b) = Ffn.inv (S (ix2 a 0)) * ∑ k : Fin 4096, N (ix2 a k) * w (ix3 0 b k) := fun w => by
    rw [gates_at, scale_sum h0 ht]
    refine Finset.sum_congr rfl fun k _ => ?_
    rw [normed_at, mul_comm (N (ix2 a k) : EReal), mul_assoc]
  rw [merged_at, open_at, open_at, e, e, branch_at, branch_at]
  simp only [rowsA_at, rowsB_at]
  rfl

variable (m : (ℓ : Loc nD τ sig) → Buf (Elt Ideal) ℓ) (ρ : Dev nD → PrngReg)
  (hS : ∀ (c : Dev nD) (a : Fin 8256), (0 : EReal) ≤ (m (c.tc.loc main_arg1) : FVec Ideal S8256x1 .f32) (ix2 a 0))
include hS

/-- The reference's run: the result entry by entry, the arguments unchanged. -/
theorem run : θ_run (defs (F := Ideal)) (onTc (τ := τ) (main (F := Ideal))) ⟨m, fun _ => 0, ρ⟩ (fun r => ∀ c : Dev nD,
      r.2.mem (c.tc.loc main_v41) = mergeArr (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) :=
  (θ_run defs _ _).mono (fun _ h c => ⟨(h c).1.trans (value _ _ _ _ _ _ _ (hS c)), (h c).2⟩) (Value.run m ρ)

end Cert.RefMergeIdeal.Entry

end
-- ==== Proof.Ffn.MergeClaims.lean ====
/- The merge's claims: the frames, the precondition read, and the value. -/
module

public import proofs.«01_k».proof.Defs
public import proofs.«01_k».proof.Proof.Gen.Merge.Frame
public import proofs.«01_k».proof.Proof.Ffn.MergeRef
public import Idealize.ShloMosaic.Adequacy
public import Idealize.ShloMosaic.Init
public import Idealize.ShloMosaic.Lib.ReduceAll

@[expose] public section

noncomputable section

namespace Cert.Pre_nonnegative_merge

open Idealize.ShloMosaic Cert.Ffn

instance facts : Facts where
  bcast_S_S8256x1 := by decide
  reducesTo_S8256x1_S_d0_1 := by decide
  h_S_ := by decide

instance : Subsingleton S_.Idx := ⟨fun _ _ => funext fun a => a.elim0⟩

/-- Every row's sum of squares is at least zero. -/
theorem nonneg_of (N : FVec Ideal S8256x4096 .bf16) (S : FVec Ideal S8256x1 .f32) (O G : FVec Ideal S8256x2048 .bf16) (W : FVec Ideal S4x17408x4096 .bf16) (U V : FVec Ideal S4x2048x4096 .f32)
    (h : fn (F := Ideal) N S O G W U V = fun _ => 1#1) (a : Fin 8256) : (0 : EReal) ≤ S (ix2 a 0) := by
  have h := congrFun h (fun a : Fin 0 => a.elim0)
  unfold fn at h
  dsimp only at h
  have e := Host.reduce_andi_all _ _ _ _ _ h (ix2 a 0)
  have e' : BitVec.ofBool (decide (Ideal.ofBits .f32 0x00000000#32 ≤ (S (ix2 a 0) : EReal))) = 1#1 := e
  by_contra hn
  rw [show Ideal.ofBits .f32 0x00000000#32 = (0 : EReal) by simp [Ideal.ofBits, Ideal.ieee], decide_eq_false hn] at e'
  exact absurd e' (by decide)

end Cert.Pre_nonnegative_merge

namespace Cert.MergeClaims

open Idealize.ShloMosaic Idealize.SL.Sem Cert.Ffn

theorem merge : Cert.quiescent_Merge (hMerge := Cert.Merge.Gen.facts) := fun m ρ _ =>
  Cert.Merge.Gen.frame (F := Bits) m ρ

theorem mergeIdeal : Cert.quiescent_MergeIdeal (hMergeIdeal := Cert.MergeIdeal.Gen.facts) := fun m ρ _ => Cert.MergeIdeal.Gen.frame (F := Ideal) m ρ

theorem refMergeIdeal : Cert.quiescent_RefMergeIdeal (hRefMergeIdeal := Cert.RefMergeIdeal.Gen.facts) := fun m ρ _ =>
  (θ_run Cert.RefMergeIdeal.defs _ _).mono
    (fun r h => ⟨fun c => (h c).2, sem_eq_zero_of_no_sems (by decide) r.2⟩)
    (Cert.RefMergeIdeal.Value.run (F := Ideal) m ρ)

theorem algebraic : algebraic_MergeIdeal_RefMergeIdeal_pre_nonnegative_merge (hMergeIdeal := Cert.MergeIdeal.Gen.facts) (hRefMergeIdeal := Cert.RefMergeIdeal.Gen.facts)
    (hPre_nonnegative_merge := Cert.Pre_nonnegative_merge.facts) := by
  intro m g m' g' hp ha
  have hS := fun c => Cert.Pre_nonnegative_merge.nonneg_of _ _ _ _ _ _ _ (hp c)
  refine ⟨_, (θ_run _ _ _).mono (fun _ h c => ⟨(h c).1.trans (Cert.MergeIdeal.Block.arr m c), (h c).2⟩) (Cert.MergeIdeal.Value.run_blocks m g), ?_⟩
  refine (θ_run _ _ _).mono (fun _ h c => ⟨(h c).1.trans ?_, (h c).2⟩) (Cert.RefMergeIdeal.Entry.run m' g' fun c => ?_)
  · obtain ⟨-, h1, -⟩ := ha c
    rw [h1]
    exact hS c
  · obtain ⟨h0, h1, h2, h3, h4, h5, h6⟩ := ha c
    rw [h0, h1, h2, h3, h4, h5, h6]

end Cert.MergeClaims

end
-- ==== Proof.Ffn.Cast.lean ====
/- The combined projection's weights, laid out one output a row and the gates' columns left out: the kernel's array and the reference's. -/
module

public import proofs.«01_k».proof.Proof.Ffn.MergeArray
public import proofs.«01_k».proof.Proof.Gen.CastIdeal.Value
public import proofs.«01_k».proof.Proof.Gen.RefCastIdeal.Run

@[expose] public section

set_option maxRecDepth 16384

noncomputable section

namespace Cert.Ffn

open Idealize.ShloMosaic

/-- The stacked weights as given, one output a column. -/
abbrev Given : Type := (⟨3, ![4, 4096, 17456]⟩ : Shape).Idx → EReal

/-- The column an output is taken from: those past the first 5120 lie behind the 48 left out. -/
def col (b : ℕ) : ℕ := if b < 5120 then b else b + 48

theorem col_lt {b : ℕ} (h : b < 17408) : col b < 17456 := by
  unfold col
  split <;> omega

/-- The weights laid out. -/
def castArr (W : Given) (i : (⟨3, ![4, 17408, 4096]⟩ : Shape).Idx) : EReal := W (ix3 (i 0) (i 2) ⟨col (i 1).val, col_lt (i 1).isLt⟩)

theorem castArr_of (W : Given) (i : (⟨3, ![4, 17408, 4096]⟩ : Shape).Idx) (l : Fin 4) (k : Fin 4096) (b : Fin 17456)
    (h0 : (i 0).val = l.val) (h1 : col (i 1).val = b.val) (h2 : (i 2).val = k.val) : castArr W i = W (ix3 l k b) := by
  obtain rfl : i 0 = l := Fin.ext h0
  obtain rfl : i 2 = k := Fin.ext h2
  exact congrArg (fun b => W (ix3 (i 0) (i 2) b)) (Fin.ext h1)

end Cert.Ffn

namespace Cert.CastIdeal.Block

open Cert.CastIdeal Cert.CastIdeal.Gen Idealize.ShloMosaic Idealize.ShloMosaic.TcCoe Cert.Ffn

theorem pay (w : Vec Ideal S1x512x4096 .f32) (x : Fin 512) (k : Fin 4096) : k0_pay1 w (ix3 0 x k) = w (ix3 0 x k) := by
  pointwise [k0_pay1]

variable (m : (ℓ : Loc nD τ sig) → Buf (Elt Ideal) ℓ) (c : Dev nD)

/-- The weights the region finds: the argument with its axes exchanged. -/
theorem V_w : V m c main_v0 = transpose (s := S4x4096x17456) S4x17456x4096 [0, 2, 1] (m (c.tc.loc main_arg0)) transposes_S4x4096x17456_S4x17456x4096_0_2_1 := by
  unfold V hostOps0
  after_results

/-- The row of the weights at which a point's block begins. -/
def from_ (t : ℕ) : ℕ := if t % 34 < 10 then 512 * (t % 34) else 512 * (t % 34) + 48

/-- Where each window's block lies: the first is told by elements. -/
theorem idx : ∀ t : Fin cfg0.N, win0_0.index t = ![t.val / 34, from_ t.val, 0] ∧ win0_1.index t = ![t.val / 34, t.val % 34, 0] := by decide +kernel

theorem lay_lt (t : Fin cfg0.N) : t.val / 34 < 4 := by
  have : t.val < 136 := t.isLt
  omega

theorem row_lt (t : Fin cfg0.N) (x : Fin 512) : from_ t.val + x.val < 17456 := by
  unfold from_
  split <;> omega

theorem w_read (t : Fin cfg0.N) (x : Fin 512) (k : Fin 4096) :
    (iblk m c 0 t : Vec Ideal S1x512x4096 .f32) (ix3 0 x k) = (m (c.tc.loc main_arg0) : Given) (ix3 ⟨_, lay_lt t⟩ k ⟨_, row_lt t x⟩) := by
  have e : ∀ a, (((View.whole main_v0).slice (win0_0.rect t)).emb (ix3 0 x k) a).val = win0_0.index t a + (ix3 (0 : Fin 1) x k a).val := fun a =>
    Pipeline.Window.rect_emb_val_off win0_0 t (ix3 (0 : Fin 1) x k) a
  rw [(idx t).1] at e
  refine Eq.trans (b := V m c main_v0 (ix3 ⟨_, lay_lt t⟩ ⟨_, row_lt t x⟩ k)) ?_ ?_
  · blk_ext [iblk]
    · exact e 0
    · exact e 1
    · exact (e 2).trans (Nat.zero_add _)
  rw [V_w]
  pointwise

theorem out_at (t : Fin cfg0.N) (x : Fin 512) (k : Fin 4096) :
    out0_1 (iblk m c 0 t) (ix3 0 x k) = (m (c.tc.loc main_arg0) : Given) (ix3 ⟨_, lay_lt t⟩ k ⟨_, row_lt t x⟩) := by
  frame_out
  rw [pay, w_read]

/-- The result array the region leaves. -/
theorem arr : (dats m 0 c).arrAt 1 cfg0.N = castArr (m (c.tc.loc main_arg0)) := by
  funext i
  have h := (dats m 0 c).arrAt_apply_of_coversWhere 1 (P := fun _ => True) (castArr (m (c.tc.loc main_arg0)))
    (fun _ => true) (by decide +kernel) (fun t _ y => ?_) (fun j => by blk_simp [Pipeline.Window.cell_apply]; try omega) i
  · rw [h, if_pos trivial]
  · blk_simp
    rw [after0_1]
    have y0 : (y (0 : Fin 3)).val < 1 := ((cfg0.win 1).xinj (cfg0.grid.coords t) y (0 : Fin 3)).isLt
    have y1 : (y (1 : Fin 3)).val < 512 := ((cfg0.win 1).xinj (cfg0.grid.coords t) y (1 : Fin 3)).isLt
    have y2 : (y (2 : Fin 3)).val < 4096 := ((cfg0.win 1).xinj (cfg0.grid.coords t) y (2 : Fin 3)).isLt
    have e0 : (((cfg0.win 1).blk t).view.emb y (0 : Fin 3)).val = t.val / 34 := by
      blk_simp [(idx t).2]; try omega
    have e1 : (((cfg0.win 1).blk t).view.emb y (1 : Fin 3)).val = 512 * (t.val % 34) + (y 1).val := by
      blk_simp [(idx t).2]; try omega
    have e2 : (((cfg0.win 1).blk t).view.emb y (2 : Fin 3)).val = (y 2).val := by
      blk_simp [(idx t).2]; try omega
    have ec : col (((cfg0.win 1).blk t).view.emb y (1 : Fin 3)).val = from_ t.val + (y 1).val := by
      rw [e1]
      unfold col from_
      split <;> split <;> omega
    have ez : (y : S1x512x4096.Idx) = ix3 (0 : Fin 1) (⟨(y (1 : Fin 3)).val, y1⟩ : Fin 512) (⟨(y (2 : Fin 3)).val, y2⟩ : Fin 4096) := by
      blk_ext
    exact ((congrArg (out0_1 (iblk m c 0 t)) ez).trans (out_at m c t ⟨_, y1⟩ ⟨_, y2⟩)).trans (castArr_of _ _ _ _ _ e0 ec e2).symm

end Cert.CastIdeal.Block

namespace Cert.RefCastIdeal.Entry

open Cert.RefCastIdeal Cert.RefCastIdeal.Gen Idealize.ShloMosaic Idealize.ShloMosaic.TcCoe Cert.Ffn

/-- The columns kept, and their layout. -/
def laid (W : FVec Ideal S4x4096x17456 .f32) : FVec Ideal S4x17408x4096 .bf16 :=
  truncf .bf16 (transpose S4x17408x4096 [0, 2, 1] (concatenate S4x4096x17408 2 [⟨S4x4096x5120, (extractStridedSlice S4x4096x5120 ![0, 0, 0] W slices_S4x4096x17456_S4x4096x5120_0_0_0)⟩, ⟨S4x4096x12288, (extractStridedSlice S4x4096x12288 ![0, 0, 5168] W slices_S4x4096x17456_S4x4096x12288_0_0_5168)⟩] concatenates_S4x4096x5120_S4x4096x12288_S4x4096x17408_d2) transposes_S4x4096x17408_S4x17408x4096_0_2_1) bitsLt_bf16_f32

/-- The reference's result is the call's. -/
theorem value (W : FVec Ideal S4x4096x17456 .f32) : laid W = castArr W := by
  funext i
  obtain ⟨l, b, k, rfl⟩ : ∃ l b k, i = ix3 l b k := ⟨i 0, i 1, i 2, by blk_ext⟩
  refine Eq.trans (b := if h : b.val < 5120 then W (ix3 l k ⟨b.val, by omega⟩) else W (ix3 l k ⟨5168 + (b.val - 5120), by omega⟩)) (by pointwise [laid]) ?_
  unfold castArr
  split
  · rename_i h
    exact congrArg (fun j => W (ix3 l k j)) (Fin.ext (if_pos h).symm)
  · rename_i h
    exact congrArg (fun j => W (ix3 l k j)) (Fin.ext ((by omega : 5168 + (b.val - 5120) = b.val + 48).trans (if_neg h).symm))

end Cert.RefCastIdeal.Entry

end
-- ==== Proof.Ffn.NormMath.lean ====
/- The last norm's formula, and its result over the prompt's rows and over the sample group's. -/
module

public import proofs.«01_k».proof.Proof.Ffn.DownArray

@[expose] public section

noncomputable section

namespace Cert.Ffn

open Idealize.ShloMosaic

/-- An entry over its row's root mean square, times the weight, from the row's sum of squares. -/
def rms (x s g : EReal) : EReal := x * Ideal.rsqrt (Ideal.div s (Ideal.ofBits .f32 0x45800000#32) + Ideal.ofBits .f32 0x358637BD#32) * g

/-- The normed residual, entry by entry. -/
def rmsAt (H : Res) (g : Norm) (a : Fin 8256) (b : Fin 4096) : EReal := rms (H (ix2 a b)) (∑ k : Fin 4096, H (ix2 a k) * H (ix2 a k)) (g (ix1 b))

/-- The `n` rows of it from row `o` on. -/
def rmsArr (n o : ℕ) (hn : o + n ≤ 8256) (H : Res) (g : Norm) (i : (⟨2, ![n, 4096]⟩ : Shape).Idx) : EReal :=
  rmsAt H g ⟨o + (i 0).val, Nat.lt_of_lt_of_le (Nat.add_lt_add_left (i 0).isLt o) hn⟩ (i 1)

theorem rmsArr_of (n o : ℕ) (hn : o + n ≤ 8256) (H : Res) (g : Norm) (i : (⟨2, ![n, 4096]⟩ : Shape).Idx) (a : Fin 8256) (b : Fin 4096)
    (h0 : o + (i 0).val = a.val) (h1 : (i 1).val = b.val) : rmsArr n o hn H g i = rmsAt H g a b := by
  obtain rfl : i 1 = b := Fin.ext h1
  exact congrArg (fun a => rmsAt H g a (i 1)) (Fin.ext h0)

end Cert.Ffn

end
-- ==== Proof.Ffn.NormPrompt.lean ====
/- The last norm over the prompt's rows: the kernel's array and the reference's, entry by entry. -/
module

public import proofs.«01_k».proof.Proof.Ffn.NormMath
public import proofs.«01_k».proof.Proof.Gen.NormIdeal.Value
public import proofs.«01_k».proof.Proof.Gen.RefNormIdeal.Run

@[expose] public section

set_option maxRecDepth 16384

noncomputable section

namespace Cert.NormIdeal.Block

open Cert.NormIdeal Cert.NormIdeal.Gen Idealize.ShloMosaic Idealize.ShloMosaic.TcCoe Cert.Ffn

theorem pay (H : Vec Ideal S256x4096 .f32) (G : Vec Ideal S1x4096 .f32) (x : Fin 256) (y : Fin 4096) :
    k0_pay1 H G (ix2 x y) = rms (H (ix2 x y)) (∑ k : Fin 4096, H (ix2 x k) * H (ix2 x k)) (G (ix2 0 y)) := by
  pointwise [k0_pay1]
  rfl

variable (m : (ℓ : Loc nD τ sig) → Buf (Elt Ideal) ℓ) (c : Dev nD)

/-- The weight the region finds: the argument as one row. -/
theorem V_g : V m c main_v0 = shapeCast (s := S4096) S1x4096 (m (c.tc.loc main_arg1)) shapeCasts_S4096_S1x4096 := by
  unfold V hostOps0
  after_results
  rfl

/-- Where each window's block lies. -/
theorem idx : ∀ t : Fin cfg0.N, win0_0.index t = ![t.val, 0] ∧ win0_1.index t = ![0, 0] ∧ win0_2.index t = ![t.val, 0] := by decide +kernel

theorem row_lt (t : Fin cfg0.N) (x : Fin 256) : 256 * t.val + x.val < 8256 := by
  have : t.val < 32 := t.isLt
  omega

theorem h_read (t : Fin cfg0.N) (x : Fin 256) (k : Fin 4096) :
    (X0_0 m c t : Vec Ideal S256x4096 .f32) (ix2 x k) = (m (c.tc.loc main_arg0) : Res) (ix2 ⟨_, row_lt t x⟩ k) := by
  rw [← V_main_arg0 m c]
  unfold X0_0 Pipeline.Window.fill
  rw [dif_pos (moved0_0 t _)]
  blk_ext [iblk, (idx t).1]

theorem g_read (t : Fin cfg0.N) (y : Fin 4096) :
    (iblk m c 1 t : Vec Ideal S1x4096 .f32) (ix2 0 y) = (m (c.tc.loc main_arg1) : Norm) (ix1 y) := by
  refine Eq.trans (b := V m c main_v0 (ix2 0 y)) (by blk_ext [iblk, (idx t).2.1]) ?_
  rw [V_g]
  pointwise

/-- A point's block is the result's block there. -/
theorem out_at (t : Fin cfg0.N) (x : Fin 256) (y : Fin 4096) :
    outsAt0 m c t (ix2 x y) = rmsAt (m (c.tc.loc main_arg0)) (m (c.tc.loc main_arg1)) ⟨_, row_lt t x⟩ y := by
  unfold outsAt0
  frame_out
  rw [pay, g_read]
  simp only [h_read]
  rfl

/-- The result array the region leaves. -/
theorem arr : (dats m 0 c).arrAt 2 cfg0.N = rmsArr 8192 0 (by omega) (m (c.tc.loc main_arg0)) (m (c.tc.loc main_arg1)) := by
  funext i
  have h := (dats m 0 c).arrAt_apply_of_coversWhere 2 (P := fun _ => True) (rmsArr 8192 0 (by omega) (m (c.tc.loc main_arg0)) (m (c.tc.loc main_arg1)))
    (fun _ => true) (by decide +kernel) (fun t _ y => ?_) (fun j => by blk_simp [Pipeline.Window.cell_apply]; try omega) i
  · rw [h, if_pos trivial]
  · blk_simp
    rw [after0_2]
    have e0 : 0 + (((cfg0.win 2).blk t).view.emb y (0 : Fin 2)).val = 256 * t.val + (y 0).val := by
      blk_simp [(idx t).2.2]; try omega
    have e1 : (((cfg0.win 2).blk t).view.emb y (1 : Fin 2)).val = (y 1).val := by
      blk_simp [(idx t).2.2]; try omega
    have y0 : (y (0 : Fin 2)).val < 256 := ((cfg0.win 2).xinj (cfg0.grid.coords t) y (0 : Fin 2)).isLt
    have y1 : (y (1 : Fin 2)).val < 4096 := ((cfg0.win 2).xinj (cfg0.grid.coords t) y (1 : Fin 2)).isLt
    have ez : (y : S256x4096.Idx) = ix2 (⟨(y (0 : Fin 2)).val, y0⟩ : Fin 256) (⟨(y (1 : Fin 2)).val, y1⟩ : Fin 4096) := by
      blk_ext
    exact ((congrArg (outsAt0 m c t) ez).trans (out_at m c t ⟨_, y0⟩ ⟨_, y1⟩)).trans (rmsArr_of _ _ _ _ _ _ _ _ e0 e1).symm

end Cert.NormIdeal.Block

namespace Cert.RefNormIdeal.Entry

open Cert.RefNormIdeal Cert.RefNormIdeal.Gen Idealize.ShloMosaic Idealize.ShloMosaic.TcCoe Cert.Ffn

/-- The rows normed. -/
def rows (H : FVec Ideal S8256x4096 .f32) : FVec Ideal S8192x4096 .f32 := extractStridedSlice S8192x4096 ![0, 0] H slices_S8256x4096_S8192x4096_0_0

/-- The norm of rows, weighted. -/
def normed (X : FVec Ideal S8192x4096 .f32) (g : FVec Ideal S4096 .f32) : FVec Ideal S8192x4096 .f32 :=
  mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))

theorem rows_at (H : FVec Ideal S8256x4096 .f32) (a : Fin 8192) (k : Fin 4096) : rows H (ix2 a k) = H (ix2 ⟨0 + a.val, by omega⟩ k) := by
  pointwise [rows]

theorem normed_at (X : FVec Ideal S8192x4096 .f32) (g : FVec Ideal S4096 .f32) (a : Fin 8192) (b : Fin 4096) :
    normed X g (ix2 a b) = rms (X (ix2 a b)) (∑ k : Fin 4096, X (ix2 a k) * X (ix2 a k)) (g (ix1 b)) := by
  pointwise [normed]
  rfl

/-- The reference's result is the call's. -/
theorem value (H : FVec Ideal S8256x4096 .f32) (g : FVec Ideal S4096 .f32) : normed (rows H) g = rmsArr 8192 0 (by omega) H g := by
  funext i
  obtain ⟨a, b, rfl⟩ : ∃ a b, i = ix2 a b := ⟨i 0, i 1, by blk_ext⟩
  rw [normed_at]
  simp only [rows_at]
  rfl

end Cert.RefNormIdeal.Entry

end
-- ==== Proof.Ffn.NormSample.lean ====
/- The last norm over the sample group's rows: the kernel's array and the reference's, entry by entry. -/
module

public import proofs.«01_k».proof.Proof.Ffn.NormMath
public import proofs.«01_k».proof.Proof.Gen.NormSIdeal.Value
public import proofs.«01_k».proof.Proof.Gen.RefNormSIdeal.Run

@[expose] public section

set_option maxRecDepth 16384

noncomputable section

namespace Cert.NormSIdeal.Block

open Cert.NormSIdeal Cert.NormSIdeal.Gen Idealize.ShloMosaic Idealize.ShloMosaic.TcCoe Cert.Ffn

theorem pay (H : Vec Ideal S64x4096 .f32) (G : Vec Ideal S1x4096 .f32) (x : Fin 64) (y : Fin 4096) :
    k0_pay1 H G (ix2 x y) = rms (H (ix2 x y)) (∑ k : Fin 4096, H (ix2 x k) * H (ix2 x k)) (G (ix2 0 y)) := by
  pointwise [k0_pay1]
  rfl

variable (m : (ℓ : Loc nD τ sig) → Buf (Elt Ideal) ℓ) (c : Dev nD)

/-- The weight the region finds: the argument as one row. -/
theorem V_g : V m c main_v0 = shapeCast (s := S4096) S1x4096 (m (c.tc.loc main_arg1)) shapeCasts_S4096_S1x4096 := by
  unfold V hostOps0
  after_results
  rfl

/-- Where each window's block lies. -/
theorem idx : ∀ t : Fin cfg0.N, win0_0.index t = ![128 + t.val, 0] ∧ win0_1.index t = ![0, 0] ∧ win0_2.index t = ![t.val, 0] := by decide +kernel

theorem row_lt (t : Fin cfg0.N) (x : Fin 64) : 8192 + 64 * t.val + x.val < 8256 := by
  have : t.val < 1 := t.isLt
  omega

theorem h_read (t : Fin cfg0.N) (x : Fin 64) (k : Fin 4096) :
    (iblk m c 0 t : Vec Ideal S64x4096 .f32) (ix2 x k) = (m (c.tc.loc main_arg0) : Res) (ix2 ⟨_, row_lt t x⟩ k) := by
  rw [← V_main_arg0 m c]
  blk_ext [iblk, (idx t).1]

theorem g_read (t : Fin cfg0.N) (y : Fin 4096) :
    (iblk m c 1 t : Vec Ideal S1x4096 .f32) (ix2 0 y) = (m (c.tc.loc main_arg1) : Norm) (ix1 y) := by
  refine Eq.trans (b := V m c main_v0 (ix2 0 y)) (by blk_ext [iblk, (idx t).2.1]) ?_
  rw [V_g]
  pointwise

/-- A point's block is the result's block there. -/
theorem out_at (t : Fin cfg0.N) (x : Fin 64) (y : Fin 4096) :
    (out0_2 (iblk m c 0 t) (iblk m c 1 t)) (ix2 x y) = rmsAt (m (c.tc.loc main_arg0)) (m (c.tc.loc main_arg1)) ⟨_, row_lt t x⟩ y := by
  frame_out
  rw [pay, g_read]
  simp only [h_read]
  rfl

/-- The result array the region leaves. -/
theorem arr : (dats m 0 c).arrAt 2 cfg0.N = rmsArr 64 8192 (by omega) (m (c.tc.loc main_arg0)) (m (c.tc.loc main_arg1)) := by
  funext i
  have h := (dats m 0 c).arrAt_apply_of_coversWhere 2 (P := fun _ => True) (rmsArr 64 8192 (by omega) (m (c.tc.loc main_arg0)) (m (c.tc.loc main_arg1)))
    (fun _ => true) (by decide +kernel) (fun t _ y => ?_) (fun j => by blk_simp [Pipeline.Window.cell_apply]; try omega) i
  · rw [h, if_pos trivial]
  · blk_simp
    rw [after0_2]
    have e0 : 8192 + (((cfg0.win 2).blk t).view.emb y (0 : Fin 2)).val = 8192 + 64 * t.val + (y 0).val := by
      blk_simp [(idx t).2.2]; try omega
    have e1 : (((cfg0.win 2).blk t).view.emb y (1 : Fin 2)).val = (y 1).val := by
      blk_simp [(idx t).2.2]; try omega
    have y0 : (y (0 : Fin 2)).val < 64 := ((cfg0.win 2).xinj (cfg0.grid.coords t) y (0 : Fin 2)).isLt
    have y1 : (y (1 : Fin 2)).val < 4096 := ((cfg0.win 2).xinj (cfg0.grid.coords t) y (1 : Fin 2)).isLt
    have ez : (y : S64x4096.Idx) = ix2 (⟨(y (0 : Fin 2)).val, y0⟩ : Fin 64) (⟨(y (1 : Fin 2)).val, y1⟩ : Fin 4096) := by
      blk_ext
    exact ((congrArg ((out0_2 (iblk m c 0 t) (iblk m c 1 t))) ez).trans (out_at m c t ⟨_, y0⟩ ⟨_, y1⟩)).trans (rmsArr_of _ _ _ _ _ _ _ _ e0 e1).symm

end Cert.NormSIdeal.Block

namespace Cert.RefNormSIdeal.Entry

open Cert.RefNormSIdeal Cert.RefNormSIdeal.Gen Idealize.ShloMosaic Idealize.ShloMosaic.TcCoe Cert.Ffn

/-- The rows normed. -/
def rows (H : FVec Ideal S8256x4096 .f32) : FVec Ideal S64x4096 .f32 := extractStridedSlice S64x4096 ![8192, 0] H slices_S8256x4096_S64x4096_8192_0

/-- The norm of rows, weighted. -/
def normed (X : FVec Ideal S64x4096 .f32) (g : FVec Ideal S4096 .f32) : FVec Ideal S64x4096 .f32 :=
  mulf (mulf X (broadcastInDim S64x4096 ![0, 1] bcast_S64x1_S64x4096_0_1 (Host.rsqrt (addf (Host.divf (broadcastInDim S64x1 ![0] bcast_S64_S64x1_0 (Host.reduceAdd (mulf X X) (constant S_ .f32 0x00000000#32) reducesTo_S64x4096_S64_d1 h_S_)) (broadcastInDim S64x1 ![] bcast_S_S64x1 (constant S_ .f32 0x45800000#32))) (broadcastInDim S64x1 ![] bcast_S_S64x1 (constant S_ .f32 0x358637BD#32)))))) (broadcastInDim S64x4096 ![0, 1] bcast_S1x4096_S64x4096_0_1 (broadcastInDim S1x4096 ![1] bcast_S4096_S1x4096_1 g))

theorem rows_at (H : FVec Ideal S8256x4096 .f32) (a : Fin 64) (k : Fin 4096) : rows H (ix2 a k) = H (ix2 ⟨8192 + a.val, by omega⟩ k) := by
  pointwise [rows]

theorem normed_at (X : FVec Ideal S64x4096 .f32) (g : FVec Ideal S4096 .f32) (a : Fin 64) (b : Fin 4096) :
    normed X g (ix2 a b) = rms (X (ix2 a b)) (∑ k : Fin 4096, X (ix2 a k) * X (ix2 a k)) (g (ix1 b)) := by
  pointwise [normed]
  rfl

/-- The reference's result is the call's. -/
theorem value (H : FVec Ideal S8256x4096 .f32) (g : FVec Ideal S4096 .f32) : normed (rows H) g = rmsArr 64 8192 (by omega) H g := by
  funext i
  obtain ⟨a, b, rfl⟩ : ∃ a b, i = ix2 a b := ⟨i 0, i 1, by blk_ext⟩
  rw [normed_at]
  simp only [rows_at]
  rfl

end Cert.RefNormSIdeal.Entry

end
-- ==== Proof.Ffn.EdgeClaims.lean ====
/- The claims of the weights' layout and of the last norm: the frames and the values. -/
module

public import proofs.«01_k».proof.Defs
public import proofs.«01_k».proof.Proof.Gen.Cast.Frame
public import proofs.«01_k».proof.Proof.Gen.Norm.Frame
public import proofs.«01_k».proof.Proof.Gen.NormS.Frame
public import proofs.«01_k».proof.Proof.Ffn.Cast
public import proofs.«01_k».proof.Proof.Ffn.NormPrompt
public import proofs.«01_k».proof.Proof.Ffn.NormSample
public import Idealize.ShloMosaic.Adequacy
public import Idealize.ShloMosaic.Init

@[expose] public section

noncomputable section

namespace Cert.EdgeClaims

open Idealize.ShloMosaic Idealize.SL.Sem Cert.Ffn

theorem cast : Cert.quiescent_Cast (hCast := Cert.Cast.Gen.facts) := fun m ρ _ => Cert.Cast.Gen.frame (F := Bits) m ρ

theorem castIdeal : Cert.quiescent_CastIdeal (hCastIdeal := Cert.CastIdeal.Gen.facts) := fun m ρ _ => Cert.CastIdeal.Gen.frame (F := Ideal) m ρ

theorem refCastIdeal : Cert.quiescent_RefCastIdeal (hRefCastIdeal := Cert.RefCastIdeal.Gen.facts) := fun m ρ _ =>
  (θ_run Cert.RefCastIdeal.defs _ _).mono
    (fun r h => ⟨fun c => (h c).2, sem_eq_zero_of_no_sems (by decide) r.2⟩)
    (Cert.RefCastIdeal.Value.run (F := Ideal) m ρ)

theorem algebraicCast : algebraic_CastIdeal_RefCastIdeal (hCastIdeal := Cert.CastIdeal.Gen.facts) (hRefCastIdeal := Cert.RefCastIdeal.Gen.facts) := by
  intro m g m' g' _ ha
  refine ⟨_, (θ_run _ _ _).mono (fun _ h c => ⟨(h c).1.trans (Cert.CastIdeal.Block.arr m c), (h c).2⟩) (Cert.CastIdeal.Value.run_blocks m g), ?_⟩
  refine (θ_run _ _ _).mono (fun _ h c => ⟨((h c).1.trans (Cert.RefCastIdeal.Entry.value _)).trans ?_, (h c).2⟩) (Cert.RefCastIdeal.Value.run (F := Ideal) m' g')
  rw [ha c]

theorem norm : Cert.quiescent_Norm (hNorm := Cert.Norm.Gen.facts) := fun m ρ _ => Cert.Norm.Gen.frame (F := Bits) m ρ

theorem normIdeal : Cert.quiescent_NormIdeal (hNormIdeal := Cert.NormIdeal.Gen.facts) := fun m ρ _ => Cert.NormIdeal.Gen.frame (F := Ideal) m ρ

theorem refNormIdeal : Cert.quiescent_RefNormIdeal (hRefNormIdeal := Cert.RefNormIdeal.Gen.facts) := fun m ρ _ =>
  (θ_run Cert.RefNormIdeal.defs _ _).mono
    (fun r h => ⟨fun c => (h c).2, sem_eq_zero_of_no_sems (by decide) r.2⟩)
    (Cert.RefNormIdeal.Value.run (F := Ideal) m ρ)

theorem algebraicNorm : algebraic_NormIdeal_RefNormIdeal (hNormIdeal := Cert.NormIdeal.Gen.facts) (hRefNormIdeal := Cert.RefNormIdeal.Gen.facts) := by
  intro m g m' g' _ ha
  refine ⟨_, (θ_run _ _ _).mono (fun _ h c => ⟨(h c).1.trans (Cert.NormIdeal.Block.arr m c), (h c).2⟩) (Cert.NormIdeal.Value.run_blocks m g), ?_⟩
  refine (θ_run _ _ _).mono (fun _ h c => ⟨((h c).1.trans (Cert.RefNormIdeal.Entry.value _ _)).trans ?_, (h c).2⟩) (Cert.RefNormIdeal.Value.run (F := Ideal) m' g')
  obtain ⟨h0, h1⟩ := ha c
  rw [h0, h1]

theorem normS : Cert.quiescent_NormS (hNormS := Cert.NormS.Gen.facts) := fun m ρ _ => Cert.NormS.Gen.frame (F := Bits) m ρ

theorem normSIdeal : Cert.quiescent_NormSIdeal (hNormSIdeal := Cert.NormSIdeal.Gen.facts) := fun m ρ _ => Cert.NormSIdeal.Gen.frame (F := Ideal) m ρ

theorem refNormSIdeal : Cert.quiescent_RefNormSIdeal (hRefNormSIdeal := Cert.RefNormSIdeal.Gen.facts) := fun m ρ _ =>
  (θ_run Cert.RefNormSIdeal.defs _ _).mono
    (fun r h => ⟨fun c => (h c).2, sem_eq_zero_of_no_sems (by decide) r.2⟩)
    (Cert.RefNormSIdeal.Value.run (F := Ideal) m ρ)

theorem algebraicNormS : algebraic_NormSIdeal_RefNormSIdeal (hNormSIdeal := Cert.NormSIdeal.Gen.facts) (hRefNormSIdeal := Cert.RefNormSIdeal.Gen.facts) := by
  intro m g m' g' _ ha
  refine ⟨_, (θ_run _ _ _).mono (fun _ h c => ⟨(h c).1.trans (Cert.NormSIdeal.Block.arr m c), (h c).2⟩) (Cert.NormSIdeal.Value.run_blocks m g), ?_⟩
  refine (θ_run _ _ _).mono (fun _ h c => ⟨((h c).1.trans (Cert.RefNormSIdeal.Entry.value _ _)).trans ?_, (h c).2⟩) (Cert.RefNormSIdeal.Value.run (F := Ideal) m' g')
  obtain ⟨h0, h1⟩ := ha c
  rw [h0, h1]

end Cert.EdgeClaims

end
-- ==== Proof.lean ====
/- The certificate: the witnesses of the programs' stated facts, and the claims. -/
module

public import proofs.«01_k».proof.Defs
public import proofs.«01_k».proof.Proof.Basics
public import proofs.«01_k».proof.Proof.Algebraic
public import proofs.«01_k».proof.Proof.Ffn.UpClaims
public import proofs.«01_k».proof.Proof.Ffn.DownClaims
public import proofs.«01_k».proof.Proof.Ffn.MergeClaims
public import proofs.«01_k».proof.Proof.Ffn.EdgeClaims
public import proofs.«01_k».proof.Proof.Gen.Kernel
public import proofs.«01_k».proof.Proof.Gen.KernelIdeal
public import proofs.«01_k».proof.Proof.Gen.ReferenceIdeal
public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.RefUpIdeal
public import proofs.«01_k».proof.Proof.Gen.RefUpIdeal.Run
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.RefDownIdeal
public import proofs.«01_k».proof.Proof.Gen.RefDownIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.RefMergeIdeal
public import proofs.«01_k».proof.Proof.Gen.RefMergeIdeal.Run
public import proofs.«01_k».proof.Proof.Gen.Cast
public import proofs.«01_k».proof.Proof.Gen.Cast.Frame
public import proofs.«01_k».proof.Proof.Gen.CastIdeal
public import proofs.«01_k».proof.Proof.Gen.CastIdeal.Value
public import proofs.«01_k».proof.Proof.Gen.RefCastIdeal
public import proofs.«01_k».proof.Proof.Gen.RefCastIdeal.Run
public import proofs.«01_k».proof.Proof.Gen.Norm
public import proofs.«01_k».proof.Proof.Gen.Norm.Frame
public import proofs.«01_k».proof.Proof.Gen.NormIdeal
public import proofs.«01_k».proof.Proof.Gen.NormIdeal.Value
public import proofs.«01_k».proof.Proof.Gen.RefNormIdeal
public import proofs.«01_k».proof.Proof.Gen.RefNormIdeal.Run
public import proofs.«01_k».proof.Proof.Gen.NormS
public import proofs.«01_k».proof.Proof.Gen.NormS.Frame
public import proofs.«01_k».proof.Proof.Gen.NormSIdeal
public import proofs.«01_k».proof.Proof.Gen.NormSIdeal.Value
public import proofs.«01_k».proof.Proof.Gen.RefNormSIdeal
public import proofs.«01_k».proof.Proof.Gen.RefNormSIdeal.Run

@[expose] public section

noncomputable section

namespace Cert.Proof

theorem claim : Cert.Claim := ⟨Cert.Kernel.Gen.facts, Cert.KernelIdeal.Gen.facts, Cert.ReferenceIdeal.Gen.facts, Cert.Up.Gen.facts, Cert.UpIdeal.Gen.facts, Cert.RefUpIdeal.Gen.facts,
  Cert.Down.Gen.facts, Cert.DownIdeal.Gen.facts, Cert.RefDownIdeal.Gen.facts,
  Cert.Merge.Gen.facts, Cert.MergeIdeal.Gen.facts, Cert.RefMergeIdeal.Gen.facts,
  Cert.Cast.Gen.facts, Cert.CastIdeal.Gen.facts, Cert.RefCastIdeal.Gen.facts,
  Cert.Norm.Gen.facts, Cert.NormIdeal.Gen.facts, Cert.RefNormIdeal.Gen.facts,
  Cert.NormS.Gen.facts, Cert.NormSIdeal.Gen.facts, Cert.RefNormSIdeal.Gen.facts,
  Cert.Pre_finite.facts, Cert.Pre_nonnegative.facts, Cert.Pre_nonnegative_merge.facts,
  Basics.kernel, Basics.kernelIdeal, fun m g _ => Basics.kernelIdeal m g trivial, Basics.referenceIdeal, fun m g _ => Basics.referenceIdeal m g trivial,
  UpClaims.up, UpClaims.upIdeal, fun m g _ => UpClaims.upIdeal m g trivial, UpClaims.refUpIdeal, fun m g _ => UpClaims.refUpIdeal m g trivial,
  DownClaims.down, DownClaims.downIdeal, DownClaims.refDownIdeal,
  MergeClaims.merge, MergeClaims.mergeIdeal, fun m g _ => MergeClaims.mergeIdeal m g trivial, MergeClaims.refMergeIdeal, fun m g _ => MergeClaims.refMergeIdeal m g trivial,
  EdgeClaims.cast, EdgeClaims.castIdeal, EdgeClaims.refCastIdeal,
  EdgeClaims.norm, EdgeClaims.normIdeal, EdgeClaims.refNormIdeal,
  EdgeClaims.normS, EdgeClaims.normSIdeal, EdgeClaims.refNormSIdeal,
  Basics.preserves, Algebraic.algebraic, trivial, UpClaims.algebraic, trivial, DownClaims.algebraic,
  trivial, MergeClaims.algebraic, trivial, EdgeClaims.algebraicCast, trivial, EdgeClaims.algebraicNorm, trivial, EdgeClaims.algebraicNormS⟩

end Cert.Proof

end
